-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "qk" .f32 0x3E38AA3B#32 (((8 * (Real.log 2))⁻¹ : ℝ) : EReal)
  ∧ IdealRules.named_const.Statement Cert.Kernel2Ideal.κ "iw" .f32 0x3D3504F3#32 (((8 * (Real.sqrt 8))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v47_0)) (v1 : (c : Dev Cert.Kernel2Ideal.nD) → Buf (Elt Ideal) ((c.tc : Thread Cert.Kernel2Ideal.nD Cert.Kernel2Ideal.τ).loc Cert.Kernel2Ideal.main_v47_1)) (v2 : (c : Dev Cert.Kernel2Ideal.nD) → Buf (Elt Ideal) ((c.tc : Thread Cert.Kernel2Ideal.nD Cert.Kernel2Ideal.τ).loc Cert.Kernel2Ideal.main_v47_2)) (v3 : (c : Dev Cert.Kernel2Ideal.nD) → Buf (Elt Ideal) ((c.tc : Thread Cert.Kernel2Ideal.nD Cert.Kernel2Ideal.τ).loc Cert.Kernel2Ideal.main_v47_3)) (v4 : (c : Dev Cert.Kernel2Ideal.nD) → Buf (Elt Ideal) ((c.tc : Thread Cert.Kernel2Ideal.nD Cert.Kernel2Ideal.τ).loc Cert.Kernel2Ideal.main_v47_4)) (v5 : (c : Dev Cert.Kernel2Ideal.nD) → Buf (Elt Ideal) ((c.tc : Thread Cert.Kernel2Ideal.nD Cert.Kernel2Ideal.τ).loc Cert.Kernel2Ideal.main_v47_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v47_0) = v0 c
          ∧ r.2.mem ((c.tc : Thread Cert.Kernel2Ideal.nD Cert.Kernel2Ideal.τ).loc Cert.Kernel2Ideal.main_v47_1) = v1 c
          ∧ r.2.mem ((c.tc : Thread Cert.Kernel2Ideal.nD Cert.Kernel2Ideal.τ).loc Cert.Kernel2Ideal.main_v47_2) = v2 c
          ∧ r.2.mem ((c.tc : Thread Cert.Kernel2Ideal.nD Cert.Kernel2Ideal.τ).loc Cert.Kernel2Ideal.main_v47_3) = v3 c
          ∧ r.2.mem ((c.tc : Thread Cert.Kernel2Ideal.nD Cert.Kernel2Ideal.τ).loc Cert.Kernel2Ideal.main_v47_4) = v4 c
          ∧ r.2.mem ((c.tc : Thread Cert.Kernel2Ideal.nD Cert.Kernel2Ideal.τ).loc Cert.Kernel2Ideal.main_v47_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v182) = v0 c
          ∧ r.2.mem ((c.tc : Thread Cert.Reference2Ideal.nD Cert.Reference2Ideal.τ).loc Cert.Reference2Ideal.main_v183) = v1 c
          ∧ r.2.mem ((c.tc : Thread Cert.Reference2Ideal.nD Cert.Reference2Ideal.τ).loc Cert.Reference2Ideal.main_v184) = v2 c
          ∧ r.2.mem ((c.tc : Thread Cert.Reference2Ideal.nD Cert.Reference2Ideal.τ).loc Cert.Reference2Ideal.main_v185) = v3 c
          ∧ r.2.mem ((c.tc : Thread Cert.Reference2Ideal.nD Cert.Reference2Ideal.τ).loc Cert.Reference2Ideal.main_v186) = v4 c
          ∧ r.2.mem ((c.tc : Thread Cert.Reference2Ideal.nD Cert.Reference2Ideal.τ).loc Cert.Reference2Ideal.main_v187) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v21)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "cs" .f32 0x3E16C740#32 ((((Real.sqrt 96) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v62_0)) (v1 : (c : Dev Cert.Kernel4Ideal.nD) → Buf (Elt Ideal) ((c.tc : Thread Cert.Kernel4Ideal.nD Cert.Kernel4Ideal.τ).loc Cert.Kernel4Ideal.main_v62_1)) (v2 : (c : Dev Cert.Kernel4Ideal.nD) → Buf (Elt Ideal) ((c.tc : Thread Cert.Kernel4Ideal.nD Cert.Kernel4Ideal.τ).loc Cert.Kernel4Ideal.main_v62_2)) (v3 : (c : Dev Cert.Kernel4Ideal.nD) → Buf (Elt Ideal) ((c.tc : Thread Cert.Kernel4Ideal.nD Cert.Kernel4Ideal.τ).loc Cert.Kernel4Ideal.main_v62_3)) (v4 : (c : Dev Cert.Kernel4Ideal.nD) → Buf (Elt Ideal) ((c.tc : Thread Cert.Kernel4Ideal.nD Cert.Kernel4Ideal.τ).loc Cert.Kernel4Ideal.main_v62_4)) (v5 : (c : Dev Cert.Kernel4Ideal.nD) → Buf (Elt Ideal) ((c.tc : Thread Cert.Kernel4Ideal.nD Cert.Kernel4Ideal.τ).loc Cert.Kernel4Ideal.main_v62_5)) (v6 : (c : Dev Cert.Kernel4Ideal.nD) → Buf (Elt Ideal) ((c.tc : Thread Cert.Kernel4Ideal.nD Cert.Kernel4Ideal.τ).loc Cert.Kernel4Ideal.main_v62_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v62_0) = v0 c
          ∧ r.2.mem ((c.tc : Thread Cert.Kernel4Ideal.nD Cert.Kernel4Ideal.τ).loc Cert.Kernel4Ideal.main_v62_1) = v1 c
          ∧ r.2.mem ((c.tc : Thread Cert.Kernel4Ideal.nD Cert.Kernel4Ideal.τ).loc Cert.Kernel4Ideal.main_v62_2) = v2 c
          ∧ r.2.mem ((c.tc : Thread Cert.Kernel4Ideal.nD Cert.Kernel4Ideal.τ).loc Cert.Kernel4Ideal.main_v62_3) = v3 c
          ∧ r.2.mem ((c.tc : Thread Cert.Kernel4Ideal.nD Cert.Kernel4Ideal.τ).loc Cert.Kernel4Ideal.main_v62_4) = v4 c
          ∧ r.2.mem ((c.tc : Thread Cert.Kernel4Ideal.nD Cert.Kernel4Ideal.τ).loc Cert.Kernel4Ideal.main_v62_5) = v5 c
          ∧ r.2.mem ((c.tc : Thread Cert.Kernel4Ideal.nD Cert.Kernel4Ideal.τ).loc Cert.Kernel4Ideal.main_v62_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v135) = v0 c
          ∧ r.2.mem ((c.tc : Thread Cert.Reference4Ideal.nD Cert.Reference4Ideal.τ).loc Cert.Reference4Ideal.main_v137) = v1 c
          ∧ r.2.mem ((c.tc : Thread Cert.Reference4Ideal.nD Cert.Reference4Ideal.τ).loc Cert.Reference4Ideal.main_v141) = v2 c
          ∧ r.2.mem ((c.tc : Thread Cert.Reference4Ideal.nD Cert.Reference4Ideal.τ).loc Cert.Reference4Ideal.main_v145) = v3 c
          ∧ r.2.mem ((c.tc : Thread Cert.Reference4Ideal.nD Cert.Reference4Ideal.τ).loc Cert.Reference4Ideal.main_v147) = v4 c
          ∧ r.2.mem ((c.tc : Thread Cert.Reference4Ideal.nD Cert.Reference4Ideal.τ).loc Cert.Reference4Ideal.main_v148) = v5 c
          ∧ r.2.mem ((c.tc : Thread Cert.Reference4Ideal.nD Cert.Reference4Ideal.τ).loc Cert.Reference4Ideal.main_v151) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x16x128 : Shape := ⟨4, ![8, 2048, 16, 128]⟩
abbrev S8x2048x16x32 : Shape := ⟨4, ![8, 2048, 16, 32]⟩
abbrev S8x2048x128 : Shape := ⟨3, ![8, 2048, 128]⟩
abbrev S8x2048x32 : Shape := ⟨3, ![8, 2048, 32]⟩
abbrev S_ : Shape := ⟨0, ![]⟩

class Facts : Prop where
  bcast_S_S8x2048x16x128 : S_.BroadcastsInDim S8x2048x16x128 (![] : Fin 0 → Fin S8x2048x16x128.rank)
  reducesTo_S8x2048x16x128_S_d0_1_2_3 : S8x2048x16x128.ReducesTo [0, 1, 2, 3] S_
  h_S_ : 0 < S_.numel
  bcast_S_S8x2048x16x32 : S_.BroadcastsInDim S8x2048x16x32 (![] : Fin 0 → Fin S8x2048x16x32.rank)
  reducesTo_S8x2048x16x32_S_d0_1_2_3 : S8x2048x16x32.ReducesTo [0, 1, 2, 3] S_
  bcast_S_S8x2048x128 : S_.BroadcastsInDim S8x2048x128 (![] : Fin 0 → Fin S8x2048x128.rank)
  reducesTo_S8x2048x128_S_d0_1_2 : S8x2048x128.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn_part1 {F : FTy → Type} [FloatOps F] (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  main_v18

def fn {F : FTy → Type} [FloatOps F] (main_arg0 : FVec F S8x2048x16x128 .f32) (main_arg1 : FVec F S8x2048x16x32 .f32) (main_arg2 : FVec F S8x2048x128 .f32) (main_arg3 : FVec F S8x2048x32 .f32) : IVec S_ 1 :=
  let main_v0 : FVec F S8x2048x16x128 .f32 := Host.absf main_arg0
  let main_cst : FVec F S_ .f32 := constant S_ .f32 0x7F800000#32
  let main_v1 : FVec F S8x2048x16x128 .f32 := broadcastInDim S8x2048x16x128 ![] bcast_S_S8x2048x16x128 main_cst
  let main_v2 : IVec S8x2048x16x128 1 := cmpf .olt main_v0 main_v1
  let main_c : IVec S_ 1 := constantI S_ 1 1#1
  let main_v3 : IVec S_ 1 := (fun x v => Host.reduce IntOp.andi x v reducesTo_S8x2048x16x128_S_d0_1_2_3 h_S_) main_v2 main_c
  let main_v4 : FVec F S8x2048x16x32 .f32 := Host.absf main_arg1
  let main_cst_0 : FVec F S_ .f32 := constant S_ .f32 0x7F800000#32
  let main_v5 : FVec F S8x2048x16x32 .f32 := broadcastInDim S8x2048x16x32 ![] bcast_S_S8x2048x16x32 main_cst_0
  let main_v6 : IVec S8x2048x16x32 1 := cmpf .olt main_v4 main_v5
  let main_c_1 : IVec S_ 1 := constantI S_ 1 1#1
  let main_v7 : IVec S_ 1 := (fun x v => Host.reduce IntOp.andi x v reducesTo_S8x2048x16x32_S_d0_1_2_3 h_S_) main_v6 main_c_1
  let main_v8 : IVec S_ 1 := andi main_v3 main_v7
  let main_v9 : FVec F S8x2048x128 .f32 := Host.absf main_arg2
  let main_cst_2 : FVec F S_ .f32 := constant S_ .f32 0x7F800000#32
  let main_v10 : FVec F S8x2048x128 .f32 := broadcastInDim S8x2048x128 ![] bcast_S_S8x2048x128 main_cst_2
  let main_v11 : IVec S8x2048x128 1 := cmpf .olt main_v9 main_v10
  let main_c_3 : IVec S_ 1 := constantI S_ 1 1#1
  let main_v12 : IVec S_ 1 := (fun x v => Host.reduce IntOp.andi x v reducesTo_S8x2048x128_S_d0_1_2 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_v13 main_v16
-- ==== Kernel.lean ====
abbrev S8x2048x16x128 : Shape := ⟨4, ![8, 2048, 16, 128]⟩
abbrev S8x2048x16x32 : Shape := ⟨4, ![8, 2048, 16, 32]⟩
abbrev S8x2048x128 : Shape := ⟨3, ![8, 2048, 128]⟩
abbrev S8x2048x32 : Shape := ⟨3, ![8, 2048, 32]⟩
abbrev S_ : Shape := ⟨0, ![]⟩
abbrev S8x2048x2048 : Shape := ⟨3, ![8, 2048, 2048]⟩
abbrev S8x2048x512 : Shape := ⟨3, ![8, 2048, 512]⟩
abbrev S8x2048x256 : Shape := ⟨3, ![8, 2048, 256]⟩
abbrev S1x128x2048 : Shape := ⟨3, ![1, 128, 2048]⟩
abbrev S1x128x512 : Shape := ⟨3, ![1, 128, 512]⟩
abbrev S1x2048x256 : Shape := ⟨3, ![1, 2048, 256]⟩
abbrev S2048x256 : Shape := ⟨2, ![2048, 256]⟩
abbrev S1x2048x128 : Shape := ⟨3, ![1, 2048, 128]⟩
abbrev S128x128 : Shape := ⟨2, ![128, 128]⟩
abbrev S1x128x128 : Shape := ⟨3, ![1, 128, 128]⟩
abbrev S1x128x1 : Shape := ⟨3, ![1, 128, 1]⟩
abbrev S1x1x512 : Shape := ⟨3, ![1, 1, 512]⟩
abbrev S1x512x256 : Shape := ⟨3, ![1, 512, 256]⟩
abbrev S512x256 : Shape := ⟨2, ![512, 256]⟩
abbrev S2048x512 : Shape := ⟨2, ![2048, 512]⟩
abbrev S16x128x512 : Shape := ⟨3, ![16, 128, 512]⟩
abbrev S512x128 : Shape := ⟨2, ![512, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 20
  | .vmem => 11
  | .smem => 0
  | _ => 0

abbrev bufTy : (tb : Table) → Fin (tcTables nBuf tb) → BufTy
  | .hbm, ⟨0, _⟩ => ⟨S8x2048x16x128, .f32⟩
  | .hbm, ⟨1, _⟩ => ⟨S8x2048x16x32, .f32⟩
  | .hbm, ⟨2, _⟩ => ⟨S8x2048x128, .f32⟩
  | .hbm, ⟨3, _⟩ => ⟨S8x2048x32, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .bf16⟩
  | .hbm, ⟨13, _⟩ => ⟨S8x2048x512, .f32⟩
  | .hbm, ⟨14, _⟩ => ⟨S8x2048x512, .f32⟩
  | .hbm, ⟨15, _⟩ => ⟨S8x2048x512, .f32⟩
  | .hbm, ⟨16, _⟩ => ⟨S8x2048x512, .bf16⟩
  | .hbm, ⟨17, _⟩ => ⟨S8x2048x256, .f32⟩
  | .hbm, ⟨18, _⟩ => ⟨S8x2048x256, .bf16⟩
  | .hbm, ⟨19, _⟩ => ⟨S8x2048x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x128x2048, .bf16⟩
  | .local _ .vmem, ⟨7, _⟩ => ⟨S1x128x2048, .bf16⟩
  | .local _ .vmem, ⟨8, _⟩ => ⟨S2048x256, .bf16⟩
  | .local _ .vmem, ⟨9, _⟩ => ⟨S1x2048x128, .f32⟩
  | .local _ .vmem, ⟨10, _⟩ => ⟨S1x2048x256, .f32⟩
  | _, _ => ⟨S8x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x16x128 : Shape := ⟨4, ![8, 2048, 16, 128]⟩
abbrev S8x2048x16x32 : Shape := ⟨4, ![8, 2048, 16, 32]⟩
abbrev S8x2048x128 : Shape := ⟨3, ![8, 2048, 128]⟩
abbrev S8x2048x32 : Shape := ⟨3, ![8, 2048, 32]⟩
abbrev S2048 : Shape := ⟨1, ![2048]⟩
abbrev S8x2048x2048x16 : Shape := ⟨4, ![8, 2048, 2048, 16]⟩
abbrev S8x16x2048x2048 : Shape := ⟨4, ![8, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x16x2048 : Shape := ⟨3, ![8, 16, 2048]⟩
abbrev S8x16x2048x1 : Shape := ⟨4, ![8, 16, 2048, 1]⟩
abbrev S8x128x16x2048 : Shape := ⟨4, ![8, 128, 16, 2048]⟩
abbrev S8x2048x2048 : Shape := ⟨3, ![8, 2048, 2048]⟩

abbrev nBuf : Space → Nat
  | .hbm => 78
  | .vmem => 0
  | .smem => 0
  | _ => 0

abbrev bufTy : (tb : Table) → Fin (tcTables nBuf tb) → BufTy
  | .hbm, ⟨0, _⟩ => ⟨S8x2048x16x128, .f32⟩
  | .hbm, ⟨1, _⟩ => ⟨S8x2048x16x32, .f32⟩
  | .hbm, ⟨2, _⟩ => ⟨S8x2048x128, .f32⟩
  | .hbm, ⟨3, _⟩ => ⟨S8x2048x32, .f32⟩
  | .hbm, ⟨4, _⟩ => ⟨S2048, .i32⟩
  | .hbm, ⟨5, _⟩ => ⟨S8x2048x2048x16, .f32⟩
  | .hbm, ⟨6, _⟩ => ⟨S8x16x2048x2048, .f32⟩
  | .hbm, ⟨7, _⟩ => ⟨S8x2048x2048x16, .f32⟩
  | .hbm, ⟨8, _⟩ => ⟨S8x16x2048x2048, .f32⟩
  | .hbm, ⟨9, _⟩ => ⟨S8x16x2048x2048, .f32⟩
  | .hbm, ⟨10, _⟩ => ⟨S_, .f32⟩
  | .hbm, ⟨11, _⟩ => ⟨S_, .f32⟩
  | .hbm, ⟨12, _⟩ => ⟨S8x16x2048x2048, .f32⟩
  | .hbm, ⟨13, _⟩ => ⟨S8x16x2048x2048, .f32⟩
  | .hbm, ⟨14, _⟩ => ⟨S1x2048, .i32⟩
  | .hbm, ⟨15, _⟩ => ⟨S_, .i32⟩
  | .hbm, ⟨16, _⟩ => ⟨S_, .i32⟩
  | .hbm, ⟨17, _⟩ => ⟨S1x2048, .i32⟩
  | .hbm, ⟨18, _⟩ => ⟨S1x2048, .i32⟩
  | .hbm, ⟨19, _⟩ => ⟨S1x2048, .i32⟩
  | .hbm, ⟨20, _⟩ => ⟨S_, .i32⟩
  | .hbm, ⟨21, _⟩ => ⟨S1x2048, .i32⟩
  | .hbm, ⟨22, _⟩ => ⟨S1x2048, .i1⟩
  | .hbm, ⟨23, _⟩ => ⟨S1x2048, .i32⟩
  | .hbm, ⟨24, _⟩ => ⟨S1x2048, .i32⟩
  | .hbm, ⟨25, _⟩ => ⟨S_, .i32⟩
  | .hbm, ⟨26, _⟩ => ⟨S1x2048, .i32⟩
  | .hbm, ⟨27, _⟩ => ⟨S1x2048, .i1⟩
  | .hbm, ⟨28, _⟩ => ⟨S1x2048, .i1⟩
  | .hbm, ⟨29, _⟩ => ⟨S_, .i32⟩
  | .hbm, ⟨30, _⟩ => ⟨S1x2048, .i32⟩
  | .hbm, ⟨31, _⟩ => ⟨S1x2048, .i32⟩
  | .hbm, ⟨32, _⟩ => ⟨S1x2048, .i32⟩
  | .hbm, ⟨33, _⟩ => ⟨S2048x1, .i32⟩
  | .hbm, ⟨34, _⟩ => ⟨S_, .i32⟩
  | .hbm, ⟨35, _⟩ => ⟨S_, .i32⟩
  | .hbm, ⟨36, _⟩ => ⟨S2048x1, .i32⟩
  | .hbm, ⟨37, _⟩ => ⟨S2048x1, .i32⟩
  | .hbm, ⟨38, _⟩ => ⟨S2048x1, .i32⟩
  | .hbm, ⟨39, _⟩ => ⟨S_, .i32⟩
  | .hbm, ⟨40, _⟩ => ⟨S2048x1, .i32⟩
  | .hbm, ⟨41, _⟩ => ⟨S2048x1, .i1⟩
  | .hbm, ⟨42, _⟩ => ⟨S2048x1, .i32⟩
  | .hbm, ⟨43, _⟩ => ⟨S2048x1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S2048x1, .i1⟩
  | .hbm, ⟨48, _⟩ => ⟨S_, .i32⟩
  | .hbm, ⟨49, _⟩ => ⟨S2048x1, .i32⟩
  | .hbm, ⟨50, _⟩ => ⟨S2048x1, .i32⟩
  | .hbm, ⟨51, _⟩ => ⟨S2048x1, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S_, .f32⟩
  | .hbm, ⟨56, _⟩ => ⟨S_, .f32⟩
  | .hbm, ⟨57, _⟩ => ⟨S8x16x2048x2048, .i1⟩
  | .hbm, ⟨58, _⟩ => ⟨S8x16x2048x2048, .f32⟩
  | .hbm, ⟨59, _⟩ => ⟨S8x16x2048x2048, .f32⟩
  | .hbm, ⟨60, _⟩ => ⟨S_, .f32⟩
  | .hbm, ⟨61, _⟩ => ⟨S8x16x2048, .f32⟩
  | .hbm, ⟨62, _⟩ => ⟨S_, .f32⟩
  | .hbm, ⟨63, _⟩ => ⟨S8x16x2048, .f32⟩
  | .hbm, ⟨64, _⟩ => ⟨S8x16x2048, .f32⟩
  | .hbm, ⟨65, _⟩ => ⟨S8x16x2048x1, .f32⟩
  | .hbm, ⟨66, _⟩ => ⟨S8x16x2048x2048, .f32⟩
  | .hbm, ⟨67, _⟩ => ⟨S8x16x2048x2048, .f32⟩
  | .hbm, ⟨68, _⟩ => ⟨S8x16x2048x2048, .f32⟩
  | .hbm, ⟨69, _⟩ => ⟨S_, .f32⟩
  | .hbm, ⟨70, _⟩ => ⟨S8x16x2048, .f32⟩
  | .hbm, ⟨71, _⟩ => ⟨S8x16x2048x1, .f32⟩
  | .hbm, ⟨72, _⟩ => ⟨S8x16x2048x2048, .f32⟩
  | .hbm, ⟨73, _⟩ => ⟨S8x16x2048x2048, .f32⟩
  | .hbm, ⟨74, _⟩ => ⟨S8x128x16x2048, .f32⟩
  | .hbm, ⟨75, _⟩ => ⟨S8x2048x16x128, .f32⟩
  | .hbm, ⟨76, _⟩ => ⟨S8x2048x2048, .f32⟩
  | .hbm, ⟨77, _⟩ => ⟨S8x2048x2048, .bf16⟩
  | _, _ => ⟨S8x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v16 : Ref sig .tc := ⟨.hbm, 59, rfl⟩
abbrev main_cst_2 : Ref sig .tc := ⟨.hbm, 60, rfl⟩
abbrev main_v17 : Ref sig .tc := ⟨.hbm, 61, rfl⟩
abbrev main_cst_3 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_4 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x3072 : Shape := ⟨2, ![8, 3072]⟩
abbrev S1024 : Shape := ⟨1, ![1024]⟩
abbrev S1024x4688 : Shape := ⟨2, ![1024, 4688]⟩
abbrev S8 : Shape := ⟨1, ![8]⟩
abbrev S1024x512 : Shape := ⟨2, ![1024, 512]⟩
abbrev S1024x8 : Shape := ⟨2, ![1024, 8]⟩
abbrev S1024x64 : Shape := ⟨2, ![1024, 64]⟩
abbrev S_ : Shape := ⟨0, ![]⟩
abbrev S1024x48 : Shape := ⟨2, ![1024, 48]⟩
abbrev S1024x4736 : Shape := ⟨2, ![1024, 4736]⟩
abbrev S1x128 : Shape := ⟨2, ![1, 128]⟩
abbrev S1 : Shape := ⟨1, ![1]⟩
abbrev S2 : Shape := ⟨1, ![2]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16384x1024 : Shape := ⟨2, ![16384, 1024]⟩
abbrev S8x3x1024 : Shape := ⟨3, ![8, 3, 1024]⟩
abbrev S1x1024 : Shape := ⟨2, ![1, 1024]⟩
abbrev S16384x4736 : Shape := ⟨2, ![16384, 4736]⟩
abbrev S16384x512 : Shape := ⟨2, ![16384, 512]⟩
abbrev S16384x128 : Shape := ⟨2, ![16384, 128]⟩
abbrev S256x1024 : Shape := ⟨2, ![256, 1024]⟩
abbrev S1x3x1024 : Shape := ⟨3, ![1, 3, 1024]⟩
abbrev S256x128 : Shape := ⟨2, ![256, 128]⟩
abbrev S256x4736 : Shape := ⟨2, ![256, 4736]⟩
abbrev S256x512 : Shape := ⟨2, ![256, 512]⟩
abbrev S256 : Shape := ⟨1, ![256]⟩
abbrev S256x1 : Shape := ⟨2, ![256, 1]⟩
abbrev S1x1x1024 : Shape := ⟨3, ![1, 1, 1024]⟩
abbrev S1024x128 : Shape := ⟨2, ![1024, 128]⟩

abbrev nBuf : Space → Nat
  | .hbm => 64
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x3072, .f32⟩
  | .hbm, ⟨2, _⟩ => ⟨S1024, .f32⟩
  | .hbm, ⟨3, _⟩ => ⟨S1024x4688, .f32⟩
  | .hbm, ⟨4, _⟩ => ⟨S8, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x8, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x64, .f32⟩
  | .hbm, ⟨15, _⟩ => ⟨S1024x8, .f32⟩
  | .hbm, ⟨16, _⟩ => ⟨S1024x512, .f32⟩
  | .hbm, ⟨17, _⟩ => ⟨S_, .f32⟩
  | .hbm, ⟨18, _⟩ => ⟨S1024x48, .f32⟩
  | .hbm, ⟨19, _⟩ => ⟨S1024x4736, .f32⟩
  | .hbm, ⟨20, _⟩ => ⟨S1024x4736, .bf16⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S2048, .i32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x64, .f32⟩
  | .hbm, ⟨47, _⟩ => ⟨S2048x32, .f32⟩
  | .hbm, ⟨48, _⟩ => ⟨S2048x64, .f32⟩
  | .hbm, ⟨49, _⟩ => ⟨S1x2048x1x64, .f32⟩
  | .hbm, ⟨50, _⟩ => ⟨S1x2048x2x64, .f32⟩
  | .hbm, ⟨51, _⟩ => ⟨S2048x128, .f32⟩
  | .hbm, ⟨52, _⟩ => ⟨S1x2048x1x64, .f32⟩
  | .hbm, ⟨53, _⟩ => ⟨S1x2048x2x64, .f32⟩
  | .hbm, ⟨54, _⟩ => ⟨S2048x128, .f32⟩
  | .hbm, ⟨55, _⟩ => ⟨S16384x1024, .f32⟩
  | .hbm, ⟨56, _⟩ => ⟨S8x3x1024, .f32⟩
  | .hbm, ⟨57, _⟩ => ⟨S1x1024, .f32⟩
  | .hbm, ⟨58, _⟩ => ⟨S16384x4736, .bf16⟩
  | .hbm, ⟨59, _⟩ => ⟨S16384x512, .f32⟩
  | .hbm, ⟨60, _⟩ => ⟨S16384x512, .f32⟩
  | .hbm, ⟨61, _⟩ => ⟨S16384x512, .f32⟩
  | .hbm, ⟨62, _⟩ => ⟨S16384x512, .f32⟩
  | .hbm, ⟨63, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x4736, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S256x4736, .bf16⟩
  | .local _ .vmem, ⟨12, _⟩ => ⟨S256x4736, .bf16⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x128, .f32⟩
  | .local _ .vmem, ⟨22, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4736 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4736 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel2Ideal.lean ====
variable {F : FTy → Type} [FloatOps F] [Named F]
def κ : String → Option EReal := fun
  | "iw" => some (((8 * (Real.sqrt 8))⁻¹ : ℝ) : EReal)
  | "qk" => some (((8 * (Real.log 2))⁻¹ : ℝ) : EReal)
  | _ => none
-- ==== Reference2Ideal.lean ====
abbrev S8x2048x1024 : Shape := ⟨3, ![8, 2048, 1024]⟩
abbrev S8x3072 : Shape := ⟨2, ![8, 3072]⟩
abbrev S1024 : Shape := ⟨1, ![1024]⟩
abbrev S1024x4688 : Shape := ⟨2, ![1024, 4688]⟩
abbrev S8 : Shape := ⟨1, ![8]⟩
abbrev S2048 : Shape := ⟨1, ![2048]⟩
abbrev S8x1024 : Shape := ⟨2, ![8, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S8x2048x4688 : Shape := ⟨3, ![8, 2048, 4688]⟩
abbrev S8x2048x512 : Shape := ⟨3, ![8, 2048, 512]⟩
abbrev S8x2048x8 : Shape := ⟨3, ![8, 2048, 8]⟩
abbrev S8x2048x64 : Shape := ⟨3, ![8, 2048, 64]⟩
abbrev S1x1x8 : Shape := ⟨3, ![1, 1, 8]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x1x64 : Shape := ⟨4, ![8, 2048, 1, 64]⟩
abbrev S8x2048x1x32 : Shape := ⟨4, ![8, 2048, 1, 32]⟩
abbrev S8x2048x4736 : Shape := ⟨3, ![8, 2048, 4736]⟩
abbrev S8x2048x48 : Shape := ⟨3, ![8, 2048, 48]⟩
abbrev S8x2048x128 : Shape := ⟨3, ![8, 2048, 128]⟩
abbrev S16384x4736 : Shape := ⟨2, ![16384, 4736]⟩
abbrev S16384x512 : Shape := ⟨2, ![16384, 512]⟩
abbrev S16384x128 : Shape := ⟨2, ![16384, 128]⟩

abbrev nBuf : Space → Nat
  | .hbm => 225
  | .vmem => 0
  | .smem => 0
  | _ => 0

abbrev hbmTy0_0 (i : Nat) : BufTy := match i % 128 with
  | 0 => ⟨S8x2048x1024, .f32⟩
  | 1 => ⟨S8x3072, .f32⟩
  | 2 => ⟨S1024, .f32⟩
  | 3 => ⟨S1024x4688, .f32⟩
  | 4 => ⟨S8, .f32⟩
  | 5 => ⟨S2048, .i32⟩
  | 6 => ⟨S8x1024, .f32⟩
  | 7 => ⟨S8x1024, .f32⟩
  | 8 => ⟨S8x1024, .f32⟩
  | 9 => ⟨S8x2048x1024, .f32⟩
  | 10 => ⟨S_, .f32⟩
  | 11 => ⟨S8x2048, .f32⟩
  | 12 => ⟨S8x2048x1, .f32⟩
  | 13 => ⟨S_, .f32⟩
  | 14 => ⟨S8x2048x1, .f32⟩
  | 15 => ⟨S8x2048x1, .f32⟩
  | 16 => ⟨S_, .f32⟩
  | 17 => ⟨S8x2048x1, .f32⟩
  | 18 => ⟨S8x2048x1, .f32⟩
  | 19 => ⟨S8x2048x1, .f32⟩
  | 20 => ⟨S8x2048x1024, .f32⟩
  | 21 => ⟨S8x2048x1024, .f32⟩
  | 22 => ⟨S1x1x1024, .f32⟩
  | 23 => ⟨S8x2048x1024, .f32⟩
  | 24 => ⟨S8x2048x1024, .f32⟩
  | 25 => ⟨S8x1x1024, .f32⟩
  | 26 => ⟨S_, .f32⟩
  | 27 => ⟨S8x1x1024, .f32⟩
  | 28 => ⟨S8x1x1024, .f32⟩
  | 29 => ⟨S8x2048x1024, .f32⟩
  | 30 => ⟨S8x2048x1024, .f32⟩
  | 31 => ⟨S8x1x1024, .f32⟩
  | 32 => ⟨S8x2048x1024, .f32⟩
  | 33 => ⟨S8x2048x1024, .f32⟩
  | 34 => ⟨S8x2048x4688, .f32⟩
  | 35 => ⟨S8x2048x512, .f32⟩
  | 36 => ⟨S8x2048x512, .f32⟩
  | 37 => ⟨S8x2048x512, .f32⟩
  | 38 => ⟨S8x2048x8, .f32⟩
  | 39 => ⟨S8x2048x512, .f32⟩
  | 40 => ⟨S8x2048x512, .f32⟩
  | 41 => ⟨S8x2048x512, .f32⟩
  | 42 => ⟨S8x2048x512, .f32⟩
  | 43 => ⟨S8x2048x512, .f32⟩
  | 44 => ⟨S8x2048x64, .f32⟩
  | 45 => ⟨S8x2048x8, .f32⟩
  | 46 => ⟨S8x2048x512, .f32⟩
  | 47 => ⟨S1x1x8, .f32⟩
  | 48 => ⟨S8x2048x8, .f32⟩
  | 49 => ⟨S8x2048x8, .f32⟩
  | 50 => ⟨S8x2048x8, .f32⟩
  | 51 => ⟨S_, .f32⟩
  | 52 => ⟨S8x2048x8, .f32⟩
  | 53 => ⟨S8x2048x8, .f32⟩
  | 54 => ⟨S8x2048x8, .f32⟩
  | 55 => ⟨S8x2048x8, .f32⟩
  | 56 => ⟨S8x2048x8, .i1⟩
  | 57 => ⟨S8x2048x8, .f32⟩
  | 58 => ⟨S8x2048x8, .f32⟩
  | 59 => ⟨S8x2048x8, .f32⟩
  | 60 => ⟨S8x2048x8, .f32⟩
  | 61 => ⟨S8x2048x8, .f32⟩
  | 62 => ⟨S8x2048x8, .f32⟩
  | 63 => ⟨S8x2048x8, .f32⟩
  | 64 => ⟨S8x2048x8, .f32⟩
  | 65 => ⟨S8x2048x8, .f32⟩
  | 66 => ⟨S8x2048x8x64, .f32⟩
  | 67 => ⟨S32, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S2048, .f32⟩
  | 76 => ⟨S2048x1, .f32⟩
  | 77 => ⟨S1x32, .f32⟩
  | 78 => ⟨S2048x32, .f32⟩
  | 79 => ⟨S2048x32, .f32⟩
  | 80 => ⟨S2048x32, .f32⟩
  | 81 => ⟨S2048x32, .f32⟩
  | 82 => ⟨S1x2048x1x32, .f32⟩
  | 83 => ⟨S2048x32, .f32⟩
  | 84 => ⟨S1x2048x1x32, .f32⟩
  | 85 => ⟨S8x2048x8x32, .f32⟩
  | 86 => ⟨S8x2048x8x32, .f32⟩
  | 87 => ⟨S8x2048x8x32, .f32⟩
  | 88 => ⟨S8x2048x8x32, .f32⟩
  | 89 => ⟨S8x2048x8x32, .f32⟩
  | 90 => ⟨S8x2048x8x32, .f32⟩
  | 91 => ⟨S8x2048x8x32, .f32⟩
  | 92 => ⟨S8x2048x8x32, .f32⟩
  | 93 => ⟨S8x2048x8x32, .f32⟩
  | 94 => ⟨S8x2048x8x32, .f32⟩
  | 95 => ⟨S8x2048x8x32, .f32⟩
  | 96 => ⟨S8x2048x8x32, .f32⟩
  | 97 => ⟨S8x2048x8x64, .f32⟩
  | 98 => ⟨S8x2048x512, .f32⟩
  | 99 => ⟨S8x2048x8x64, .f32⟩
  | 100 => ⟨S32, .f32⟩
  | 101 => ⟨S32, .f32⟩
  | 102 => ⟨S_, .f32⟩
  | 103 => ⟨S32, .f32⟩
  | 104 => ⟨S32, .f32⟩
  | 105 => ⟨S_, .f32⟩
  | 106 => ⟨S32, .f32⟩
  | 107 => ⟨S32, .f32⟩
  | 108 => ⟨S2048, .f32⟩
  | 109 => ⟨S2048x1, .f32⟩
  | 110 => ⟨S1x32, .f32⟩
  | 111 => ⟨S2048x32, .f32⟩
  | 112 => ⟨S2048x32, .f32⟩
  | 113 => ⟨S2048x32, .f32⟩
  | 114 => ⟨S2048x32, .f32⟩
  | 115 => ⟨S1x2048x1x32, .f32⟩
  | 116 => ⟨S2048x32, .f32⟩
  | 117 => ⟨S1x2048x1x32, .f32⟩
  | 118 => ⟨S8x2048x8x32, .f32⟩
  | 119 => ⟨S8x2048x8x32, .f32⟩
  | 120 => ⟨S8x2048x8x32, .f32⟩
  | 121 => ⟨S8x2048x8x32, .f32⟩
  | 122 => ⟨S8x2048x8x32, .f32⟩
  | 123 => ⟨S8x2048x8x32, .f32⟩
  | 124 => ⟨S8x2048x8x32, .f32⟩
  | 125 => ⟨S8x2048x8x32, .f32⟩
  | 126 => ⟨S8x2048x8x32, .f32⟩
  | 127 => ⟨S8x2048x8x32, .f32⟩
  | _ => ⟨S8x2048x1024, .f32⟩

abbrev hbmTy0_1 (i : Nat) : BufTy := match i % 128 with
  | 0 => ⟨S8x2048x8x32, .f32⟩
  | 1 => ⟨S8x2048x8x32, .f32⟩
  | 2 => ⟨S8x2048x8x64, .f32⟩
  | 3 => ⟨S8x2048x512, .f32⟩
  | 4 => ⟨S8x2048x8x64, .f32⟩
  | 5 => ⟨S32, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S2048, .f32⟩
  | 14 => ⟨S2048x1, .f32⟩
  | 15 => ⟨S1x32, .f32⟩
  | 16 => ⟨S2048x32, .f32⟩
  | 17 => ⟨S2048x32, .f32⟩
  | 18 => ⟨S2048x32, .f32⟩
  | 19 => ⟨S2048x32, .f32⟩
  | 20 => ⟨S1x2048x1x32, .f32⟩
  | 21 => ⟨S2048x32, .f32⟩
  | 22 => ⟨S1x2048x1x32, .f32⟩
  | 23 => ⟨S8x2048x8x32, .f32⟩
  | 24 => ⟨S8x2048x8x32, .f32⟩
  | 25 => ⟨S8x2048x8x32, .f32⟩
  | 26 => ⟨S8x2048x8x32, .f32⟩
  | 27 => ⟨S8x2048x8x32, .f32⟩
  | 28 => ⟨S8x2048x8x32, .f32⟩
  | 29 => ⟨S8x2048x8x32, .f32⟩
  | 30 => ⟨S8x2048x8x32, .f32⟩
  | 31 => ⟨S8x2048x8x32, .f32⟩
  | 32 => ⟨S8x2048x8x32, .f32⟩
  | 33 => ⟨S8x2048x8x32, .f32⟩
  | 34 => ⟨S8x2048x8x32, .f32⟩
  | 35 => ⟨S8x2048x8x64, .f32⟩
  | 36 => ⟨S8x2048x512, .f32⟩
  | 37 => ⟨S8x2048x1x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S2048, .f32⟩
  | 47 => ⟨S2048x1, .f32⟩
  | 48 => ⟨S1x32, .f32⟩
  | 49 => ⟨S2048x32, .f32⟩
  | 50 => ⟨S2048x32, .f32⟩
  | 51 => ⟨S2048x32, .f32⟩
  | 52 => ⟨S2048x32, .f32⟩
  | 53 => ⟨S1x2048x1x32, .f32⟩
  | 54 => ⟨S2048x32, .f32⟩
  | 55 => ⟨S1x2048x1x32, .f32⟩
  | 56 => ⟨S8x2048x1x32, .f32⟩
  | 57 => ⟨S8x2048x1x32, .f32⟩
  | 58 => ⟨S8x2048x1x32, .f32⟩
  | 59 => ⟨S8x2048x1x32, .f32⟩
  | 60 => ⟨S8x2048x1x32, .f32⟩
  | 61 => ⟨S8x2048x1x32, .f32⟩
  | 62 => ⟨S8x2048x1x32, .f32⟩
  | 63 => ⟨S8x2048x1x32, .f32⟩
  | 64 => ⟨S8x2048x1x32, .f32⟩
  | 65 => ⟨S8x2048x1x32, .f32⟩
  | 66 => ⟨S8x2048x1x32, .f32⟩
  | 67 => ⟨S8x2048x1x32, .f32⟩
  | 68 => ⟨S8x2048x1x64, .f32⟩
  | 69 => ⟨S8x2048x64, .f32⟩
  | 70 => ⟨S_, .f32⟩
  | 71 => ⟨S_, .f32⟩
  | 72 => ⟨S_, .f32⟩
  | 73 => ⟨S_, .f32⟩
  | 74 => ⟨S_, .f32⟩
  | 75 => ⟨S8x2048x8, .f32⟩
  | 76 => ⟨S8x2048x8, .f32⟩
  | 77 => ⟨S_, .f32⟩
  | 78 => ⟨S_, .f32⟩
  | 79 => ⟨S_, .f32⟩
  | 80 => ⟨S_, .f32⟩
  | 81 => ⟨S_, .f32⟩
  | 82 => ⟨S8x2048x512, .f32⟩
  | 83 => ⟨S8x2048x512, .f32⟩
  | 84 => ⟨S8x2048x512, .f32⟩
  | 85 => ⟨S8x2048x512, .f32⟩
  | 86 => ⟨S8x2048x4736, .f32⟩
  | 87 => ⟨S8x2048x4736, .bf16⟩
  | 88 => ⟨S_, .f32⟩
  | 89 => ⟨S8x2048x48, .f32⟩
  | 90 => ⟨S8x2048x128, .f32⟩
  | 91 => ⟨S16384x4736, .bf16⟩
  | 92 => ⟨S16384x512, .f32⟩
  | 93 => ⟨S16384x512, .f32⟩
  | 94 => ⟨S16384x512, .f32⟩
  | 95 => ⟨S16384x512, .f32⟩
  | 96 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_call0_v0 : Ref sig .tc := ⟨.hbm, 50, rfl⟩
abbrev main_call0_call0_cst : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_call0_v2 : Ref sig .tc := ⟨.hbm, 54, rfl⟩
abbrev main_call0_call0_v3 : Ref sig .tc := ⟨.hbm, 55, rfl⟩
abbrev main_call0_call0_v4 : Ref sig .tc := ⟨.hbm, 56, rfl⟩
abbrev main_call0_call0_v5 : Ref sig .tc := ⟨.hbm, 57, rfl⟩
abbrev main_call0_call0_v6 : Ref sig .tc := ⟨.hbm, 58, rfl⟩
abbrev main_call0_call0_v7 : Ref sig .tc := ⟨.hbm, 59, rfl⟩
abbrev main_call0_call0_v8 : Ref sig .tc := ⟨.hbm, 60, rfl⟩
abbrev main_call0_call0_v9 : Ref sig .tc := ⟨.hbm, 61, rfl⟩
abbrev main_call0_call0_v10 : Ref sig .tc := ⟨.hbm, 62, rfl⟩
abbrev main_call0_call0_v11 : Ref sig .tc := ⟨.hbm, 63, rfl⟩
abbrev main_call0_v1 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_3 : Ref sig .tc := ⟨.hbm, 69, rfl⟩
abbrev main_v45 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_5 : Ref sig .tc := ⟨.hbm, 102, rfl⟩
abbrev main_v76 : Ref sig .tc := ⟨.hbm, 103, rfl⟩
abbrev main_v77 : Ref sig .tc := ⟨.hbm, 104, rfl⟩
abbrev main_cst_6 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_7 : Ref sig .tc := ⟨.hbm, 135, rfl⟩
abbrev main_v107 : Ref sig .tc := ⟨.hbm, 136, rfl⟩
abbrev main_v108 : Ref sig .tc := ⟨.hbm, 137, rfl⟩
abbrev main_cst_8 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_9 : Ref sig .tc := ⟨.hbm, 168, rfl⟩
abbrev main_v138 : Ref sig .tc := ⟨.hbm, 169, rfl⟩
abbrev main_v139 : Ref sig .tc := ⟨.hbm, 170, rfl⟩
abbrev main_cst_10 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_cst_11 : Ref sig .tc := ⟨.hbm, 198, rfl⟩
abbrev main_v166 : Ref sig .tc := ⟨.hbm, 199, rfl⟩
abbrev main_cst_12 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_13 : Ref sig .tc := ⟨.hbm, 205, rfl⟩
abbrev main_v171 : Ref sig .tc := ⟨.hbm, 206, rfl⟩
abbrev main_cst_14 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_cst_15 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x2048 : Shape := ⟨3, ![8, 2048, 2048]⟩
abbrev S8x3072 : Shape := ⟨2, ![8, 3072]⟩
abbrev S128x16x64 : Shape := ⟨3, ![128, 16, 64]⟩
abbrev S1024x1024 : Shape := ⟨2, ![1024, 1024]⟩
abbrev S1024 : Shape := ⟨1, ![1024]⟩
abbrev S16x128x64 : Shape := ⟨3, ![16, 128, 64]⟩
abbrev S8x2x128x64 : Shape := ⟨4, ![8, 2, 128, 64]⟩
abbrev S8x1x128x64 : Shape := ⟨4, ![8, 1, 128, 64]⟩
abbrev S8x128x64 : Shape := ⟨3, ![8, 128, 64]⟩
abbrev S_ : Shape := ⟨0, ![]⟩
abbrev S8x128x128 : Shape := ⟨3, ![8, 128, 128]⟩
abbrev S8x256x128 : Shape := ⟨3, ![8, 256, 128]⟩
abbrev S16384x1024 : Shape := ⟨2, ![16384, 1024]⟩
abbrev S16384x2048 : Shape := ⟨2, ![16384, 2048]⟩
abbrev S8x3x1024 : Shape := ⟨3, ![8, 3, 1024]⟩
abbrev S1x1024 : Shape := ⟨2, ![1, 1024]⟩
abbrev S256x1024 : Shape := ⟨2, ![256, 1024]⟩
abbrev S256x2048 : Shape := ⟨2, ![256, 2048]⟩
abbrev S1x3x1024 : Shape := ⟨3, ![1, 3, 1024]⟩
abbrev S256x256 : Shape := ⟨2, ![256, 256]⟩
abbrev S1x256x128 : Shape := ⟨3, ![1, 256, 128]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩

abbrev nBuf : Space → Nat
  | .hbm => 30
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S8x2048x1024, .f32⟩
  | .hbm, ⟨3, _⟩ => ⟨S8x3072, .f32⟩
  | .hbm, ⟨4, _⟩ => ⟨S128x16x64, .f32⟩
  | .hbm, ⟨5, _⟩ => ⟨S1024x1024, .f32⟩
  | .hbm, ⟨6, _⟩ => ⟨S1024, .f32⟩
  | .hbm, ⟨7, _⟩ => ⟨S16x128x64, .f32⟩
  | .hbm, ⟨8, _⟩ => ⟨S8x2x128x64, .f32⟩
  | .hbm, ⟨9, _⟩ => ⟨S8x1x128x64, .f32⟩
  | .hbm, ⟨10, _⟩ => ⟨S8x128x64, .f32⟩
  | .hbm, ⟨11, _⟩ => ⟨S_, .f32⟩
  | .hbm, ⟨12, _⟩ => ⟨S8x128x64, .f32⟩
  | .hbm, ⟨13, _⟩ => ⟨S8x1x128x64, .f32⟩
  | .hbm, ⟨14, _⟩ => ⟨S8x128x64, .f32⟩
  | .hbm, ⟨15, _⟩ => ⟨S8x128x128, .f32⟩
  | .hbm, ⟨16, _⟩ => ⟨S8x1x128x64, .f32⟩
  | .hbm, ⟨17, _⟩ => ⟨S8x128x64, .f32⟩
  | .hbm, ⟨18, _⟩ => ⟨S8x128x128, .f32⟩
  | .hbm, ⟨19, _⟩ => ⟨S8x256x128, .f32⟩
  | .hbm, ⟨20, _⟩ => ⟨S8x256x128, .bf16⟩
  | .hbm, ⟨21, _⟩ => ⟨S16384x1024, .f32⟩
  | .hbm, ⟨22, _⟩ => ⟨S16384x2048, .f32⟩
  | .hbm, ⟨23, _⟩ => ⟨S16384x2048, .bf16⟩
  | .hbm, ⟨24, _⟩ => ⟨S16384x1024, .f32⟩
  | .hbm, ⟨25, _⟩ => ⟨S16384x1024, .bf16⟩
  | .hbm, ⟨26, _⟩ => ⟨S1024x1024, .bf16⟩
  | .hbm, ⟨27, _⟩ => ⟨S8x3x1024, .f32⟩
  | .hbm, ⟨28, _⟩ => ⟨S1x1024, .f32⟩
  | .hbm, ⟨29, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S8x256x128, .bf16⟩
  | .local _ .vmem, ⟨7, _⟩ => ⟨S1024x1024, .bf16⟩
  | .local _ .vmem, ⟨8, _⟩ => ⟨S1x3x1024, .f32⟩
  | .local _ .vmem, ⟨9, _⟩ => ⟨S1x3x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S8x2048x2048 : Shape := ⟨3, ![8, 2048, 2048]⟩
abbrev S8x3072 : Shape := ⟨2, ![8, 3072]⟩
abbrev S128x16x64 : Shape := ⟨3, ![128, 16, 64]⟩
abbrev S1024x1024 : Shape := ⟨2, ![1024, 1024]⟩
abbrev S1024 : Shape := ⟨1, ![1024]⟩
abbrev S8x1024 : Shape := ⟨2, ![8, 1024]⟩
abbrev S8x2048x16x128 : Shape := ⟨4, ![8, 2048, 16, 128]⟩
abbrev S16x64x8x2048 : Shape := ⟨4, ![16, 64, 8, 2048]⟩
abbrev S8x2048x16x64 : Shape := ⟨4, ![8, 2048, 16, 64]⟩
abbrev S_ : Shape := ⟨0, ![]⟩
abbrev S8x1x1024 : Shape := ⟨3, ![8, 1, 1024]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S8x2048x1024, .f32⟩
  | .hbm, ⟨3, _⟩ => ⟨S8x3072, .f32⟩
  | .hbm, ⟨4, _⟩ => ⟨S128x16x64, .f32⟩
  | .hbm, ⟨5, _⟩ => ⟨S1024x1024, .f32⟩
  | .hbm, ⟨6, _⟩ => ⟨S1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x2048x16x128, .f32⟩
  | .hbm, ⟨11, _⟩ => ⟨S16x64x8x2048, .f32⟩
  | .hbm, ⟨12, _⟩ => ⟨S8x2048x16x64, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x2048x512 : Shape := ⟨3, ![8, 2048, 512]⟩
abbrev S8x3072 : Shape := ⟨2, ![8, 3072]⟩
abbrev S1024x1024 : Shape := ⟨2, ![1024, 1024]⟩
abbrev S1024 : Shape := ⟨1, ![1024]⟩
abbrev S1024x1568 : Shape := ⟨2, ![1024, 1568]⟩
abbrev S384 : Shape := ⟨1, ![384]⟩
abbrev S128 : Shape := ⟨1, ![128]⟩
abbrev S384x1536 : Shape := ⟨2, ![384, 1536]⟩
abbrev S128x16x64 : Shape := ⟨3, ![128, 16, 64]⟩
abbrev S1024x384 : Shape := ⟨2, ![1024, 384]⟩
abbrev S1024x128 : Shape := ⟨2, ![1024, 128]⟩
abbrev S1024x32 : Shape := ⟨2, ![1024, 32]⟩
abbrev S_ : Shape := ⟨0, ![]⟩
abbrev S1024x96 : Shape := ⟨2, ![1024, 96]⟩
abbrev S1024x1664 : Shape := ⟨2, ![1024, 1664]⟩
abbrev S384x16x96 : Shape := ⟨3, ![384, 16, 96]⟩
abbrev S384x16x64 : Shape := ⟨3, ![384, 16, 64]⟩
abbrev S384x1024 : Shape := ⟨2, ![384, 1024]⟩
abbrev S384x16x32 : Shape := ⟨3, ![384, 16, 32]⟩
abbrev S384x512 : Shape := ⟨2, ![384, 512]⟩
abbrev S16x64x128 : Shape := ⟨3, ![16, 64, 128]⟩
abbrev S8x2x64x128 : Shape := ⟨4, ![8, 2, 64, 128]⟩
abbrev S8x1x64x128 : Shape := ⟨4, ![8, 1, 64, 128]⟩
abbrev S8x64x128 : Shape := ⟨3, ![8, 64, 128]⟩
abbrev S8x64x256 : Shape := ⟨3, ![8, 64, 256]⟩
abbrev S8x128x256 : Shape := ⟨3, ![8, 128, 256]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S16384x1024 : Shape := ⟨2, ![16384, 1024]⟩
abbrev S16384x512 : Shape := ⟨2, ![16384, 512]⟩
abbrev S8x3x1024 : Shape := ⟨3, ![8, 3, 1024]⟩
abbrev S1x1024 : Shape := ⟨2, ![1, 1024]⟩
abbrev S1x384 : Shape := ⟨2, ![1, 384]⟩
abbrev S1x128 : Shape := ⟨2, ![1, 128]⟩
abbrev S16384x2048 : Shape := ⟨2, ![16384, 2048]⟩
abbrev S16384x256 : Shape := ⟨2, ![16384, 256]⟩
abbrev S16384x128 : Shape := ⟨2, ![16384, 128]⟩
abbrev S256x1024 : Shape := ⟨2, ![256, 1024]⟩
abbrev S256x512 : Shape := ⟨2, ![256, 512]⟩
abbrev S1x3x1024 : Shape := ⟨3, ![1, 3, 1024]⟩
abbrev S256x128 : Shape := ⟨2, ![256, 128]⟩
abbrev S256x2048 : Shape := ⟨2, ![256, 2048]⟩
abbrev S256x256 : Shape := ⟨2, ![256, 256]⟩
abbrev S512x1024 : Shape := ⟨2, ![512, 1024]⟩
abbrev S1x1x1024 : Shape := ⟨3, ![1, 1, 1024]⟩
abbrev S256 : Shape := ⟨1, ![256]⟩
abbrev S256x1 : Shape := ⟨2, ![256, 1]⟩
abbrev S256x384 : Shape := ⟨2, ![256, 384]⟩
abbrev S1x128x256 : Shape := ⟨3, ![1, 128, 256]⟩
abbrev S128x256 : Shape := ⟨2, ![128, 256]⟩

abbrev nBuf : Space → Nat
  | .hbm => 85
  | .vmem => 35
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x512, .f32⟩
  | .hbm, ⟨3, _⟩ => ⟨S8x3072, .f32⟩
  | .hbm, ⟨4, _⟩ => ⟨S8x3072, .f32⟩
  | .hbm, ⟨5, _⟩ => ⟨S1024x1024, .f32⟩
  | .hbm, ⟨6, _⟩ => ⟨S1024, .f32⟩
  | .hbm, ⟨7, _⟩ => ⟨S1024x1568, .f32⟩
  | .hbm, ⟨8, _⟩ => ⟨S384, .f32⟩
  | .hbm, ⟨9, _⟩ => ⟨S128, .f32⟩
  | .hbm, ⟨10, _⟩ => ⟨S384x1536, .f32⟩
  | .hbm, ⟨11, _⟩ => ⟨S128x16x64, .f32⟩
  | .hbm, ⟨12, _⟩ => ⟨S1024x384, .f32⟩
  | .hbm, ⟨13, _⟩ => ⟨S1024x128, .f32⟩
  | .hbm, ⟨14, _⟩ => ⟨S1024x32, .f32⟩
  | .hbm, ⟨15, _⟩ => ⟨S1024x1024, .f32⟩
  | .hbm, ⟨16, _⟩ => ⟨S_, .f32⟩
  | .hbm, ⟨17, _⟩ => ⟨S1024x96, .f32⟩
  | .hbm, ⟨18, _⟩ => ⟨S1024x1664, .f32⟩
  | .hbm, ⟨19, _⟩ => ⟨S1024x1664, .bf16⟩
  | .hbm, ⟨20, _⟩ => ⟨S384x16x96, .f32⟩
  | .hbm, ⟨21, _⟩ => ⟨S384x16x64, .f32⟩
  | .hbm, ⟨22, _⟩ => ⟨S384x1024, .f32⟩
  | .hbm, ⟨23, _⟩ => ⟨S384x16x32, .f32⟩
  | .hbm, ⟨24, _⟩ => ⟨S384x512, .f32⟩
  | .hbm, ⟨25, _⟩ => ⟨S384x1536, .f32⟩
  | .hbm, ⟨26, _⟩ => ⟨S384x1536, .bf16⟩
  | .hbm, ⟨27, _⟩ => ⟨S16x64x128, .f32⟩
  | .hbm, ⟨28, _⟩ => ⟨S8x2x64x128, .f32⟩
  | .hbm, ⟨29, _⟩ => ⟨S8x1x64x128, .f32⟩
  | .hbm, ⟨30, _⟩ => ⟨S8x64x128, .f32⟩
  | .hbm, ⟨31, _⟩ => ⟨S_, .f32⟩
  | .hbm, ⟨32, _⟩ => ⟨S8x64x128, .f32⟩
  | .hbm, ⟨33, _⟩ => ⟨S8x1x64x128, .f32⟩
  | .hbm, ⟨34, _⟩ => ⟨S8x64x128, .f32⟩
  | .hbm, ⟨35, _⟩ => ⟨S8x64x256, .f32⟩
  | .hbm, ⟨36, _⟩ => ⟨S8x1x64x128, .f32⟩
  | .hbm, ⟨37, _⟩ => ⟨S8x64x128, .f32⟩
  | .hbm, ⟨38, _⟩ => ⟨S8x64x256, .f32⟩
  | .hbm, ⟨39, _⟩ => ⟨S8x128x256, .f32⟩
  | .hbm, ⟨40, _⟩ => ⟨S8x128x256, .bf16⟩
  | .hbm, ⟨41, _⟩ => ⟨S2048, .i32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S2048, .f32⟩
  | .hbm, ⟨51, _⟩ => ⟨S2048x1, .f32⟩
  | .hbm, ⟨52, _⟩ => ⟨S1x16, .f32⟩
  | .hbm, ⟨53, _⟩ => ⟨S2048x16, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x32, .f32⟩
  | .hbm, ⟨59, _⟩ => ⟨S2048x16, .f32⟩
  | .hbm, ⟨60, _⟩ => ⟨S2048x32, .f32⟩
  | .hbm, ⟨61, _⟩ => ⟨S1x2048x1x32, .f32⟩
  | .hbm, ⟨62, _⟩ => ⟨S1x2048x4x32, .f32⟩
  | .hbm, ⟨63, _⟩ => ⟨S2048x128, .f32⟩
  | .hbm, ⟨64, _⟩ => ⟨S1x2048x1x32, .f32⟩
  | .hbm, ⟨65, _⟩ => ⟨S1x2048x4x32, .f32⟩
  | .hbm, ⟨66, _⟩ => ⟨S2048x128, .f32⟩
  | .hbm, ⟨67, _⟩ => ⟨S16384x1024, .f32⟩
  | .hbm, ⟨68, _⟩ => ⟨S16384x512, .f32⟩
  | .hbm, ⟨69, _⟩ => ⟨S16384x512, .bf16⟩
  | .hbm, ⟨70, _⟩ => ⟨S16384x512, .f32⟩
  | .hbm, ⟨71, _⟩ => ⟨S16384x512, .bf16⟩
  | .hbm, ⟨72, _⟩ => ⟨S1024x1024, .bf16⟩
  | .hbm, ⟨73, _⟩ => ⟨S8x3x1024, .f32⟩
  | .hbm, ⟨74, _⟩ => ⟨S8x3x1024, .f32⟩
  | .hbm, ⟨75, _⟩ => ⟨S1x1024, .f32⟩
  | .hbm, ⟨76, _⟩ => ⟨S1x384, .f32⟩
  | .hbm, ⟨77, _⟩ => ⟨S1x128, .f32⟩
  | .hbm, ⟨78, _⟩ => ⟨S16384x1024, .f32⟩
  | .hbm, ⟨79, _⟩ => ⟨S16384x1024, .bf16⟩
  | .hbm, ⟨80, _⟩ => ⟨S16384x2048, .bf16⟩
  | .hbm, ⟨81, _⟩ => ⟨S16384x512, .bf16⟩
  | .hbm, ⟨82, _⟩ => ⟨S16384x256, .bf16⟩
  | .hbm, ⟨83, _⟩ => ⟨S16384x128, .f32⟩
  | .hbm, ⟨84, _⟩ => ⟨S16384x128, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x3x1024, .f32⟩
  | .local _ .vmem, ⟨8, _⟩ => ⟨S1x3x1024, .f32⟩
  | .local _ .vmem, ⟨9, _⟩ => ⟨S1x3x1024, .f32⟩
  | .local _ .vmem, ⟨10, _⟩ => ⟨S1x3x1024, .f32⟩
  | .local _ .vmem, ⟨11, _⟩ => ⟨S1x1024, .f32⟩
  | .local _ .vmem, ⟨12, _⟩ => ⟨S1024x1664, .bf16⟩
  | .local _ .vmem, ⟨13, _⟩ => ⟨S1x384, .f32⟩
  | .local _ .vmem, ⟨14, _⟩ => ⟨S1x128, .f32⟩
  | .local _ .vmem, ⟨15, _⟩ => ⟨S384x1536, .bf16⟩
  | .local _ .vmem, ⟨16, _⟩ => ⟨S8x128x256, .bf16⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x2048, .bf16⟩
  | .local _ .vmem, ⟨26, _⟩ => ⟨S256x2048, .bf16⟩
  | .local _ .vmem, ⟨27, _⟩ => ⟨S256x512, .bf16⟩
  | .local _ .vmem, ⟨28, _⟩ => ⟨S256x512, .bf16⟩
  | .local _ .vmem, ⟨29, _⟩ => ⟨S256x256, .bf16⟩
  | .local _ .vmem, ⟨30, _⟩ => ⟨S256x256, .bf16⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev main_v62_5 : Ref sig .tc := ⟨.hbm, 83, rfl⟩
abbrev main_v62_6 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1664 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1536 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel4Ideal.lean ====
variable {F : FTy → Type} [FloatOps F] [Named F]
def κ : String → Option EReal := fun
  | "cs" => some ((((Real.sqrt 96) * (Real.log 2))⁻¹ : ℝ) : EReal)
  | _ => none
-- ==== Reference4Ideal.lean ====
abbrev S8x2048x1024 : Shape := ⟨3, ![8, 2048, 1024]⟩
abbrev S8x2048x512 : Shape := ⟨3, ![8, 2048, 512]⟩
abbrev S8x3072 : Shape := ⟨2, ![8, 3072]⟩
abbrev S1024x1024 : Shape := ⟨2, ![1024, 1024]⟩
abbrev S1024 : Shape := ⟨1, ![1024]⟩
abbrev S1024x1568 : Shape := ⟨2, ![1024, 1568]⟩
abbrev S384 : Shape := ⟨1, ![384]⟩
abbrev S128 : Shape := ⟨1, ![128]⟩
abbrev S384x1536 : Shape := ⟨2, ![384, 1536]⟩
abbrev S128x16x64 : Shape := ⟨3, ![128, 16, 64]⟩
abbrev S2048 : Shape := ⟨1, ![2048]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1568 : Shape := ⟨3, ![8, 2048, 1568]⟩
abbrev S8x2048x384 : Shape := ⟨3, ![8, 2048, 384]⟩
abbrev S8x2048x128 : Shape := ⟨3, ![8, 2048, 128]⟩
abbrev S8x2048x32 : Shape := ⟨3, ![8, 2048, 32]⟩
abbrev S1x1x384 : Shape := ⟨3, ![1, 1, 384]⟩
abbrev S8x2048x1536 : Shape := ⟨3, ![8, 2048, 1536]⟩
abbrev S8x2048x16x96 : Shape := ⟨4, ![8, 2048, 16, 96]⟩
abbrev S8x2048x16x32 : Shape := ⟨4, ![8, 2048, 16, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x16 : Shape := ⟨4, ![1, 2048, 1, 16]⟩
abbrev S8x2048x16x16 : Shape := ⟨4, ![8, 2048, 16, 16]⟩
abbrev S8x2048x16x64 : Shape := ⟨4, ![8, 2048, 16, 64]⟩
abbrev S16x128x8x2048 : Shape := ⟨4, ![16, 128, 8, 2048]⟩
abbrev S8x2048x16x128 : Shape := ⟨4, ![8, 2048, 16, 128]⟩
abbrev S1x1x128 : Shape := ⟨3, ![1, 1, 128]⟩
abbrev S8x2048x1x32 : Shape := ⟨4, ![8, 2048, 1, 32]⟩
abbrev S8x2048x1x16 : Shape := ⟨4, ![8, 2048, 1, 16]⟩
abbrev S8x2048x256 : Shape := ⟨3, ![8, 2048, 256]⟩
abbrev S16384x1024 : Shape := ⟨2, ![16384, 1024]⟩
abbrev S16384x2048 : Shape := ⟨2, ![16384, 2048]⟩
abbrev S16384x512 : Shape := ⟨2, ![16384, 512]⟩
abbrev S16384x256 : Shape := ⟨2, ![16384, 256]⟩
abbrev S16384x128 : Shape := ⟨2, ![16384, 128]⟩
abbrev S8x2048x96 : Shape := ⟨3, ![8, 2048, 96]⟩

abbrev nBuf : Space → Nat
  | .hbm => 181
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x512, .f32⟩
  | 3 => ⟨S8x3072, .f32⟩
  | 4 => ⟨S8x3072, .f32⟩
  | 5 => ⟨S1024x1024, .f32⟩
  | 6 => ⟨S1024, .f32⟩
  | 7 => ⟨S1024x1568, .f32⟩
  | 8 => ⟨S384, .f32⟩
  | 9 => ⟨S128, .f32⟩
  | 10 => ⟨S384x1536, .f32⟩
  | 11 => ⟨S128x16x64, .f32⟩
  | 12 => ⟨S2048, .i32⟩
  | 13 => ⟨S8x1024, .f32⟩
  | 14 => ⟨S8x1024, .f32⟩
  | 15 => ⟨S8x1024, .f32⟩
  | 16 => ⟨S8x1x1024, .f32⟩
  | 17 => ⟨S8x2048x1024, .f32⟩
  | 18 => ⟨S8x2048x1024, .f32⟩
  | 19 => ⟨S8x2048x1024, .f32⟩
  | 20 => ⟨S8x2048x1024, .f32⟩
  | 21 => ⟨S8x2048x1024, .f32⟩
  | 22 => ⟨S8x1024, .f32⟩
  | 23 => ⟨S8x1024, .f32⟩
  | 24 => ⟨S8x1024, .f32⟩
  | 25 => ⟨S8x2048x1024, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x1024, .f32⟩
  | 37 => ⟨S8x2048x1024, .f32⟩
  | 38 => ⟨S1x1x1024, .f32⟩
  | 39 => ⟨S8x2048x1024, .f32⟩
  | 40 => ⟨S8x2048x1024, .f32⟩
  | 41 => ⟨S8x1x1024, .f32⟩
  | 42 => ⟨S_, .f32⟩
  | 43 => ⟨S8x1x1024, .f32⟩
  | 44 => ⟨S8x1x1024, .f32⟩
  | 45 => ⟨S8x2048x1024, .f32⟩
  | 46 => ⟨S8x2048x1024, .f32⟩
  | 47 => ⟨S8x1x1024, .f32⟩
  | 48 => ⟨S8x2048x1024, .f32⟩
  | 49 => ⟨S8x2048x1024, .f32⟩
  | 50 => ⟨S8x2048x1568, .f32⟩
  | 51 => ⟨S8x2048x384, .f32⟩
  | 52 => ⟨S8x2048x128, .f32⟩
  | 53 => ⟨S8x2048x32, .f32⟩
  | 54 => ⟨S8x2048x1024, .f32⟩
  | 55 => ⟨S8x2048x384, .f32⟩
  | 56 => ⟨S_, .f32⟩
  | 57 => ⟨S8x2048, .f32⟩
  | 58 => ⟨S8x2048x1, .f32⟩
  | 59 => ⟨S_, .f32⟩
  | 60 => ⟨S8x2048x1, .f32⟩
  | 61 => ⟨S8x2048x1, .f32⟩
  | 62 => ⟨S_, .f32⟩
  | 63 => ⟨S8x2048x1, .f32⟩
  | 64 => ⟨S8x2048x1, .f32⟩
  | 65 => ⟨S8x2048x1, .f32⟩
  | 66 => ⟨S8x2048x384, .f32⟩
  | 67 => ⟨S8x2048x384, .f32⟩
  | 68 => ⟨S1x1x384, .f32⟩
  | 69 => ⟨S8x2048x384, .f32⟩
  | 70 => ⟨S8x2048x384, .f32⟩
  | 71 => ⟨S8x2048x1536, .f32⟩
  | 72 => ⟨S8x2048x16x96, .f32⟩
  | 73 => ⟨S8x2048x16x32, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S2048, .f32⟩
  | 83 => ⟨S2048x1, .f32⟩
  | 84 => ⟨S1x16, .f32⟩
  | 85 => ⟨S2048x16, .f32⟩
  | 86 => ⟨S2048x16, .f32⟩
  | 87 => ⟨S2048x16, .f32⟩
  | 88 => ⟨S2048x16, .f32⟩
  | 89 => ⟨S1x2048x1x16, .f32⟩
  | 90 => ⟨S2048x16, .f32⟩
  | 91 => ⟨S1x2048x1x16, .f32⟩
  | 92 => ⟨S8x2048x16x16, .f32⟩
  | 93 => ⟨S8x2048x16x16, .f32⟩
  | 94 => ⟨S8x2048x16x16, .f32⟩
  | 95 => ⟨S8x2048x16x16, .f32⟩
  | 96 => ⟨S8x2048x16x16, .f32⟩
  | 97 => ⟨S8x2048x16x16, .f32⟩
  | 98 => ⟨S8x2048x16x16, .f32⟩
  | 99 => ⟨S8x2048x16x16, .f32⟩
  | 100 => ⟨S8x2048x16x16, .f32⟩
  | 101 => ⟨S8x2048x16x16, .f32⟩
  | 102 => ⟨S8x2048x16x16, .f32⟩
  | 103 => ⟨S8x2048x16x16, .f32⟩
  | 104 => ⟨S8x2048x16x32, .f32⟩
  | 105 => ⟨S8x2048x16x64, .f32⟩
  | 106 => ⟨S16x128x8x2048, .f32⟩
  | 107 => ⟨S8x2048x16x128, .f32⟩
  | 108 => ⟨S8x2048x128, .f32⟩
  | 109 => ⟨S_, .f32⟩
  | 110 => ⟨S8x2048, .f32⟩
  | 111 => ⟨S8x2048x1, .f32⟩
  | 112 => ⟨S_, .f32⟩
  | 113 => ⟨S8x2048x1, .f32⟩
  | 114 => ⟨S8x2048x1, .f32⟩
  | 115 => ⟨S_, .f32⟩
  | 116 => ⟨S8x2048x1, .f32⟩
  | 117 => ⟨S8x2048x1, .f32⟩
  | 118 => ⟨S8x2048x1, .f32⟩
  | 119 => ⟨S8x2048x128, .f32⟩
  | 120 => ⟨S8x2048x128, .f32⟩
  | 121 => ⟨S1x1x128, .f32⟩
  | 122 => ⟨S8x2048x128, .f32⟩
  | 123 => ⟨S8x2048x128, .f32⟩
  | 124 => ⟨S8x2048x1x32, .f32⟩
  | 125 => ⟨S16, .f32⟩
  | 126 => ⟨S16, .f32⟩
  | 127 => ⟨S_, .f32⟩
  | _ => ⟨S8x2048x1024, .f32⟩

abbrev hbmTy0_1 (i : Nat) : BufTy := match i % 128 with
  | 0 => ⟨S16, .f32⟩
  | 1 => ⟨S16, .f32⟩
  | 2 => ⟨S_, .f32⟩
  | 3 => ⟨S16, .f32⟩
  | 4 => ⟨S16, .f32⟩
  | 5 => ⟨S2048, .f32⟩
  | 6 => ⟨S2048x1, .f32⟩
  | 7 => ⟨S1x16, .f32⟩
  | 8 => ⟨S2048x16, .f32⟩
  | 9 => ⟨S2048x16, .f32⟩
  | 10 => ⟨S2048x16, .f32⟩
  | 11 => ⟨S2048x16, .f32⟩
  | 12 => ⟨S1x2048x1x16, .f32⟩
  | 13 => ⟨S2048x16, .f32⟩
  | 14 => ⟨S1x2048x1x16, .f32⟩
  | 15 => ⟨S8x2048x1x16, .f32⟩
  | 16 => ⟨S8x2048x1x16, .f32⟩
  | 17 => ⟨S8x2048x1x16, .f32⟩
  | 18 => ⟨S8x2048x1x16, .f32⟩
  | 19 => ⟨S8x2048x1x16, .f32⟩
  | 20 => ⟨S8x2048x1x16, .f32⟩
  | 21 => ⟨S8x2048x1x16, .f32⟩
  | 22 => ⟨S8x2048x1x16, .f32⟩
  | 23 => ⟨S8x2048x1x16, .f32⟩
  | 24 => ⟨S8x2048x1x16, .f32⟩
  | 25 => ⟨S8x2048x1x16, .f32⟩
  | 26 => ⟨S8x2048x1x16, .f32⟩
  | 27 => ⟨S8x2048x1x32, .f32⟩
  | 28 => ⟨S8x2048x32, .f32⟩
  | 29 => ⟨S_, .f32⟩
  | 30 => ⟨S_, .f32⟩
  | 31 => ⟨S_, .f32⟩
  | 32 => ⟨S_, .f32⟩
  | 33 => ⟨S_, .f32⟩
  | 34 => ⟨S8x2048x256, .f32⟩
  | 35 => ⟨S16384x1024, .f32⟩
  | 36 => ⟨S16384x1024, .f32⟩
  | 37 => ⟨S16384x1024, .bf16⟩
  | 38 => ⟨S8x2048x16x128, .f32⟩
  | 39 => ⟨S8x2048x16x128, .f32⟩
  | 40 => ⟨S16384x2048, .f32⟩
  | 41 => ⟨S16384x2048, .bf16⟩
  | 42 => ⟨S8x2048x16x32, .f32⟩
  | 43 => ⟨S8x2048x16x32, .f32⟩
  | 44 => ⟨S16384x512, .f32⟩
  | 45 => ⟨S16384x512, .bf16⟩
  | 46 => ⟨S16384x256, .f32⟩
  | 47 => ⟨S16384x256, .bf16⟩
  | 48 => ⟨S16384x128, .f32⟩
  | 49 => ⟨S_, .f32⟩
  | 50 => ⟨S8x2048x96, .f32⟩
  | 51 => ⟨S8x2048x128, .f32⟩
  | 52 => ⟨S16384x128, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_3 : Ref sig .tc := ⟨.hbm, 56, rfl⟩
abbrev main_v40 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_8 : Ref sig .tc := ⟨.hbm, 109, rfl⟩
abbrev main_v88 : Ref sig .tc := ⟨.hbm, 110, rfl⟩
abbrev main_v89 : Ref sig .tc := ⟨.hbm, 111, rfl⟩
abbrev main_cst_9 : Ref sig .tc := ⟨.hbm, 112, rfl⟩
abbrev main_v90 : Ref sig .tc := ⟨.hbm, 113, rfl⟩
abbrev main_v91 : Ref sig .tc := ⟨.hbm, 114, rfl⟩
abbrev main_cst_10 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_11 : Ref sig .tc := ⟨.hbm, 127, rfl⟩
abbrev main_v103 : Ref sig .tc := ⟨.hbm, 128, rfl⟩
abbrev main_v104 : Ref sig .tc := ⟨.hbm, 129, rfl⟩
abbrev main_cst_12 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_cst_13 : Ref sig .tc := ⟨.hbm, 157, rfl⟩
abbrev main_v131 : Ref sig .tc := ⟨.hbm, 158, rfl⟩
abbrev main_cst_14 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_15 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩

abbrev nD : Nat := 1
abbrev τ : Topo := Topo.v7x

variable {F : FTy → Type} [FloatOps F]
-- ==== Proof.Finite.lean ====
module

public import proofs.«01_k».proof.Pre_finite
public import Idealize.ShloMosaic.Lib.ReduceAll
public import Idealize.ShloMosaic.Lib.Pointwise

@[expose] public section

set_option maxRecDepth 16384

noncomputable section

/-! The precondition: every argument element is a real number. -/

namespace Cert.Pre_finite

open Idealize.ShloMosaic

/-- The precondition's shape relations hold. -/
theorem facts : Facts where
  bcast_S_S8x2048x16x128 := by decide
  reducesTo_S8x2048x16x128_S_d0_1_2_3 := by decide
  h_S_ := by decide
  bcast_S_S8x2048x16x32 := by decide
  reducesTo_S8x2048x16x32_S_d0_1_2_3 := by decide
  bcast_S_S8x2048x128 := by decide
  reducesTo_S8x2048x128_S_d0_1_2 := by decide
  bcast_S_S8x2048x32 := by decide
  reducesTo_S8x2048x32_S_d0_1_2 := by decide

theorem real_of (x : EReal) (h : Ideal.cmp .olt (max x (-x)) (Ideal.ofBits .f32 0x7F800000#32) = 1#1) : x = ((x.toReal : ℝ) : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => rfl

theorem and_one {a b : BitVec 1} (h : IntOp.andi a b = 1#1) : a = 1#1 ∧ b = 1#1 := by
  revert a b; decide

/-- Of a finite argument every element is a real number. -/
theorem all_real [Facts] (X0 : FVec Ideal S8x2048x16x128 .f32) (X1 : FVec Ideal S8x2048x16x32 .f32) (X2 : FVec Ideal S8x2048x128 .f32) (X3 : FVec Ideal S8x2048x32 .f32)
    (h : fn (F := Ideal) X0 X1 X2 X3 = fun _ => 1#1) :
    (∀ i, X0 i = (((X0 i : EReal).toReal : ℝ) : EReal)) ∧ (∀ i, X1 i = (((X1 i : EReal).toReal : ℝ) : EReal))
    ∧ (∀ i, X2 i = (((X2 i : EReal).toReal : ℝ) : EReal)) ∧ (∀ i, X3 i = (((X3 i : EReal).toReal : ℝ) : EReal)) := by
  have e := congrFun h (Shape.Idx.first Facts.h_S_)
  obtain ⟨e, e3⟩ := and_one e
  obtain ⟨e, e2⟩ := and_one e
  obtain ⟨e0, e1⟩ := and_one e
  exact ⟨fun i => real_of _ (Host.reduce_andi_all _ _ _ _ _ e0 i), fun i => real_of _ (Host.reduce_andi_all _ _ _ _ _ e1 i),
    fun i => real_of _ (Host.reduce_andi_all _ _ _ _ _ e2 i), fun i => real_of _ (Host.reduce_andi_all _ _ _ _ _ e3 i)⟩

end Cert.Pre_finite

end
-- ==== Proof.Online.lean ====
module

public import Idealize.ShloMosaic.PureOps.Ideal
public import Idealize.ShloMosaic.PureOps.Ideal.Laws

@[expose] public section

noncomputable section

/-! A softmax computed block by block in base two: the running maximum, the weights and their sums, over the
    extended reals, read back as real numbers. -/

namespace Cert.Online

open Idealize.ShloMosaic

/-- The weight `2 ^ x` of a score, zero for a masked one. -/
def w (x : EReal) : ℝ := (Ideal.exp2 x).toReal

theorem w_bot : w ⊥ = 0 := by simp [w]

theorem w_coe (r : ℝ) : w (r : EReal) = Real.rpow 2 r := by simp [w]

theorem exp2_sub {x : EReal} (hx : x ≠ ⊤) (M : ℝ) :
    Ideal.exp2 (x - (M : EReal)) = ((Real.rpow 2 (-M) * w x : ℝ) : EReal) := by
  induction x using EReal.rec with
  | bot => rw [EReal.bot_sub, Ideal.exp2_bot, w_bot]; simp
  | coe r =>
    rw [← EReal.coe_sub, Ideal.exp2_coe, w_coe, mul_comm]
    norm_cast
    exact (Real.rpow_sub two_pos r M).trans (by rw [div_eq_mul_inv, ← Real.rpow_neg two_pos.le]; rfl)
  | top => exact absurd rfl hx

theorem coe_of_ne {x : EReal} (h1 : x ≠ ⊥) (h2 : x ≠ ⊤) : ∃ r : ℝ, x = (r : EReal) :=
  ⟨x.toReal, (EReal.coe_toReal h2 h1).symm⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- One row of the running state, over `L` lanes and `C` columns: either nothing was seen, or every lane holds one
    real maximum `M` and column `c` holds `2 ^ (-M) * T c`. -/
def Inv {L C : Type} (m : L → EReal) (a : C → EReal) (T : C → ℝ) : Prop :=
  ((∀ l, m l = ⊥) ∧ (∀ c, a c = 0) ∧ ∀ c, T c = 0) ∨
    ∃ M : ℝ, (∀ l, m l = (M : EReal)) ∧ ∀ c, a c = ((Real.rpow 2 (-M) * T c : ℝ) : EReal)

/-- One block of keys goes into a row: the maximum `B` of the block joins the running one, the old columns are
    rescaled and the block's weighted values are added. -/
theorem step {L C K : Type} [Fintype K] {m m' : L → EReal} {a a' : C → EReal} {T : C → ℝ}
    (s : K → EReal) (v : K → C → ℝ) (B : EReal) (lc : C → L) (lk : K → L) (h : Inv m a T) (hs : ∀ k, s k ≠ ⊤)
    (hB : B ≠ ⊤) (hB' : B ≠ ⊥ ∨ ∀ l, m l ≠ ⊥) (hm' : ∀ l, m' l = max (m l) B)
    (ha' : ∀ c, a' c = Ideal.exp2 (m (lc c) - m' (lc c)) * a c
      + ∑ k, Ideal.exp2 (s k - m' (lk k)) * (v k c : EReal)) :
    ∃ M : ℝ, (∀ l, m' l = (M : EReal)) ∧
      ∀ c, a' c = ((Real.rpow 2 (-M) * (T c + ∑ k, w (s k) * v k c) : ℝ) : EReal) := by
  have key : ∀ (M' : ℝ), (∀ l, m' l = (M' : EReal)) →
      (∀ c, Ideal.exp2 (m (lc c) - (M' : EReal)) * a c = ((Real.rpow 2 (-M') * T c : ℝ) : EReal)) →
      ∃ M : ℝ, (∀ l, m' l = (M : EReal)) ∧
      ∀ c, a' c = ((Real.rpow 2 (-M) * (T c + ∑ k, w (s k) * v k c) : ℝ) : EReal) := by
    intro M' hM hold
    refine ⟨M', hM, fun c => ?_⟩
    have hk : ∀ k, Ideal.exp2 (s k - m' (lk k)) * (v k c : EReal)
        = ((Real.rpow 2 (-M') * (w (s k) * v k c) : ℝ) : EReal) := fun k => by
      rw [hM, exp2_sub (hs k), ← EReal.coe_mul, mul_assoc]
    rw [ha', hM, hold, Finset.sum_congr rfl fun k _ => hk k, ← coe_sum, ← EReal.coe_add, ← Finset.mul_sum, mul_add]
  rcases h with ⟨hm, ha, hT⟩ | ⟨M, hm, ha⟩
  · by_cases hL : Nonempty L
    · obtain ⟨l0⟩ := hL
      have hb : B ≠ ⊥ := hB'.resolve_right fun hh => hh l0 (hm l0)
      obtain ⟨b, rfl⟩ := coe_of_ne hb hB
      refine key b (fun l => ?_) fun c => ?_
      · rw [hm', hm]; exact max_eq_right bot_le
      · rw [ha, hT]; simp
    · refine key 0 (fun l => (hL ⟨l⟩).elim) fun c => (hL ⟨lc c⟩).elim
  · have : ∃ M' : ℝ, max (M : EReal) B = (M' : EReal) := by
      refine coe_of_ne (fun hh => ?_) fun hh => ?_
      · exact EReal.coe_ne_bot M (le_bot_iff.1 (hh ▸ le_max_left _ _))
      · rcases max_choice (M : EReal) B with h1 | h1
        · exact EReal.coe_ne_top M (h1 ▸ hh)
        · exact hB (h1 ▸ hh)
    obtain ⟨M', hM'⟩ := this
    refine key M' (fun l => by rw [hm', hm, hM']) fun c => ?_
    rw [hm, ha, exp2_sub (EReal.coe_ne_top M), ← EReal.coe_mul, w_coe]
    congr 1
    have : Real.rpow 2 M * Real.rpow 2 (-M) = 1 := by
      have := Real.rpow_add two_pos M (-M)
      simpa using this.symm
    calc Real.rpow 2 (-M') * Real.rpow 2 M * (Real.rpow 2 (-M) * T c)
        = Real.rpow 2 (-M') * (Real.rpow 2 M * Real.rpow 2 (-M)) * T c := by ring
      _ = _ := by rw [this]; ring

theorem inv_of {L C : Type} {m : L → EReal} {a : C → EReal} {T : C → ℝ}
    (h : ∃ M : ℝ, (∀ l, m l = (M : EReal)) ∧ ∀ c, a c = ((Real.rpow 2 (-M) * T c : ℝ) : EReal)) : Inv m a T := .inr h

/-- A maximum of scores none of which is `⊤` is not `⊤`. -/
theorem fold_ne_top {K : Type} (S : Finset K) (s : K → EReal) (hs : ∀ k, s k ≠ ⊤) : S.fold max ⊥ s ≠ ⊤ := by
  classical
  induction S using Finset.induction_on with
  | empty => simp
  | insert a S ha ih =>
    rw [Finset.fold_insert ha]
    rcases max_choice (s a) (S.fold max ⊥ s) with h | h <;> rw [h]
    · exact hs a
    · exact ih

/-- A maximum is at least each of the scores. -/
theorem le_fold {K : Type} (S : Finset K) (s : K → EReal) {k : K} (hk : k ∈ S) : s k ≤ S.fold max ⊥ s := by
  classical
  induction S using Finset.induction_on with
  | empty => simp at hk
  | insert a S ha ih =>
    rw [Finset.fold_insert ha]
    rcases Finset.mem_insert.1 hk with rfl | h
    · exact le_max_left _ _
    · exact (ih h).trans (le_max_right _ _)

theorem fold_ne_bot {K : Type} (S : Finset K) (s : K → EReal) {k : K} (hk : k ∈ S) (h : s k ≠ ⊥) :
    S.fold max ⊥ s ≠ ⊥ := fun hh => h (le_bot_iff.1 (hh ▸ le_fold S s hk))

theorem max_ne_top {x y : EReal} (hx : x ≠ ⊤) (hy : y ≠ ⊤) : max x y ≠ ⊤ := by
  rcases max_choice x y with h | h <;> rw [h] <;> assumption

/-- What is left of a row at its end: the weighted values over the sum of the weights. -/
theorem ratio (M t u : ℝ) (hu : u ≠ 0) :
    Ideal.div ((Real.rpow 2 (-M) * t : ℝ) : EReal) ((Real.rpow 2 (-M) * u : ℝ) : EReal) = ((t / u : ℝ) : EReal) := by
  have h2 : Real.rpow 2 (-M) ≠ 0 := (Real.rpow_pos_of_pos two_pos _).ne'
  rw [Ideal.div_coe (mul_ne_zero h2 hu), ← EReal.coe_mul]
  congr 1
  field_simp

/-- A row of the plain softmax: the exponentials less the maximum, over their sum, times the values. -/
theorem softmax {K : Type} [Fintype K] (x : K → EReal) (u : K → ℝ) (v : K → ℝ) (M : ℝ)
    (hx : ∀ k, Ideal.exp (x k - (M : EReal)) = ((Real.exp (-M) * u k : ℝ) : EReal)) (hu : ∑ k, u k ≠ 0) :
    ∑ k, (v k : EReal) * Ideal.div (Ideal.exp (x k - (M : EReal))) (∑ l, Ideal.exp (x l - (M : EReal)))
      = ((∑ k, u k * v k) / ∑ k, u k : ℝ) := by
  have hS : ∑ l, Ideal.exp (x l - (M : EReal)) = ((Real.exp (-M) * ∑ k, u k : ℝ) : EReal) := by
    rw [Finset.sum_congr rfl fun k _ => hx k, ← coe_sum, ← Finset.mul_sum]
  have hk : ∀ k, (v k : EReal) * Ideal.div (Ideal.exp (x k - (M : EReal))) (∑ l, Ideal.exp (x l - (M : EReal)))
      = ((u k * v k / ∑ k, u k : ℝ) : EReal) := fun k => by
    rw [hS, hx, Ideal.div_coe (mul_ne_zero (Real.exp_pos _).ne' hu), ← EReal.coe_mul, ← EReal.coe_mul]
    congr 1
    have := (Real.exp_pos (-M)).ne'
    field_simp
  rw [Finset.sum_congr rfl fun k _ => hk k, ← coe_sum, Finset.sum_div]

end Cert.Online

end
-- ==== Proof.Pay.lean ====
module

public import proofs.«01_k».proof.Proof.Gen.KernelIdeal.Skeleton
public import proofs.«01_k».proof.Proof.Online
public import Idealize.ShloMosaic.Lib.Pointwise
public import Idealize.ShloMosaic.Lib.WordCmp

@[expose] public section

set_option maxRecDepth 16384

noncomputable section

namespace Cert.KernelIdeal.Att

open Cert.KernelIdeal Cert.KernelIdeal.Gen Idealize.ShloMosaic Idealize.ShloMosaic.TcCoe Idealize.SL.Sem

/-- The scores of a block of keys. -/
def sc (Q : FVec Ideal S2048x256 .bf16) (K : Vec Ideal S1x512x256 .bf16) : FVec Ideal S2048x512 .f32 := k0_pay7 Q K

/-- The running maximum after a block. -/
def mNew (s : FVec Ideal S2048x512 .f32) (m : Vec Ideal S1x2048x128 .f32) : FVec Ideal S1x2048x128 .f32 :=
  k0_pay37 (k0_pay33 s m)

/-- The running columns after a block. -/
def aNew (s : FVec Ideal S2048x512 .f32) (K : Vec Ideal S1x512x256 .bf16) (m : Vec Ideal S1x2048x128 .f32)
    (a : Vec Ideal S1x2048x256 .f32) : FVec Ideal S1x2048x256 .f32 :=
  k0_pay36 (k0_pay31 K) (k0_pay34 s m) (k0_pay35 s m) a

/-- The block of scores `s` of the keys from `o` on, with the keys of later chunks masked. -/
def msk (o : BitVec 32) (qc : IVec S1x128x1 32) (ki : IVec S1x1x512 32) (s : FVec Ideal S2048x512 .f32) : FVec Ideal S2048x512 .f32 :=
  shapeCast S2048x512 (select (broadcastTo S16x128x512 (shapeCast S1x128x512 (cmpi .sle
      (broadcastTo S1x128x512 (shrsi (addi (broadcast S1x1x512 o) ki) (broadcast S1x1x512 6#32)) broadcasts_S1x1x512_S1x128x512)
      (broadcastTo S1x128x512 qc broadcasts_S1x128x1_S1x128x512)) shapeCasts_S1x128x512_S1x128x512) broadcasts_S1x128x512_S16x128x512)
    (shapeCast S16x128x512 s shapeCasts_S2048x512_S16x128x512)
    (broadcast S16x128x512 (Named.named κ "mask" 0xF149F2CA#32 : Ideal .f32))) shapeCasts_S16x128x512_S2048x512

theorem pay1_eq (qc : IVec S1x128x1 32) (ki : IVec S1x1x512 32) (Q : FVec Ideal S2048x256 .bf16) (K : Vec Ideal S1x512x256 .bf16) :
    k0_pay1 qc ki Q K = msk 0#32 qc ki (sc Q K) := rfl
theorem pay16_eq (qc : IVec S1x128x1 32) (ki : IVec S1x1x512 32) (s : FVec Ideal S2048x512 .f32) :
    k0_pay16 qc ki s = msk 512#32 qc ki s := rfl
theorem pay38_eq (qc : IVec S1x128x1 32) (ki : IVec S1x1x512 32) (s : FVec Ideal S2048x512 .f32) :
    k0_pay38 qc ki s = msk 1024#32 qc ki s := rfl
theorem pay66_eq (qc : IVec S1x128x1 32) (ki : IVec S1x1x512 32) (s : FVec Ideal S2048x512 .f32) :
    k0_pay66 qc ki s = msk 1536#32 qc ki s := rfl

theorem negInf : Ideal.ofBits .f32 0xFF800000#32 = ⊥ := by simp [Ideal.ofBits, Ideal.ieee]

/-- The lane a column is kept under. -/
def lane {n : ℕ} (c : Fin n) : Fin 128 := ⟨(c : ℕ) % 128, Nat.mod_lt _ (by decide)⟩

theorem sc_at (Q : FVec Ideal S2048x256 .bf16) (K : Vec Ideal S1x512x256 .bf16) (r : Fin 2048) (k : Fin 512) :
    sc Q K (ix2 r k) = ∑ x : Fin 256, Q (ix2 r x) * K (ix3 0 k x) := by
  pointwise [sc, k0_pay7]

/-- The largest score of a row of a block. -/
def bm (s : FVec Ideal S2048x512 .f32) (r : Fin 2048) : EReal :=
  Finset.univ.fold max ⊥ fun x : Fin 128 => max (max (max (s (ix2 r ⟨x, by omega⟩)) (s (ix2 r ⟨128 + x, by omega⟩)))
    (s (ix2 r ⟨256 + x, by omega⟩))) (s (ix2 r ⟨384 + x, by omega⟩))

theorem bm_ne_top (s : FVec Ideal S2048x512 .f32) (r : Fin 2048) (h : ∀ k, s (ix2 r k) ≠ (⊤ : EReal)) : bm s r ≠ ⊤ :=
  Online.fold_ne_top _ _ fun _ => Online.max_ne_top (Online.max_ne_top (Online.max_ne_top (h _) (h _)) (h _)) (h _)

theorem bm_ne_bot (s : FVec Ideal S2048x512 .f32) (r : Fin 2048) (k : Fin 512) (h : s (ix2 r k) ≠ (⊥ : EReal)) : bm s r ≠ ⊥ := by
  refine Online.fold_ne_bot _ _ (Finset.mem_univ (lane k)) fun hh => h (le_bot_iff.1 ?_)
  have hk := k.isLt
  rw [← hh]
  have hc : (k : ℕ) / 128 = 0 ∨ (k : ℕ) / 128 = 1 ∨ (k : ℕ) / 128 = 2 ∨ (k : ℕ) / 128 = 3 := by omega
  rcases hc with hc | hc | hc | hc
  · refine le_trans (le_of_eq (congrArg (fun j => s (ix2 r j)) (Fin.ext ?_))) ((le_max_left _ _).trans ((le_max_left _ _).trans (le_max_left _ _)))
    simp only [lane]; omega
  · refine le_trans (le_of_eq (congrArg (fun j => s (ix2 r j)) (Fin.ext ?_))) ((le_max_right _ _).trans ((le_max_left _ _).trans (le_max_left _ _)))
    simp only [lane]; omega
  · refine le_trans (le_of_eq (congrArg (fun j => s (ix2 r j)) (Fin.ext ?_))) ((le_max_right _ _).trans (le_max_left _ _))
    simp only [lane]; omega
  · refine le_trans (le_of_eq (congrArg (fun j => s (ix2 r j)) (Fin.ext ?_))) (le_max_right _ _)
    simp only [lane]; omega

theorem pay33_at (s : FVec Ideal S2048x512 .f32) (m : Vec Ideal S1x2048x128 .f32) (r : Fin 2048) (l : Fin 128) :
    k0_pay33 s m (ix2 r l) = max (m (ix3 0 r l)) (bm s r) := by
  pointwise [k0_pay33, k0_pay32]
  rw [negInf]; rfl

theorem mNew_at (s : FVec Ideal S2048x512 .f32) (m : Vec Ideal S1x2048x128 .f32) (r : Fin 2048) (l : Fin 128) :
    mNew s m (ix3 0 r l) = max (m (ix3 0 r l)) (bm s r) := by
  pointwise [mNew, k0_pay37]
  exact pay33_at s m r l

theorem aNew_at (s : FVec Ideal S2048x512 .f32) (K : Vec Ideal S1x512x256 .bf16) (m : Vec Ideal S1x2048x128 .f32)
    (a : Vec Ideal S1x2048x256 .f32) (r : Fin 2048) (c : Fin 256) :
    aNew s K m a (ix3 0 r c) = Ideal.exp2 (m (ix3 0 r (lane c)) - mNew s m (ix3 0 r (lane c))) * a (ix3 0 r c)
      + ∑ k : Fin 512, Ideal.exp2 (s (ix2 r k) - mNew s m (ix3 0 r (lane k))) * (if (c : ℕ) < 128 then K (ix3 0 k c) else (1 : EReal)) := by
  have h33 : ∀ l, k0_pay33 s m (ix2 r l) = mNew s m (ix3 0 r l) := fun l => by rw [pay33_at, mNew_at]
  pointwise [aNew, k0_pay36, k0_pay31, k0_pay34, k0_pay35]
  have e1 : ∀ l, k0_pay32 m (ix2 r l) = m (ix3 0 r l) := fun l => by pointwise [k0_pay32]
  have hc := c.isLt
  refine congrArg₂ (· + ·) (congrArg (· * _) ?_) (Finset.sum_congr rfl fun k _ => congrArg₂ (· * ·) ?_ ?_)
  · simp only [e1, h33]
    by_cases h : (c : ℕ) < 128
    · simp only [dif_pos h]
      rw [show (⟨(c : ℕ), h⟩ : Fin 128) = lane c from Fin.ext (by simp only [lane]; omega)]; rfl
    · simp only [dif_neg h]
      rw [show (⟨(c : ℕ) - 128, by omega⟩ : Fin 128) = lane c from Fin.ext (by simp only [lane]; omega)]; rfl
  · have hk := k.isLt
    simp only [h33]
    refine congrArg Ideal.exp2 (congrArg (s (ix2 r k) - ·) ?_)
    split_ifs <;> exact congrArg (fun j => mNew s m (ix3 0 r j)) (Fin.ext (by simp only [lane]; omega))
  · split_ifs <;> rfl

theorem shr6 (n : ℕ) (h : n < 2048) : IntOp.shrsi .vector (BitVec.ofNat 32 n) 6#32 = BitVec.ofNat 32 (n / 64) :=
  (by decide +kernel : ∀ n : Fin 2048, IntOp.shrsi .vector (BitVec.ofNat 32 n.val) 6#32 = BitVec.ofNat 32 (n.val / 64)) ⟨n, h⟩

theorem msk_at (o q : ℕ) (ho : o ≤ 1536) (qc : IVec S1x128x1 32) (ki : IVec S1x1x512 32) (s : FVec Ideal S2048x512 .f32)
    (r : Fin 2048) (k : Fin 512) (hq : q < 2048) (hqc : qc (ix3 0 ⟨(r : ℕ) % 128, Nat.mod_lt _ (by decide)⟩ 0) = BitVec.ofNat 32 (q / 64))
    (hki : ki (ix3 0 0 k) = BitVec.ofNat 32 k) :
    msk (BitVec.ofNat 32 o) qc ki s (ix2 r k) = if (o + k) / 64 ≤ q / 64 then s (ix2 r k) else (⊥ : EReal) := by
  pointwise [msk]
  have hadd : IntOp.addi (BitVec.ofNat 32 o) (ki (ix3 0 0 k)) = BitVec.ofNat 32 (o + k) := by
    rw [hki]; exact (BitVec.ofNat_add o k).symm
  have hk := k.isLt
  rw [hadd, shr6 _ (by omega), hqc]
  unfold Scalar.select
  have hiff := WordCmp.cmpi_sle_ofNat_eq_one_iff (w := 32) (a := (o + k) / 64) (b := q / 64) (by omega) (by omega)
  by_cases h : (o + k) / 64 ≤ q / 64
  · rw [if_pos h, hiff.2 h]; rfl
  · rw [if_neg h]
    exact if_neg fun e => h (hiff.1 e)

end Cert.KernelIdeal.Att

end
-- ==== Proof.Stack.lean ====
module

public import proofs.«01_k».proof.Proof.Gen.KernelIdeal.Value
public import proofs.«01_k».proof.Proof.Pay
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
/-- The chunks of the point's queries. -/
def qcv (t : Fin cfg0.N) : IVec S1x128x1 32 := k0_pay116 (BitVec.ofNat 32 ((grid0.coords t) 1))

/-- The places of a block's keys. -/
def kiv : IVec S1x1x512 32 := iota .tc S1x1x512 32 [2] iota_S1x1x512_d2_w32

/-- The running maximum before the first block. -/
def m0 : Vec Ideal S1x2048x128 .f32 := k0_pay114 (F := Ideal)

/-- The running columns before the first block. -/
def a0 : Vec Ideal S1x2048x256 .f32 := k0_pay115 (F := Ideal)

/-- The blocks of keys. -/
def kb0 (X : Vec Ideal S1x2048x256 .bf16) : Vec Ideal S1x512x256 .bf16 := View.ld X (Rect.unit ![0, 0, 0] ![1, 512, 256] inb_S1x2048x256_S1x512x256_0_0_0)
def kb1 (X : Vec Ideal S1x2048x256 .bf16) : Vec Ideal S1x512x256 .bf16 := View.ld X (Rect.unit ![0, 512, 0] ![1, 512, 256] inb_S1x2048x256_S1x512x256_0_512_0)
def kb2 (X : Vec Ideal S1x2048x256 .bf16) : Vec Ideal S1x512x256 .bf16 := View.ld X (Rect.unit ![0, 1024, 0] ![1, 512, 256] inb_S1x2048x256_S1x512x256_0_1024_0)
def kb3 (X : Vec Ideal S1x2048x256 .bf16) : Vec Ideal S1x512x256 .bf16 := View.ld X (Rect.unit ![0, 1536, 0] ![1, 512, 256] inb_S1x2048x256_S1x512x256_0_1536_0)

/-- The columns after an open block. -/
def open1 (Q : FVec Ideal S2048x256 .bf16) (K : Vec Ideal S1x512x256 .bf16) (p : Vec Ideal S1x2048x128 .f32 × Vec Ideal S1x2048x256 .f32) :
    Vec Ideal S1x2048x128 .f32 × Vec Ideal S1x2048x256 .f32 := (mNew (sc Q K) p.1, aNew (sc Q K) K p.1 p.2)

/-- The columns after the last block, which is masked. -/
def last1 (o : BitVec 32) (qc : IVec S1x128x1 32) (Q : FVec Ideal S2048x256 .bf16) (K : Vec Ideal S1x512x256 .bf16)
    (p : Vec Ideal S1x2048x128 .f32 × Vec Ideal S1x2048x256 .f32) : Vec Ideal S1x2048x256 .f32 :=
  aNew (msk o qc kiv (sc Q K)) K p.1 p.2

/-- The stacked row of query `a` in the head that holds column `b`. -/
def rowOf (a : Fin 128) (b : Fin 2048) : Fin 2048 := ⟨(b : ℕ) / 128 * 128 + (a : ℕ), by omega⟩

/-- The output block of a point, of the columns left by its last block of keys. -/
def finv (A : Vec Ideal S1x2048x256 .f32) : FVec Ideal S1x128x2048 .bf16 := fun y => k0_pay127 (F := Ideal) A (ix2 (rowOf (y 1) (y 2)) (lane (n := 2048) (y 2)))

theorem row_of {a b c d o : ℕ} (h1 : a = c) (h2 : b = o + d) (ho : o % 128 = 0) (hd : d < 128) : o + c = b / 128 * 128 + a := by omega
theorem col_of {b d o : ℕ} (h2 : b = o + d) (ho : o % 128 = 0) (hd : d < 128) : d = b % 128 := by omega

/-- A row of the stacked rows. -/
def rowAt (o : ℕ) (ho : o ≤ 1920) (a : Fin 128) : Fin 2048 := ⟨o + a, by omega⟩

theorem eq_blk (x : S1x128x128.Idx) : x = ix3 (0 : Fin 1) (x 1 : Fin 128) (x 2 : Fin 128) := by
  refine (eq_ix3 x).trans (congrArg (fun z : Fin 1 => ix3 z (x 1 : Fin 128) (x 2 : Fin 128)) (Subsingleton.elim _ _))

theorem fin_piece (g : FVec Ideal S2048x128 .bf16 → FVec Ideal S1x128x128 .bf16) (A : Vec Ideal S1x2048x256 .f32) (x : S1x128x128.Idx) (y : S1x128x2048.Idx)
    (o : ℕ) (ho : o % 128 = 0) (ho' : o ≤ 1920) (hg : ∀ p (a b : Fin 128), g p (ix3 (0 : Fin 1) a b) = p (ix2 (rowAt o ho' a) b))
    (h1 : (y 1 : ℕ) = (x 1 : ℕ)) (h2 : (y 2 : ℕ) = o + (x 2 : ℕ)) : g (k0_pay127 (F := Ideal) A) x = finv A y :=
  ((congrArg (g _) (eq_blk x)).trans (hg _ _ _)).trans (congrArg (k0_pay127 (F := Ideal) A)
    (congrArg₂ ix2 (Fin.ext (row_of h1 h2 ho (x 2 : Fin 128).isLt)) (Fin.ext (col_of h2 ho (x 2 : Fin 128).isLt))))

/-- The first head's rows as a block. -/
def head0 (p : FVec Ideal S2048x128 .bf16) : FVec Ideal S1x128x128 .bf16 :=
  shapeCast S1x128x128 (extractStridedSlice S128x128 ![0, 0] p slices_S2048x128_o0_0_S128x128) shapeCasts_S128x128_S1x128x128

theorem pay128_eq (A : Vec Ideal S1x2048x256 .f32) : k0_pay128 (F := Ideal) A = head0 (k0_pay127 (F := Ideal) A) := rfl

theorem fin_piece0 (A : Vec Ideal S1x2048x256 .f32) (x : S1x128x128.Idx) (y : S1x128x2048.Idx)
    (h1 : (y 1 : ℕ) = (x 1 : ℕ)) (h2 : (y 2 : ℕ) = (x 2 : ℕ)) : k0_pay128 (F := Ideal) A x = finv A y := by
  have hg : ∀ p (a b : Fin 128), head0 p (ix3 (0 : Fin 1) a b) = p (ix2 (rowAt 0 (by decide) a) b) := fun p a b => by
    pointwise [head0, rowAt]
  exact (congrFun (pay128_eq A) x).trans (fin_piece head0 A x y 0 rfl (by decide) hg h1 (h2.trans (Nat.zero_add _).symm))

/-- A row of the stacked queries: the head's latent query, then its rotary query in the head's quarter of the last 128 columns. -/
def stq (x0 : FVec Ideal S1x128x2048 .bf16) (x1 : FVec Ideal S1x128x512 .bf16) (r : Fin 2048) (c : Fin 256) : EReal :=
  if h : (c : ℕ) < 128 then x0 (ix3 0 (lane r) ⟨(r : ℕ) / 128 * 128 + c, by omega⟩)
  else if ((c : ℕ) - 128) / 32 = (r : ℕ) / 128 % 4 then x1 (ix3 0 (lane r) ⟨(r : ℕ) / 512 * 128 + (c - 128), by omega⟩) else 0

/-! ### The payloads of the points, folded to the block step -/

theorem fold_sc (Q : FVec Ideal S2048x256 .bf16) (K : Vec Ideal S1x512x256 .bf16) :
    matmul (φ₂ := .bf16) dot_S2048x256_S512x256_S2048x512_1_1_0_0_n_n none Q (shapeCast S512x256 K shapeCasts_S1x512x256_S512x256)
      (constant S2048x512 .f32 0x00000000#32) = sc Q K := rfl

theorem fold_val (K : Vec Ideal S1x512x256 .bf16) :
    concatenate S512x256 1 [⟨S512x128, extractStridedSlice S512x128 ![0, 0] (shapeCast S512x256 K shapeCasts_S1x512x256_S512x256) slices_S512x256_o0_0_S512x128⟩,
      ⟨S512x128, broadcast S512x128 (FloatOps.ofBits .bf16 0x3F80#16 : Ideal .bf16)⟩] concatenates_S512x128_S512x128_S512x256_d1 = k0_pay31 K := rfl

theorem fold_max (s : FVec Ideal S2048x512 .f32) (m : Vec Ideal S1x2048x128 .f32) :
    maximumf (shapeCast S2048x128 m shapeCasts_S1x2048x128_S2048x128) (broadcastTo S2048x128 (shapeCast S2048x1 (multiReduction .maximumf [1] S2048
      (maximumf (maximumf (maximumf (extractStridedSlice S2048x128 ![0, 0] s slices_S2048x512_o0_0_S2048x128)
        (extractStridedSlice S2048x128 ![0, 128] s slices_S2048x512_o0_128_S2048x128)) (extractStridedSlice S2048x128 ![0, 256] s slices_S2048x512_o0_256_S2048x128))
        (extractStridedSlice S2048x128 ![0, 384] s slices_S2048x512_o0_384_S2048x128)) 0xFF800000#32 reduces_S2048x128_S2048 (.inl rfl) rfl)
      shapeCasts_S2048_S2048x1) broadcasts_S2048x1_S2048x128) = k0_pay33 s m := rfl

theorem fold_exp (s : FVec Ideal S2048x512 .f32) (m : Vec Ideal S1x2048x128 .f32) :
    truncf .bf16 (exp2 (subf s (concatenate S2048x512 1 [⟨S2048x128, k0_pay33 s m⟩, ⟨S2048x128, k0_pay33 s m⟩, ⟨S2048x128, k0_pay33 s m⟩,
      ⟨S2048x128, k0_pay33 s m⟩] concatenates_S2048x128_S2048x128_S2048x128_S2048x128_S2048x512_d1))) bitsLt_bf16_f32 = k0_pay34 s m := rfl

theorem fold_fac (s : FVec Ideal S2048x512 .f32) (m : Vec Ideal S1x2048x128 .f32) :
    concatenate S2048x256 1 [⟨S2048x128, exp2 (subf (shapeCast S2048x128 m shapeCasts_S1x2048x128_S2048x128) (k0_pay33 s m))⟩,
      ⟨S2048x128, exp2 (subf (shapeCast S2048x128 m shapeCasts_S1x2048x128_S2048x128) (k0_pay33 s m))⟩] concatenates_S2048x128_S2048x128_S2048x256_d1 = k0_pay35 s m := rfl

theorem fold_m15 (s : FVec Ideal S2048x512 .f32) (m : Vec Ideal S1x2048x128 .f32) : k0_pay15 (k0_pay33 s m) = mNew s m := rfl
theorem fold_m37 (s : FVec Ideal S2048x512 .f32) (m : Vec Ideal S1x2048x128 .f32) : k0_pay37 (k0_pay33 s m) = mNew s m := rfl
theorem fold_m65 (s : FVec Ideal S2048x512 .f32) (m : Vec Ideal S1x2048x128 .f32) : k0_pay65 (k0_pay33 s m) = mNew s m := rfl
theorem fold_m (s : FVec Ideal S2048x512 .f32) (m : Vec Ideal S1x2048x128 .f32) :
    shapeCast S1x2048x128 (k0_pay33 s m) shapeCasts_S2048x128_S1x2048x128 = mNew s m := rfl

theorem fold_a14 (s : FVec Ideal S2048x512 .f32) (K : Vec Ideal S1x512x256 .bf16) (m : Vec Ideal S1x2048x128 .f32) (a : Vec Ideal S1x2048x256 .f32) :
    k0_pay14 (k0_pay31 K) (k0_pay34 s m) (mulf (k0_pay35 s m) (shapeCast S2048x256 a shapeCasts_S1x2048x256_S2048x256))
      (constant S2048x256 .f32 0x00000000#32) = aNew s K m a := rfl

theorem fold_a36 (s : FVec Ideal S2048x512 .f32) (K : Vec Ideal S1x512x256 .bf16) (m : Vec Ideal S1x2048x128 .f32) (a : Vec Ideal S1x2048x256 .f32) :
    k0_pay36 (k0_pay31 K) (k0_pay34 s m) (k0_pay35 s m) a = aNew s K m a := rfl

theorem fold_a64 (s : FVec Ideal S2048x512 .f32) (K : Vec Ideal S1x512x256 .bf16) (m : Vec Ideal S1x2048x128 .f32) (a : Vec Ideal S1x2048x256 .f32) :
    k0_pay64 s (k0_pay31 K) (k0_pay33 s m) (exp2 (subf (shapeCast S2048x128 m shapeCasts_S1x2048x128_S2048x128) (k0_pay33 s m))) a = aNew s K m a := rfl

theorem fold_a (s : FVec Ideal S2048x512 .f32) (K : Vec Ideal S1x512x256 .bf16) (m : Vec Ideal S1x2048x128 .f32) (a : Vec Ideal S1x2048x256 .f32) :
    shapeCast S1x2048x256 (addf (mulf (k0_pay35 s m) (shapeCast S2048x256 a shapeCasts_S1x2048x256_S2048x256))
      (matmul dot_S2048x512_S512x256_S2048x256_1_0_0_1_n_n none (k0_pay34 s m) (k0_pay31 K) (constant S2048x256 .f32 0x00000000#32)))
      shapeCasts_S2048x256_S1x2048x256 = aNew s K m a := rfl

theorem fold_lastB (qc : IVec S1x128x1 32) (ki : IVec S1x1x512 32) (s : FVec Ideal S2048x512 .f32) (K : Vec Ideal S1x512x256 .bf16)
    (m : Vec Ideal S1x2048x128 .f32) (a : Vec Ideal S1x2048x256 .f32) :
    k0_pay119 (k0_pay16 qc ki s) (k0_pay17 K) (k0_pay19 qc ki s m) (k0_pay20 qc ki s m) a = aNew (msk 512#32 qc ki s) K m a := rfl

theorem fold_lastC (qc : IVec S1x128x1 32) (ki : IVec S1x1x512 32) (s : FVec Ideal S2048x512 .f32) (K : Vec Ideal S1x512x256 .bf16)
    (m : Vec Ideal S1x2048x128 .f32) (a : Vec Ideal S1x2048x256 .f32) :
    k0_pay122 (k0_pay38 qc ki s) (k0_pay39 K) (k0_pay40 m) (k0_pay41 qc ki s) a = aNew (msk 1024#32 qc ki s) K m a := rfl

theorem fold_lastD (qc : IVec S1x128x1 32) (ki : IVec S1x1x512 32) (s : FVec Ideal S2048x512 .f32) (K : Vec Ideal S1x512x256 .bf16)
    (m : Vec Ideal S1x2048x128 .f32) (a : Vec Ideal S1x2048x256 .f32) :
    k0_pay125 (k0_pay66 qc ki s) (k0_pay67 K) (k0_pay68 m) (k0_pay69 qc ki s) (k0_pay70 qc ki s) a = aNew (msk 1536#32 qc ki s) K m a := rfl

/-! ### The stacked queries, piece by piece -/

theorem sel5 {α : Type} (b : Fin 128) (n : Fin 4) (u v : α) :
    Scalar.select (IntOp.cmpi .eq (IntOp.shrsi .vector (BitVec.ofNat 32 b) 5#32) (BitVec.ofNat 32 n)) u v = if (b : ℕ) / 32 = n then u else v := by
  have h : ∀ (b : Fin 128) (n : Fin 4), IntOp.cmpi .eq (IntOp.shrsi .vector (BitVec.ofNat 32 b.val) 5#32) (BitVec.ofNat 32 n.val) = 1 ↔ b.val / 32 = n.val := by
    decide +kernel
  unfold Scalar.select
  by_cases hb : (b : ℕ) / 32 = n
  · rw [if_pos hb, if_pos ((h b n).2 hb)]
  · rw [if_neg hb, if_neg fun e => hb ((h b n).1 e)]

theorem stq_lat (P : FVec Ideal S128x128 .bf16) (x0 : FVec Ideal S1x128x2048 .bf16) (x1 : FVec Ideal S1x128x512 .bf16) (x : S128x128.Idx) (r : Fin 2048) (c : Fin 256)
    (o : ℕ) (ho : o % 128 = 0) (ho' : o ≤ 1920) (hP : ∀ a b : Fin 128, P (ix2 a b) = x0 (ix3 0 a (rowAt o ho' b)))
    (h0 : (r : ℕ) = o + (x 0 : ℕ)) (h1 : (c : ℕ) = (x 1 : ℕ)) : P x = stq x0 x1 r c := by
  have l0 : (x 0 : ℕ) < 128 := (x 0 : Fin 128).isLt
  have l1 : (x 1 : ℕ) < 128 := (x 1 : Fin 128).isLt
  have hc : (c : ℕ) < 128 := by omega
  refine ((congrArg P (eq_ix2 x)).trans (hP _ _)).trans ?_
  unfold stq
  rw [dif_pos hc]
  exact congrArg₂ (fun a b => x0 (ix3 0 a b)) (Fin.ext (by simp only [lane]; omega)) (Fin.ext (by simp only [rowAt]; omega))

theorem stq_rope (P : FVec Ideal S128x128 .bf16) (x0 : FVec Ideal S1x128x2048 .bf16) (x1 : FVec Ideal S1x128x512 .bf16) (x : S128x128.Idx) (r : Fin 2048) (c : Fin 256)
    (o w : ℕ) (n : Fin 4) (ho : o % 128 = 0) (hw : w = o / 512 * 128) (hn : n.val = o / 128 % 4) (hw' : w ≤ 384)
    (hP : ∀ a b : Fin 128, P (ix2 a b) = if (b : ℕ) / 32 = n then x1 (ix3 0 a ⟨w + b, by omega⟩) else 0)
    (h0 : (r : ℕ) = o + (x 0 : ℕ)) (h1 : (c : ℕ) = 128 + (x 1 : ℕ)) : P x = stq x0 x1 r c := by
  have l0 : (x 0 : ℕ) < 128 := (x 0 : Fin 128).isLt
  have l1 : (x 1 : ℕ) < 128 := (x 1 : Fin 128).isLt
  have hc : ¬(c : ℕ) < 128 := by omega
  refine ((congrArg P (eq_ix2 x)).trans (hP _ _)).trans ?_
  unfold stq
  rw [dif_neg hc]
  have e1 : ((c : ℕ) - 128) / 32 = ((x 1 : Fin 128) : ℕ) / 32 := by rw [h1, Nat.add_sub_cancel_left]
  have e2 : (r : ℕ) / 128 % 4 = n.val := by omega
  rw [e1, e2]
  refine if_congr Iff.rfl ?_ rfl
  exact congrArg₂ (fun a b => x1 (ix3 0 a b)) (Fin.ext (by simp only [lane]; omega)) (Fin.ext (by simp only; omega))

/-- The last columns of a head's rows, of its window of the rotary queries. -/
theorem ropeChain (x1 : FVec Ideal S1x128x512 .bf16) (V : FVec Ideal S1x128x128 .bf16) (w : ℕ) (hw : w ≤ 384) (n : Fin 4)
    (hV : ∀ a b : Fin 128, V (ix3 0 a b) = x1 (ix3 0 a ⟨w + b, by omega⟩)) (a b : Fin 128) :
    shapeCast S128x128 (select (cmpi .eq (shrsi (iota .tc S128x128 32 [1] iota_S128x128_d1_w32) (broadcast S128x128 5#32)) (broadcast S128x128 (BitVec.ofNat 32 n)))
      (shapeCast S128x128 V shapeCasts_S1x128x128_S128x128)
      (broadcast S128x128 (FloatOps.ofBits .bf16 0x0000#16 : Ideal .bf16))) shapeCasts_S128x128_S128x128 (ix2 a b)
      = if (b : ℕ) / 32 = n then x1 (ix3 0 a ⟨w + b, by omega⟩) else 0 := by
  pointwise
  rw [sel5, hV]

/-- The first columns of a head's rows, of its window of the latent queries. -/
theorem latChain (x0 : FVec Ideal S1x128x2048 .bf16) (V : FVec Ideal S1x128x128 .bf16) (o : ℕ) (ho : o ≤ 1920)
    (hV : ∀ a b : Fin 128, V (ix3 0 a b) = x0 (ix3 0 a (rowAt o ho b))) (a b : Fin 128) :
    shapeCast S128x128 (shapeCast S128x128 V shapeCasts_S1x128x128_S128x128) shapeCasts_S128x128_S128x128 (ix2 a b)
      = x0 (ix3 0 a (rowAt o ho b)) := by
  pointwise
  exact hV a b

theorem ldRope (x1 : Vec Ideal S1x128x512 .bf16) (w : ℕ) (hw : w ≤ 384)
    (hb : ∀ a, (![0, 0, w] : Fin 3 → ℕ) a + (![1, 128, 128] : Fin 3 → ℕ) a ≤ S1x128x512.size a) (a b : Fin 128) :
    View.ld (S := S1x128x512) (e' := .bf16) x1 (Rect.unit ![0, 0, w] ![1, 128, 128] hb) (ix3 0 a b) = x1 (ix3 0 a ⟨w + b, by omega⟩) := by
  refine View.ld_unit_apply_of _ _ _ _ _ _ fun d => ?_
  fin_cases d <;> simp

theorem ldLat (x0 : Vec Ideal S1x128x2048 .bf16) (o : ℕ) (ho : o ≤ 1920)
    (hb : ∀ a, (![0, 0, o] : Fin 3 → ℕ) a + (![1, 128, 128] : Fin 3 → ℕ) a ≤ S1x128x2048.size a) (a b : Fin 128) :
    View.ld (S := S1x128x2048) (e' := .bf16) x0 (Rect.unit ![0, 0, o] ![1, 128, 128] hb) (ix3 0 a b) = x0 (ix3 0 a (rowAt o ho b)) := by
  refine View.ld_unit_apply_of _ _ _ _ _ _ fun d => ?_
  fin_cases d <;> simp [rowAt]

theorem idx_full (h : ∀ a, (![0, 0] : Fin 2 → ℕ) a + (![2048, 256] : Fin 2 → ℕ) a ≤ S2048x256.size a) (r : Fin 2048) (c : Fin 256) :
    (Rect.unit (s := S2048x256) ![0, 0] ![2048, 256] h).idx (ix2 r c) = ix2 r c := by
  refine funext fun a => Fin.ext ((Rect.idx_unit_val _ _ _ _ _).trans ?_)
  fin_cases a <;> simp

theorem add0 {a b : ℕ} (h : a = b) : a = 0 + b := h.trans (Nat.zero_add b).symm

end Cert.KernelIdeal.Att

end
-- ==== Proof.CaseA.lean ====
module

public import proofs.«01_k».proof.Proof.Gen.KernelIdeal.Value
public import proofs.«01_k».proof.Proof.Stack
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- A point whose queries see one block of keys: its output block, of the stacked queries and the blocks. -/
theorem caseA (c : Dev nD) (t : Fin cfg0.N) (h0 : t.val % 16 ≤ 3) (h1 : ¬(4 ≤ t.val % 16 ∧ t.val % 16 ≤ 7)) (h2 : ¬(8 ≤ t.val % 16 ∧ t.val % 16 ≤ 11)) (h3 : ¬(12 ≤ t.val % 16)) :
    ∃ (Q : FVec Ideal S2048x256 .bf16) (A : Vec Ideal S1x2048x256 .f32),
      (∀ r c', Q (ix2 r c') = stq (iblk m c 0 t) (iblk m c 1 t) r c') ∧
      A = last1 0#32 (qcv t) Q (kb0 (iblk m c 2 t)) (m0, a0) ∧
      ∀ y : S1x128x2048.Idx, (show FVec Ideal S1x128x2048 .bf16 from outsAt0 m c t.val t.isLt) y = finv A y := by
  refine ⟨?Q, ?A, ?hq, ?ha, ?hy⟩
  case hy =>
    intro y
    rw [outsAt0_A m c t h0 h1 h2 h3]
    frame_out
    canon_tiles x h
    case piece15 => exact fin_piece0 _ _ _ h1 h2
    case piece7 => exact fin_piece (fun p => k0_pay137 (k0_pay136 p)) _ _ _ _ (by decide) (by decide) (fun p a b => by open_payloads; pointwise [rowAt]) h1 h2
    all_goals exact fin_piece _ _ _ _ _ (by decide) (by decide) (fun p a b => by open_payloads; pointwise [rowAt]) h1 h2
  case ha =>
    rfl
  case hq =>
    intro r c'
    rw [View.readCov_eq_canon']
    canon_tiles x h
    case piece31 =>
      rw [idx_full] at h0 h1
      open_payloads
      exact stq_lat _ _ _ _ _ _ 0 (by decide) (by decide) (fun a b => latChain _ _ _ _ (ldLat _ _ _ _) a b) (add0 h0) h1
    case piece30 =>
      rw [idx_full] at h0 h1
      open_payloads
      exact stq_rope _ _ _ _ _ _ 0 _ 0 (by decide) (by decide) (by decide) (by decide) (fun a b => ropeChain _ _ _ (by decide) 0 (ldRope _ _ (by decide) _) a b) (add0 h0) h1
    case piece6 | piece14 | piece22 =>
      rw [idx_full] at h0 h1
      open_payloads
      exact stq_rope _ _ _ _ _ _ _ _ 0 (by decide) (by decide) (by decide) (by decide) (fun a b => ropeChain _ _ _ (by decide) 0 (ldRope _ _ (by decide) _) a b) h0 h1
    case piece4 | piece12 | piece20 | piece28 =>
      rw [idx_full] at h0 h1
      open_payloads
      exact stq_rope _ _ _ _ _ _ _ _ 1 (by decide) (by decide) (by decide) (by decide) (fun a b => ropeChain _ _ _ (by decide) 1 (ldRope _ _ (by decide) _) a b) h0 h1
    case piece2 | piece10 | piece18 | piece26 =>
      rw [idx_full] at h0 h1
      open_payloads
      exact stq_rope _ _ _ _ _ _ _ _ 2 (by decide) (by decide) (by decide) (by decide) (fun a b => ropeChain _ _ _ (by decide) 2 (ldRope _ _ (by decide) _) a b) h0 h1
    case piece0 | piece8 | piece16 | piece24 =>
      rw [idx_full] at h0 h1
      open_payloads
      exact stq_rope _ _ _ _ _ _ _ _ 3 (by decide) (by decide) (by decide) (by decide) (fun a b => ropeChain _ _ _ (by decide) 3 (ldRope _ _ (by decide) _) a b) h0 h1
    all_goals
      rw [idx_full] at h0 h1
      open_payloads
      exact stq_lat _ _ _ _ _ _ _ (by decide) (by decide) (fun a b => latChain _ _ _ _ (ldLat _ _ _ _) a b) h0 h1

end Cert.KernelIdeal.Att

end
-- ==== Proof.CaseB.lean ====
module

public import proofs.«01_k».proof.Proof.Gen.KernelIdeal.Value
public import proofs.«01_k».proof.Proof.Stack
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- A point whose queries see two blocks of keys: its output block, of the stacked queries and the blocks. -/
theorem caseB (c : Dev nD) (t : Fin cfg0.N) (h0 : ¬(t.val % 16 ≤ 3)) (h1 : 4 ≤ t.val % 16 ∧ t.val % 16 ≤ 7) (h2 : ¬(8 ≤ t.val % 16 ∧ t.val % 16 ≤ 11)) (h3 : ¬(12 ≤ t.val % 16)) :
    ∃ (Q : FVec Ideal S2048x256 .bf16) (A : Vec Ideal S1x2048x256 .f32),
      (∀ r c', Q (ix2 r c') = stq (iblk m c 0 t) (iblk m c 1 t) r c') ∧
      A = last1 512#32 (qcv t) Q (kb1 (iblk m c 2 t)) (open1 Q (kb0 (iblk m c 2 t)) (m0, a0)) ∧
      ∀ y : S1x128x2048.Idx, (show FVec Ideal S1x128x2048 .bf16 from outsAt0 m c t.val t.isLt) y = finv A y := by
  refine ⟨?Q, ?A, ?hq, ?ha, ?hy⟩
  case hy =>
    intro y
    rw [outsAt0_B m c t h0 h1 h2 h3]
    frame_out
    canon_tiles x h
    case piece15 => exact fin_piece0 _ _ _ h1 h2
    case piece7 => exact fin_piece (fun p => k0_pay137 (k0_pay136 p)) _ _ _ _ (by decide) (by decide) (fun p a b => by open_payloads; pointwise [rowAt]) h1 h2
    all_goals exact fin_piece _ _ _ _ _ (by decide) (by decide) (fun p a b => by open_payloads; pointwise [rowAt]) h1 h2
  case ha =>
    have e0 : View.read (Elt Idealize.ShloMosaic.Ideal) (ms0_0 t).view ((hs0_0 t).unread (iblk m c 0 t)) = iblk m c 0 t := Memref.IsWhole.read_unread _ _
    have e1 : View.read (Elt Idealize.ShloMosaic.Ideal) (ms0_1 t).view ((hs0_1 t).unread (iblk m c 1 t)) = iblk m c 1 t := Memref.IsWhole.read_unread _ _
    have e : View.read (Elt Idealize.ShloMosaic.Ideal) (ms0_2 t).view ((hs0_2 t).unread (iblk m c 2 t)) = iblk m c 2 t := Memref.IsWhole.read_unread _ _
    rw [e0, e1, e]
    repeat rw [fold_sc]
    repeat rw [View.readCov_cons_toLoadRect]
    rw [fold_max]
    rw [fold_exp]
    rw [fold_fac]
    rw [fold_val]
    rw [fold_m15]
    rw [fold_a14]
    rw [fold_lastB]
    rfl
  case hq =>
    intro r c'
    rw [View.readCov_eq_canon']
    canon_tiles x h
    case piece31 =>
      rw [idx_full] at h0 h1
      open_payloads
      exact stq_lat _ _ _ _ _ _ 0 (by decide) (by decide) (fun a b => latChain _ _ _ _ (ldLat _ _ _ _) a b) (add0 h0) h1
    case piece30 =>
      rw [idx_full] at h0 h1
      open_payloads
      exact stq_rope _ _ _ _ _ _ 0 _ 0 (by decide) (by decide) (by decide) (by decide) (fun a b => ropeChain _ _ _ (by decide) 0 (ldRope _ _ (by decide) _) a b) (add0 h0) h1
    case piece6 | piece14 | piece22 =>
      rw [idx_full] at h0 h1
      open_payloads
      exact stq_rope _ _ _ _ _ _ _ _ 0 (by decide) (by decide) (by decide) (by decide) (fun a b => ropeChain _ _ _ (by decide) 0 (ldRope _ _ (by decide) _) a b) h0 h1
    case piece4 | piece12 | piece20 | piece28 =>
      rw [idx_full] at h0 h1
      open_payloads
      exact stq_rope _ _ _ _ _ _ _ _ 1 (by decide) (by decide) (by decide) (by decide) (fun a b => ropeChain _ _ _ (by decide) 1 (ldRope _ _ (by decide) _) a b) h0 h1
    case piece2 | piece10 | piece18 | piece26 =>
      rw [idx_full] at h0 h1
      open_payloads
      exact stq_rope _ _ _ _ _ _ _ _ 2 (by decide) (by decide) (by decide) (by decide) (fun a b => ropeChain _ _ _ (by decide) 2 (ldRope _ _ (by decide) _) a b) h0 h1
    case piece0 | piece8 | piece16 | piece24 =>
      rw [idx_full] at h0 h1
      open_payloads
      exact stq_rope _ _ _ _ _ _ _ _ 3 (by decide) (by decide) (by decide) (by decide) (fun a b => ropeChain _ _ _ (by decide) 3 (ldRope _ _ (by decide) _) a b) h0 h1
    all_goals
      rw [idx_full] at h0 h1
      open_payloads
      exact stq_lat _ _ _ _ _ _ _ (by decide) (by decide) (fun a b => latChain _ _ _ _ (ldLat _ _ _ _) a b) h0 h1

end Cert.KernelIdeal.Att

end
-- ==== Proof.CaseC.lean ====
module

public import proofs.«01_k».proof.Proof.Gen.KernelIdeal.Value
public import proofs.«01_k».proof.Proof.Stack
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- A point whose queries see three blocks of keys: its output block, of the stacked queries and the blocks. -/
theorem caseC (c : Dev nD) (t : Fin cfg0.N) (h0 : ¬(t.val % 16 ≤ 3)) (h1 : ¬(4 ≤ t.val % 16 ∧ t.val % 16 ≤ 7)) (h2 : 8 ≤ t.val % 16 ∧ t.val % 16 ≤ 11) (h3 : ¬(12 ≤ t.val % 16)) :
    ∃ (Q : FVec Ideal S2048x256 .bf16) (A : Vec Ideal S1x2048x256 .f32),
      (∀ r c', Q (ix2 r c') = stq (iblk m c 0 t) (iblk m c 1 t) r c') ∧
      A = last1 1024#32 (qcv t) Q (kb2 (iblk m c 2 t)) (open1 Q (kb1 (iblk m c 2 t)) (open1 Q (kb0 (iblk m c 2 t)) (m0, a0))) ∧
      ∀ y : S1x128x2048.Idx, (show FVec Ideal S1x128x2048 .bf16 from outsAt0 m c t.val t.isLt) y = finv A y := by
  refine ⟨?Q, ?A, ?hq, ?ha, ?hy⟩
  case hy =>
    intro y
    rw [outsAt0_C m c t h0 h1 h2 h3]
    frame_out
    canon_tiles x h
    case piece15 => exact fin_piece0 _ _ _ h1 h2
    case piece7 => exact fin_piece (fun p => k0_pay137 (k0_pay136 p)) _ _ _ _ (by decide) (by decide) (fun p a b => by open_payloads; pointwise [rowAt]) h1 h2
    all_goals exact fin_piece _ _ _ _ _ (by decide) (by decide) (fun p a b => by open_payloads; pointwise [rowAt]) h1 h2
  case ha =>
    have e0 : View.read (Elt Idealize.ShloMosaic.Ideal) (ms0_0 t).view ((hs0_0 t).unread (iblk m c 0 t)) = iblk m c 0 t := Memref.IsWhole.read_unread _ _
    have e1 : View.read (Elt Idealize.ShloMosaic.Ideal) (ms0_1 t).view ((hs0_1 t).unread (iblk m c 1 t)) = iblk m c 1 t := Memref.IsWhole.read_unread _ _
    have e : View.read (Elt Idealize.ShloMosaic.Ideal) (ms0_2 t).view ((hs0_2 t).unread (iblk m c 2 t)) = iblk m c 2 t := Memref.IsWhole.read_unread _ _
    rw [e0, e1, e]
    repeat rw [fold_sc]
    repeat rw [View.readCov_cons_toLoadRect]
    repeat (rw [fold_max]; try rw [fold_m])
    repeat rw [fold_exp]
    repeat rw [fold_fac]
    repeat rw [fold_val]
    repeat rw [fold_a]
    repeat rw [fold_m37]
    repeat rw [fold_a36]
    repeat rw [fold_m65]
    repeat rw [fold_a64]
    first | rw [fold_lastC] | rw [fold_lastD]
    rfl
  case hq =>
    intro r c'
    rw [View.readCov_eq_canon']
    canon_tiles x h
    case piece31 =>
      rw [idx_full] at h0 h1
      open_payloads
      exact stq_lat _ _ _ _ _ _ 0 (by decide) (by decide) (fun a b => latChain _ _ _ _ (ldLat _ _ _ _) a b) (add0 h0) h1
    case piece30 =>
      rw [idx_full] at h0 h1
      open_payloads
      exact stq_rope _ _ _ _ _ _ 0 _ 0 (by decide) (by decide) (by decide) (by decide) (fun a b => ropeChain _ _ _ (by decide) 0 (ldRope _ _ (by decide) _) a b) (add0 h0) h1
    case piece6 | piece14 | piece22 =>
      rw [idx_full] at h0 h1
      open_payloads
      exact stq_rope _ _ _ _ _ _ _ _ 0 (by decide) (by decide) (by decide) (by decide) (fun a b => ropeChain _ _ _ (by decide) 0 (ldRope _ _ (by decide) _) a b) h0 h1
    case piece4 | piece12 | piece20 | piece28 =>
      rw [idx_full] at h0 h1
      open_payloads
      exact stq_rope _ _ _ _ _ _ _ _ 1 (by decide) (by decide) (by decide) (by decide) (fun a b => ropeChain _ _ _ (by decide) 1 (ldRope _ _ (by decide) _) a b) h0 h1
    case piece2 | piece10 | piece18 | piece26 =>
      rw [idx_full] at h0 h1
      open_payloads
      exact stq_rope _ _ _ _ _ _ _ _ 2 (by decide) (by decide) (by decide) (by decide) (fun a b => ropeChain _ _ _ (by decide) 2 (ldRope _ _ (by decide) _) a b) h0 h1
    case piece0 | piece8 | piece16 | piece24 =>
      rw [idx_full] at h0 h1
      open_payloads
      exact stq_rope _ _ _ _ _ _ _ _ 3 (by decide) (by decide) (by decide) (by decide) (fun a b => ropeChain _ _ _ (by decide) 3 (ldRope _ _ (by decide) _) a b) h0 h1
    all_goals
      rw [idx_full] at h0 h1
      open_payloads
      exact stq_lat _ _ _ _ _ _ _ (by decide) (by decide) (fun a b => latChain _ _ _ _ (ldLat _ _ _ _) a b) h0 h1

end Cert.KernelIdeal.Att

end
-- ==== Proof.CaseD.lean ====
module

public import proofs.«01_k».proof.Proof.Gen.KernelIdeal.Value
public import proofs.«01_k».proof.Proof.Stack
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
variable (m : (ℓ : Loc nD τ sig) → Buf (Elt Ideal) ℓ)

/-- A point whose queries see four blocks of keys: its output block, of the stacked queries and the blocks. -/
theorem caseD (c : Dev nD) (t : Fin cfg0.N) (h0 : ¬(t.val % 16 ≤ 3)) (h1 : ¬(4 ≤ t.val % 16 ∧ t.val % 16 ≤ 7)) (h2 : ¬(8 ≤ t.val % 16 ∧ t.val % 16 ≤ 11)) (h3 : 12 ≤ t.val % 16) :
    ∃ (Q : FVec Ideal S2048x256 .bf16) (A : Vec Ideal S1x2048x256 .f32),
      (∀ r c', Q (ix2 r c') = stq (iblk m c 0 t) (iblk m c 1 t) r c') ∧
      A = last1 1536#32 (qcv t) Q (kb3 (iblk m c 2 t)) (open1 Q (kb2 (iblk m c 2 t)) (open1 Q (kb1 (iblk m c 2 t)) (open1 Q (kb0 (iblk m c 2 t)) (m0, a0)))) ∧
      ∀ y : S1x128x2048.Idx, (show FVec Ideal S1x128x2048 .bf16 from outsAt0 m c t.val t.isLt) y = finv A y := by
  refine ⟨?Q, ?A, ?hq, ?ha, ?hy⟩
  case hy =>
    intro y
    rw [outsAt0_D m c t h0 h1 h2 h3]
    frame_out
    canon_tiles x h
    case piece15 => exact fin_piece0 _ _ _ h1 h2
    case piece7 => exact fin_piece (fun p => k0_pay137 (k0_pay136 p)) _ _ _ _ (by decide) (by decide) (fun p a b => by open_payloads; pointwise [rowAt]) h1 h2
    all_goals exact fin_piece _ _ _ _ _ (by decide) (by decide) (fun p a b => by open_payloads; pointwise [rowAt]) h1 h2
  case ha =>
    have e0 : View.read (Elt Idealize.ShloMosaic.Ideal) (ms0_0 t).view ((hs0_0 t).unread (iblk m c 0 t)) = iblk m c 0 t := Memref.IsWhole.read_unread _ _
    have e1 : View.read (Elt Idealize.ShloMosaic.Ideal) (ms0_1 t).view ((hs0_1 t).unread (iblk m c 1 t)) = iblk m c 1 t := Memref.IsWhole.read_unread _ _
    have e : View.read (Elt Idealize.ShloMosaic.Ideal) (ms0_2 t).view ((hs0_2 t).unread (iblk m c 2 t)) = iblk m c 2 t := Memref.IsWhole.read_unread _ _
    rw [e0, e1, e]
    repeat rw [fold_sc]
    repeat rw [View.readCov_cons_toLoadRect]
    repeat (rw [fold_max]; try rw [fold_m])
    repeat rw [fold_exp]
    repeat rw [fold_fac]
    repeat rw [fold_val]
    repeat rw [fold_a]
    repeat rw [fold_m37]
    repeat rw [fold_a36]
    repeat rw [fold_m65]
    repeat rw [fold_a64]
    first | rw [fold_lastC] | rw [fold_lastD]
    rfl
  case hq =>
    intro r c'
    rw [View.readCov_eq_canon']
    canon_tiles x h
    case piece31 =>
      rw [idx_full] at h0 h1
      open_payloads
      exact stq_lat _ _ _ _ _ _ 0 (by decide) (by decide) (fun a b => latChain _ _ _ _ (ldLat _ _ _ _) a b) (add0 h0) h1
    case piece30 =>
      rw [idx_full] at h0 h1
      open_payloads
      exact stq_rope _ _ _ _ _ _ 0 _ 0 (by decide) (by decide) (by decide) (by decide) (fun a b => ropeChain _ _ _ (by decide) 0 (ldRope _ _ (by decide) _) a b) (add0 h0) h1
    case piece6 | piece14 | piece22 =>
      rw [idx_full] at h0 h1
      open_payloads
      exact stq_rope _ _ _ _ _ _ _ _ 0 (by decide) (by decide) (by decide) (by decide) (fun a b => ropeChain _ _ _ (by decide) 0 (ldRope _ _ (by decide) _) a b) h0 h1
    case piece4 | piece12 | piece20 | piece28 =>
      rw [idx_full] at h0 h1
      open_payloads
      exact stq_rope _ _ _ _ _ _ _ _ 1 (by decide) (by decide) (by decide) (by decide) (fun a b => ropeChain _ _ _ (by decide) 1 (ldRope _ _ (by decide) _) a b) h0 h1
    case piece2 | piece10 | piece18 | piece26 =>
      rw [idx_full] at h0 h1
      open_payloads
      exact stq_rope _ _ _ _ _ _ _ _ 2 (by decide) (by decide) (by decide) (by decide) (fun a b => ropeChain _ _ _ (by decide) 2 (ldRope _ _ (by decide) _) a b) h0 h1
    case piece0 | piece8 | piece16 | piece24 =>
      rw [idx_full] at h0 h1
      open_payloads
      exact stq_rope _ _ _ _ _ _ _ _ 3 (by decide) (by decide) (by decide) (by decide) (fun a b => ropeChain _ _ _ (by decide) 3 (ldRope _ _ (by decide) _) a b) h0 h1
    all_goals
      rw [idx_full] at h0 h1
      open_payloads
      exact stq_lat _ _ _ _ _ _ _ (by decide) (by decide) (fun a b => latChain _ _ _ _ (ldLat _ _ _ _) a b) h0 h1

end Cert.KernelIdeal.Att

end
-- ==== Proof.Rows.lean ====
module

public import proofs.«01_k».proof.Proof.Stack
public import Idealize.ShloMosaic.Lib.Pointwise

@[expose] public section

set_option maxRecDepth 16384

noncomputable section

namespace Cert.KernelIdeal.Att

open Cert.KernelIdeal Cert.KernelIdeal.Gen Idealize.ShloMosaic Idealize.ShloMosaic.TcCoe Idealize.SL.Sem

/-- The weight of key `k` for query `q`, of the scores `S` to base two: a key of a later chunk has none. -/
def wt (q : ℕ) (S : ℕ → ℝ) (k : ℕ) : ℝ := if k / 64 ≤ q / 64 then Real.rpow 2 (S k) else 0

/-- The weighted sum of the first `n` keys. -/
def T (q : ℕ) (S : ℕ → ℝ) (V : ℕ → Fin 256 → ℝ) (n : ℕ) (c : Fin 256) : ℝ := ∑ k ∈ Finset.range n, wt q S k * V k c

theorem T_add (q : ℕ) (S : ℕ → ℝ) (V : ℕ → Fin 256 → ℝ) (n : ℕ) (c : Fin 256) :
    T q S V (n + 512) c = T q S V n c + ∑ k : Fin 512, wt q S (n + k) * V (n + k) c := by
  unfold T
  rw [Finset.sum_range_add, Finset.sum_range fun k => wt q S (n + k) * V (n + k) c]

/-- The keys after the query's last block weigh nothing. -/
theorem T_full (q : ℕ) (S : ℕ → ℝ) (V : ℕ → Fin 256 → ℝ) (n : ℕ) (c : Fin 256) (hq : q < n) (hn : n % 64 = 0) (hn' : n ≤ 2048) :
    T q S V n c = T q S V 2048 c := by
  unfold T
  refine Finset.sum_subset (Finset.range_subset_range.2 hn') fun k _ hk => ?_
  have hk' : ¬k < n := fun h => hk (Finset.mem_range.2 h)
  rw [wt, if_neg (by omega), zero_mul]

variable (Q : FVec Ideal S2048x256 .bf16) (K : Vec Ideal S1x512x256 .bf16) (r : Fin 2048)
  (p : Vec Ideal S1x2048x128 .f32 × Vec Ideal S1x2048x256 .f32) (q n : ℕ) (S : ℕ → ℝ) (V : ℕ → Fin 256 → ℝ)

/-- The row `r` of the running state after the first `n` keys. -/
def RowInv : Prop := Online.Inv (fun l : Fin 128 => p.1 (ix3 0 r l)) (fun c : Fin 256 => p.2 (ix3 0 r c)) (T q S V n)

theorem row_zero : RowInv r (m0, a0) q 0 S V := by
  refine .inl ⟨fun l => ?_, fun c => ?_, fun c => by simp [T]⟩
  · pointwise [m0, k0_pay114]
    rfl
  · pointwise [a0, k0_pay115]

theorem row_open (h : RowInv r p q n S V) (hS : ∀ k : Fin 512, sc Q K (ix2 r k) = (S (n + k) : EReal))
    (hV : ∀ (k : Fin 512) (c : Fin 256), (if (c : ℕ) < 128 then K (ix3 0 k c) else (1 : EReal)) = (V (n + k) c : EReal))
    (hq : n + 512 ≤ q) : RowInv r (open1 Q K p) q (n + 512) S V := by
  have hT : T q S V (n + 512) = fun c => T q S V n c + ∑ k : Fin 512, Online.w (sc Q K (ix2 r k)) * V (n + k) c := by
    funext c
    rw [T_add]
    refine congrArg (_ + ·) (Finset.sum_congr rfl fun k _ => ?_)
    have := k.isLt
    rw [hS, Online.w_coe, wt, if_pos (by omega)]
  unfold RowInv
  rw [hT]
  refine .inr (Online.step (fun k => sc Q K (ix2 r k)) (fun k c => V (n + k) c) (bm (sc Q K) r) lane lane h (fun k => ?_) (bm_ne_top _ _ fun k => ?_)
    (.inl (bm_ne_bot _ _ ⟨0, by decide⟩ ?_)) (fun l => mNew_at _ _ r l) fun c => ?_)
  · rw [hS]; exact EReal.coe_ne_top _
  · rw [hS]; exact EReal.coe_ne_top _
  · rw [hS]; exact EReal.coe_ne_bot _
  · refine (aNew_at (sc Q K) K p.1 p.2 r c).trans (congrArg (_ + ·) (Finset.sum_congr rfl fun k _ => ?_))
    rw [hV]; rfl

theorem row_last (qc : IVec S1x128x1 32) (h : RowInv r p q n S V) (hS : ∀ k : Fin 512, sc Q K (ix2 r k) = (S (n + k) : EReal))
    (hV : ∀ (k : Fin 512) (c : Fin 256), (if (c : ℕ) < 128 then K (ix3 0 k c) else (1 : EReal)) = (V (n + k) c : EReal))
    (hn : n ≤ 1536) (hn' : n % 64 = 0) (hnq : n ≤ q) (hqn : q < n + 512)
    (hqc : qc (ix3 0 ⟨(r : ℕ) % 128, Nat.mod_lt _ (by decide)⟩ 0) = BitVec.ofNat 32 (q / 64)) :
    ∃ M : ℝ, ∀ c : Fin 256, last1 (BitVec.ofNat 32 n) qc Q K p (ix3 0 r c) = ((Real.rpow 2 (-M) * T q S V 2048 c : ℝ) : EReal) := by
  have hs : ∀ k : Fin 512, msk (BitVec.ofNat 32 n) qc kiv (sc Q K) (ix2 r k) = if (n + k) / 64 ≤ q / 64 then (S (n + k) : EReal) else ⊥ := fun k => by
    rw [msk_at n q hn qc kiv (sc Q K) r k (by omega) hqc (by pointwise [kiv]), hS]
  have hT : T q S V 2048 = fun c => T q S V n c + ∑ k : Fin 512, Online.w (msk (BitVec.ofNat 32 n) qc kiv (sc Q K) (ix2 r k)) * V (n + k) c := by
    funext c
    rw [← T_full q S V (n + 512) c hqn (by omega) (by omega), T_add]
    refine congrArg (_ + ·) (Finset.sum_congr rfl fun k _ => congrArg (· * _) ?_)
    rw [hs, wt]
    split_ifs
    · exact (Online.w_coe _).symm
    · exact Online.w_bot.symm
  have hne : ∀ k : Fin 512, msk (BitVec.ofNat 32 n) qc kiv (sc Q K) (ix2 r k) ≠ (⊤ : EReal) := fun k => by
    rw [hs]
    split_ifs
    · exact EReal.coe_ne_top _
    · exact bot_ne_top
  obtain ⟨M, -, h2⟩ := Online.step (fun k => msk (BitVec.ofNat 32 n) qc kiv (sc Q K) (ix2 r k)) (fun k c => V (n + k) c)
    (bm (msk (BitVec.ofNat 32 n) qc kiv (sc Q K)) r) (m' := fun l => mNew (msk (BitVec.ofNat 32 n) qc kiv (sc Q K)) p.1 (ix3 0 r l))
    (a' := fun c => aNew (msk (BitVec.ofNat 32 n) qc kiv (sc Q K)) K p.1 p.2 (ix3 0 r c)) lane lane h hne (bm_ne_top _ _ hne)
    (.inl (bm_ne_bot _ _ ⟨0, by decide⟩ (by rw [hs, if_pos (by simp only; omega)]; exact EReal.coe_ne_bot _))) (fun l => mNew_at _ _ r l) fun c => by
      refine (aNew_at _ K p.1 p.2 r c).trans (congrArg (_ + ·) (Finset.sum_congr rfl fun k _ => ?_))
      rw [hV]
  refine ⟨M, fun c => ?_⟩
  rw [hT]
  exact h2 c

theorem pay127_at (A : Vec Ideal S1x2048x256 .f32) (r : Fin 2048) (c : Fin 128) :
    k0_pay127 (F := Ideal) A (ix2 r c) = Ideal.div (A (ix3 0 r ⟨c, by omega⟩)) (A (ix3 0 r ⟨128 + c, by omega⟩)) := by
  pointwise [k0_pay127]

theorem qcv_at (j : ℕ) (hj : j < 16) (a : Fin 128) : k0_pay116 (BitVec.ofNat 32 j) (ix3 0 a 0) = BitVec.ofNat 32 ((128 * j + a) / 64) := by
  pointwise [k0_pay116]
  have h : IntOp.addi (IntOp.muli (BitVec.ofNat 32 j) 128#32) (BitVec.ofNat 32 a) = BitVec.ofNat 32 (128 * j + a) := by
    refine BitVec.eq_of_toNat_eq ?_
    have := a.isLt
    simp only [IntOp.addi, IntOp.muli, BitVec.toNat_add, BitVec.toNat_mul, BitVec.toNat_ofNat]
    omega
  exact (congrArg (fun z => IntOp.shrsi .vector z 6#32) h).trans (shr6 _ (by omega))

theorem kb0_at (X : Vec Ideal S1x2048x256 .bf16) (k : Fin 512) (c : Fin 256) : kb0 X (ix3 0 k c) = X (ix3 0 ⟨0 + k, by omega⟩ c) := by
  refine View.ld_unit_apply_of _ _ _ _ _ _ fun d => ?_
  fin_cases d <;> simp
theorem kb1_at (X : Vec Ideal S1x2048x256 .bf16) (k : Fin 512) (c : Fin 256) : kb1 X (ix3 0 k c) = X (ix3 0 ⟨512 + k, by omega⟩ c) := by
  refine View.ld_unit_apply_of _ _ _ _ _ _ fun d => ?_
  fin_cases d <;> simp
theorem kb2_at (X : Vec Ideal S1x2048x256 .bf16) (k : Fin 512) (c : Fin 256) : kb2 X (ix3 0 k c) = X (ix3 0 ⟨1024 + k, by omega⟩ c) := by
  refine View.ld_unit_apply_of _ _ _ _ _ _ fun d => ?_
  fin_cases d <;> simp
theorem kb3_at (X : Vec Ideal S1x2048x256 .bf16) (k : Fin 512) (c : Fin 256) : kb3 X (ix3 0 k c) = X (ix3 0 ⟨1536 + k, by omega⟩ c) := by
  refine View.ld_unit_apply_of _ _ _ _ _ _ fun d => ?_
  fin_cases d <;> simp

end Cert.KernelIdeal.Att

end
-- ==== Proof.Blk.lean ====
module

public import proofs.«01_k».proof.Proof.Gen.KernelIdeal.Frame
public import proofs.«01_k».proof.Proof.Online
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

/-- The divisor the queries come scaled by. -/
def csc : EReal := Ideal.sqrt (Ideal.ofBits .f32 0x42C00000#32) * Ideal.log (Ideal.ofBits .f32 0x40000000#32)

theorem idx : ∀ t : Fin cfg0.N, win0_0.index t = ![t.val / 16, t.val % 16, 0] ∧ win0_1.index t = ![t.val / 16, t.val % 16, 0]
    ∧ win0_2.index t = ![t.val / 16, 0, 0] ∧ win0_3.index t = ![t.val / 16, t.val % 16, 0] := (by decide +kernel : ∀ t : Fin grid0.N, _)

theorem coords : ∀ t : Fin cfg0.N, (grid0.coords t 1).val = t.val % 16 := (by decide +kernel : ∀ t : Fin grid0.N, _)

theorem lt128 (t : Fin cfg0.N) : t.val < 128 := lt_of_lt_of_eq t.isLt N_0

/-- The batch of a grid point. -/
def bat (t : Fin cfg0.N) : Fin 8 := ⟨t.val / 16, by have := lt128 t; omega⟩

/-- The place of a row of a grid point's queries. -/
def pos (t : Fin cfg0.N) (a : Fin 128) : Fin 2048 := ⟨t.val % 16 * 128 + a, by omega⟩

theorem q_at (X : FVec Ideal S8x2048x16x128 .f32) (b : Fin 8) (q x : Fin 2048) :
    (truncf .bf16 (Host.divf (shapeCast S8x2048x2048 X shapeCasts_S8x2048x16x128_S8x2048x2048) (broadcastInDim S8x2048x2048 ![] bcast_S_S8x2048x2048
      (mulf (Host.sqrt (constant (F := Ideal) S_ .f32 0x42C00000#32)) (Host.log (constant (F := Ideal) S_ .f32 0x40000000#32))))) bitsLt_bf16_f32 : FVec Ideal S8x2048x2048 .bf16) (ix3 b q x)
      = Ideal.div (X (ix4 b q ⟨(x : ℕ) / 128, by omega⟩ ⟨(x : ℕ) % 128, by omega⟩)) csc := by
  pointwise [csc]

theorem r_at (X : FVec Ideal S8x2048x16x32 .f32) (b : Fin 8) (q : Fin 2048) (x : Fin 512) :
    (truncf .bf16 (Host.divf (shapeCast S8x2048x512 X shapeCasts_S8x2048x16x32_S8x2048x512) (broadcastInDim S8x2048x512 ![] bcast_S_S8x2048x512
      (mulf (Host.sqrt (constant (F := Ideal) S_ .f32 0x42C00000#32)) (Host.log (constant (F := Ideal) S_ .f32 0x40000000#32))))) bitsLt_bf16_f32 : FVec Ideal S8x2048x512 .bf16) (ix3 b q x)
      = Ideal.div (X (ix4 b q ⟨(x : ℕ) / 32, by omega⟩ ⟨(x : ℕ) % 32, by omega⟩)) csc := by
  pointwise [csc]

theorem k_at (X : FVec Ideal S8x2048x128 .f32) (Y : FVec Ideal S8x2048x32 .f32) (b : Fin 8) (k : Fin 2048) (x : Fin 256) :
    (truncf .bf16 (concatenate S8x2048x256 2 [⟨S8x2048x128, X⟩, ⟨S8x2048x32, Y⟩, ⟨S8x2048x32, Y⟩, ⟨S8x2048x32, Y⟩, ⟨S8x2048x32, Y⟩]
      concatenates_S8x2048x128_S8x2048x32_S8x2048x32_S8x2048x32_S8x2048x32_S8x2048x256_d2 : FVec Ideal S8x2048x256 .f32) bitsLt_bf16_f32 : FVec Ideal S8x2048x256 .bf16) (ix3 b k x)
      = if h : (x : ℕ) < 128 then X (ix3 b k ⟨x, h⟩) else Y (ix3 b k ⟨((x : ℕ) - 128) % 32, by omega⟩) := by
  pointwise
  split_ifs <;> first | rfl | (refine congrArg Y (congrArg (ix3 b k) (Fin.ext ?_)); dsimp only; omega) | omega

variable (m : (ℓ : Loc nD τ sig) → Buf (Elt Ideal) ℓ)

theorem blk0_at (c : Dev nD) (t : Fin cfg0.N) (a : Fin 128) (x : Fin 2048) :
    (show Vec Ideal S1x128x2048 .bf16 from iblk m c 0 t) (ix3 0 a x)
      = Ideal.div ((show FVec Ideal S8x2048x16x128 .f32 from m ((c : Thread nD τ).loc main_arg0)) (ix4 (bat t) (pos t a) ⟨(x : ℕ) / 128, by omega⟩ ⟨(x : ℕ) % 128, by omega⟩)) csc := by
  refine Eq.trans ?_ (q_at _ _ _ _)
  blk_simp [iblk]
  entry_read
  blk_ext [idx t, bat, pos]

theorem blk1_at (c : Dev nD) (t : Fin cfg0.N) (a : Fin 128) (x : Fin 512) :
    (show Vec Ideal S1x128x512 .bf16 from iblk m c 1 t) (ix3 0 a x)
      = Ideal.div ((show FVec Ideal S8x2048x16x32 .f32 from m ((c : Thread nD τ).loc main_arg1)) (ix4 (bat t) (pos t a) ⟨(x : ℕ) / 32, by omega⟩ ⟨(x : ℕ) % 32, by omega⟩)) csc := by
  refine Eq.trans ?_ (r_at _ _ _ _)
  blk_simp [iblk]
  entry_read
  blk_ext [idx t, bat, pos]

theorem blk2_at (c : Dev nD) (t : Fin cfg0.N) (k : Fin 2048) (x : Fin 256) :
    (show Vec Ideal S1x2048x256 .bf16 from iblk m c 2 t) (ix3 0 k x)
      = if h : (x : ℕ) < 128 then (show FVec Ideal S8x2048x128 .f32 from m ((c : Thread nD τ).loc main_arg2)) (ix3 (bat t) k ⟨x, h⟩)
        else (show FVec Ideal S8x2048x32 .f32 from m ((c : Thread nD τ).loc main_arg3)) (ix3 (bat t) k ⟨((x : ℕ) - 128) % 32, by omega⟩) := by
  refine Eq.trans ?_ (k_at _ _ _ _ _)
  blk_simp [iblk]
  entry_read
  blk_ext [idx t, bat]

end Cert.KernelIdeal.Att

end
-- ==== Proof.Spec.lean ====
module

public import proofs.«01_k».proof.Proof.Online

@[expose] public section

noncomputable section

/-! The attention over real numbers: queries and keys in a latent part and a rotary part, the latent keys the
    values, and the keys of later chunks of 64 left out. -/

namespace Cert.Spec

variable (qL : Fin 8 → Fin 2048 → Fin 16 → Fin 128 → ℝ) (qR : Fin 8 → Fin 2048 → Fin 16 → Fin 32 → ℝ)
  (ck : Fin 8 → Fin 2048 → Fin 128 → ℝ) (kr : Fin 8 → Fin 2048 → Fin 32 → ℝ)

/-- The score of a query of a head with a key. -/
def score (b : Fin 8) (h : Fin 16) (q k : Fin 2048) : ℝ := ∑ x, ck b k x * qL b q h x + ∑ x, kr b k x * qR b q h x

/-- The weight of a key. -/
def wgt (b : Fin 8) (h : Fin 16) (q k : Fin 2048) : ℝ :=
  if (k : ℕ) / 64 ≤ (q : ℕ) / 64 then Real.exp (score qL qR ck kr b h q k / √96) else 0

/-- A column of the head's output for a query. -/
def out (b : Fin 8) (q : Fin 2048) (h : Fin 16) (c : Fin 128) : ℝ :=
  (∑ k, wgt qL qR ck kr b h q k * ck b k c) / ∑ k, wgt qL qR ck kr b h q k

theorem wgt_sum_ne (b : Fin 8) (h : Fin 16) (q : Fin 2048) : ∑ k, wgt qL qR ck kr b h q k ≠ 0 := by
  refine (Finset.sum_pos' (fun k _ => ?_) ⟨q, Finset.mem_univ _, ?_⟩).ne'
  · unfold wgt
    split_ifs
    · exact (Real.exp_pos _).le
    · exact le_rfl
  · rw [wgt, if_pos le_rfl]
    exact Real.exp_pos _

end Cert.Spec

end
-- ==== Proof.Score.lean ====
module

public import proofs.«01_k».proof.Proof.Rows
public import proofs.«01_k».proof.Proof.Blk
public import proofs.«01_k».proof.Proof.Spec

@[expose] public section

set_option maxRecDepth 16384

noncomputable section

namespace Cert.KernelIdeal.Att

open Cert.KernelIdeal Cert.KernelIdeal.Gen Idealize.ShloMosaic Idealize.ShloMosaic.TcCoe Idealize.SL.Sem

/-- The divisor of the queries, as a real. -/
def cs : ℝ := √96 * Real.log 2

theorem cs_ne : cs ≠ 0 := mul_ne_zero (by positivity) (Real.log_pos (by norm_num)).ne'

theorem csc_eq : csc = (cs : EReal) := by
  have h1 : Ideal.ofBits .f32 0x42C00000#32 = ((96 : ℝ) : EReal) := by
    simp [Ideal.ofBits, Ideal.ieee]
    rw [← EReal.coe_mul]
    norm_num
  have h2 : Ideal.ofBits .f32 0x40000000#32 = ((2 : ℝ) : EReal) := by
    simp [Ideal.ofBits, Ideal.ieee]
    rw [← EReal.coe_mul]
    norm_num
  rw [csc, h1, h2, Ideal.sqrt_coe, Ideal.log_coe, if_neg (by norm_num : ¬ (96 : ℝ) < 0), if_neg (by norm_num : ¬ (2 : ℝ) ≤ 0), ← EReal.coe_mul, cs]

theorem div_csc (x : ℝ) : Ideal.div (x : EReal) csc = ((x / cs : ℝ) : EReal) := by
  rw [csc_eq, Ideal.div_coe cs_ne, ← EReal.coe_mul, mul_one_div]

/-- Two to a score over the divisor is the exponential of the score over the square root. -/
theorem rpow_cs (s : ℝ) : Real.rpow 2 (s / cs) = Real.exp (s / √96) := by
  have hl : Real.log 2 ≠ 0 := (Real.log_pos (by norm_num)).ne'
  have hs : (√96 : ℝ) ≠ 0 := by positivity
  refine (Real.rpow_def_of_pos (by norm_num : (0 : ℝ) < 2) _).trans (congrArg Real.exp ?_)
  rw [cs]
  field_simp

/-- Of the four groups of 32 columns only one counts. -/
theorem pick (g : ℕ) (hg : g < 4) (f : Fin 128 → ℝ) :
    (∑ x : Fin 128, if (x : ℕ) / 32 = g then f x else 0) = ∑ y : Fin 32, f ⟨g * 32 + y, by omega⟩ := by
  rw [← Finset.sum_filter]
  refine Finset.sum_nbij' (fun x => ⟨(x : ℕ) % 32, by omega⟩) (fun y => ⟨g * 32 + y, by omega⟩) ?_ ?_ ?_ ?_ ?_
  · exact fun _ _ => Finset.mem_univ _
  · intro y _
    refine Finset.mem_filter.2 ⟨Finset.mem_univ _, ?_⟩
    show (g * 32 + (y : ℕ)) / 32 = g
    omega
  · intro x hx
    have h := (Finset.mem_filter.1 hx).2
    refine Fin.ext ?_
    show g * 32 + (x : ℕ) % 32 = x
    omega
  · intro y _
    refine Fin.ext ?_
    show (g * 32 + (y : ℕ)) % 32 = y
    omega
  · intro x hx
    have h := (Finset.mem_filter.1 hx).2
    refine congrArg f (Fin.ext ?_)
    show (x : ℕ) = g * 32 + (x : ℕ) % 32
    omega

variable (qL : Fin 8 → Fin 2048 → Fin 16 → Fin 128 → ℝ) (qR : Fin 8 → Fin 2048 → Fin 16 → Fin 32 → ℝ)
  (ck : Fin 8 → Fin 2048 → Fin 128 → ℝ) (kr : Fin 8 → Fin 2048 → Fin 32 → ℝ)

/-- The scaled scores of a query, by the place of the key. -/
def Sv (b : Fin 8) (h : Fin 16) (q : Fin 2048) (k : ℕ) : ℝ := if hk : k < 2048 then Spec.score qL qR ck kr b h q ⟨k, hk⟩ / cs else 0

/-- The values of the keys, then ones. -/
def Vv (b : Fin 8) (k : ℕ) (c : Fin 256) : ℝ := if hk : k < 2048 then (if hc : (c : ℕ) < 128 then ck b ⟨k, hk⟩ ⟨c, hc⟩ else 1) else 0

theorem wt_eq (b : Fin 8) (h : Fin 16) (q k : Fin 2048) : wt q (Sv qL qR ck kr b h q) k = Spec.wgt qL qR ck kr b h q k := by
  rw [wt, Sv, dif_pos k.isLt, rpow_cs, Spec.wgt]

theorem T_val (b : Fin 8) (h : Fin 16) (q : Fin 2048) (c : Fin 128) :
    T q (Sv qL qR ck kr b h q) (Vv ck b) 2048 ⟨c, by omega⟩ = ∑ k, Spec.wgt qL qR ck kr b h q k * ck b k c := by
  rw [T, Finset.sum_range]
  refine Finset.sum_congr rfl fun k _ => ?_
  rw [wt_eq, Vv, dif_pos k.isLt, dif_pos c.isLt]

theorem T_one (b : Fin 8) (h : Fin 16) (q : Fin 2048) (c : Fin 128) :
    T q (Sv qL qR ck kr b h q) (Vv ck b) 2048 ⟨128 + c, by omega⟩ = ∑ k, Spec.wgt qL qR ck kr b h q k := by
  rw [T, Finset.sum_range]
  refine Finset.sum_congr rfl fun k _ => ?_
  rw [wt_eq, Vv, dif_pos k.isLt, dif_neg (by simp), mul_one]

section
variable (x0 : FVec Ideal S1x128x2048 .bf16) (x1 : FVec Ideal S1x128x512 .bf16) (X : Vec Ideal S1x2048x256 .bf16) (b : Fin 8) (ps : Fin 128 → Fin 2048)

/-- The blocks of queries and of keys, read at real numbers. -/
structure Reads : Prop where
  q : ∀ (a : Fin 128) (x : Fin 2048), x0 (ix3 0 a x) = ((qL b (ps a) ⟨(x : ℕ) / 128, by omega⟩ ⟨(x : ℕ) % 128, by omega⟩ / cs : ℝ) : EReal)
  r : ∀ (a : Fin 128) (x : Fin 512), x1 (ix3 0 a x) = ((qR b (ps a) ⟨(x : ℕ) / 32, by omega⟩ ⟨(x : ℕ) % 32, by omega⟩ / cs : ℝ) : EReal)
  c : ∀ (k : Fin 2048) (x : Fin 128), X (ix3 0 k ⟨x, by omega⟩) = (ck b k x : EReal)
  k : ∀ (k : Fin 2048) (x : Fin 128), X (ix3 0 k ⟨128 + x, by omega⟩) = (kr b k ⟨(x : ℕ) % 32, by omega⟩ : EReal)

variable {qL qR ck kr x0 x1 X b ps} (R : Reads qL qR ck kr x0 x1 X b ps)
include R

/-- A stacked row of queries against a key. -/
theorem dot_at (r : Fin 2048) (k : Fin 2048) : (∑ x : Fin 256, stq x0 x1 r x * X (ix3 0 k x) : EReal)
    = (Sv qL qR ck kr b ⟨(r : ℕ) / 128, by omega⟩ (ps (lane r)) k : EReal) := by
  have hr := r.isLt
  have e1 : ∀ x : Fin 128, stq x0 x1 r ⟨x, by omega⟩ * X (ix3 0 k ⟨x, by omega⟩)
      = ((qL b (ps (lane r)) ⟨(r : ℕ) / 128, by omega⟩ x / cs * ck b k x : ℝ) : EReal) := fun x => by
    rw [stq, dif_pos x.isLt, R.q, R.c, ← EReal.coe_mul]
    congr 4
    · refine Fin.ext ?_
      show ((r : ℕ) / 128 * 128 + (x : ℕ)) / 128 = (r : ℕ) / 128
      omega
    · refine Fin.ext ?_
      show ((r : ℕ) / 128 * 128 + (x : ℕ)) % 128 = x
      omega
  have e2 : ∀ x : Fin 128, stq x0 x1 r ⟨128 + x, by omega⟩ * X (ix3 0 k ⟨128 + x, by omega⟩)
      = ((if (x : ℕ) / 32 = (r : ℕ) / 128 % 4 then qR b (ps (lane r)) ⟨(r : ℕ) / 128, by omega⟩ ⟨(x : ℕ) % 32, by omega⟩ / cs * kr b k ⟨(x : ℕ) % 32, by omega⟩ else 0 : ℝ) : EReal) := fun x => by
    have hx : 128 + (x : ℕ) - 128 = x := by omega
    rw [stq, dif_neg (by simp), R.k]
    by_cases hh : (x : ℕ) / 32 = (r : ℕ) / 128 % 4
    · rw [if_pos (by rw [← hh]; simp), if_pos hh, R.r, ← EReal.coe_mul]
      congr 4
      · refine Fin.ext ?_
        show ((r : ℕ) / 512 * 128 + (128 + (x : ℕ) - 128)) / 32 = (r : ℕ) / 128
        omega
      · refine Fin.ext ?_
        show ((r : ℕ) / 512 * 128 + (128 + (x : ℕ) - 128)) % 32 = (x : ℕ) % 32
        omega
    · rw [if_neg (by simpa using hh), if_neg hh, zero_mul]; rfl
  refine (Fin.sum_univ_add (a := 128) (b := 128) fun x : Fin (128 + 128) => stq x0 x1 r x * X (ix3 0 k x)).trans ?_
  refine (congrArg₂ (· + ·) (Finset.sum_congr rfl fun x _ => e1 x) (Finset.sum_congr rfl fun x _ => e2 x)).trans ?_
  rw [← Online.coe_sum, ← Online.coe_sum, ← EReal.coe_add, pick _ (by omega)]
  rw [Sv, dif_pos k.isLt, Spec.score, add_div, Finset.sum_div, Finset.sum_div]
  refine congrArg Real.toEReal (congrArg₂ (· + ·) (Finset.sum_congr rfl fun x _ => by ring) (Finset.sum_congr rfl fun y _ => ?_))
  have hy : (⟨((r : ℕ) / 128 % 4 * 32 + (y : ℕ)) % 32, by omega⟩ : Fin 32) = y := Fin.ext (by show ((r : ℕ) / 128 % 4 * 32 + (y : ℕ)) % 32 = y; omega)
  rw [hy]
  ring

/-- A key's columns, then ones. -/
theorem val_at (k : Fin 2048) (c : Fin 256) : (if (c : ℕ) < 128 then X (ix3 0 k c) else (1 : EReal)) = (Vv ck b k c : EReal) := by
  rw [Vv, dif_pos k.isLt]
  split_ifs with hc
  · exact R.c k ⟨c, hc⟩
  · rfl

variable {Q : FVec Ideal S2048x256 .bf16} (hQ : ∀ r c', Q (ix2 r c') = stq x0 x1 r c') (r : Fin 2048)
include hQ

theorem sc_blk (K : Vec Ideal S1x512x256 .bf16) (o : ℕ) (ho : o ≤ 1536) (hK : ∀ (k : Fin 512) (c : Fin 256), K (ix3 0 k c) = X (ix3 0 ⟨o + k, by omega⟩ c)) (k : Fin 512) :
    sc Q K (ix2 r k) = (Sv qL qR ck kr b ⟨(r : ℕ) / 128, by omega⟩ (ps (lane r)) (o + k) : EReal) := by
  rw [sc_at]
  refine Eq.trans (Finset.sum_congr rfl fun x _ => ?_) (dot_at R r ⟨o + k, by omega⟩)
  rw [hQ, hK]

omit hQ in
theorem val_blk (K : Vec Ideal S1x512x256 .bf16) (o : ℕ) (ho : o ≤ 1536) (hK : ∀ (k : Fin 512) (c : Fin 256), K (ix3 0 k c) = X (ix3 0 ⟨o + k, by omega⟩ c))
    (k : Fin 512) (c : Fin 256) : (if (c : ℕ) < 128 then K (ix3 0 k c) else (1 : EReal)) = (Vv ck b (o + k) c : EReal) := by
  rw [hK]
  exact val_at R ⟨o + k, by omega⟩ c

omit hQ in
/-- The output of a row whose columns are a multiple of the weighted sums. -/
theorem out_row (A : Vec Ideal S1x2048x256 .f32) (c : Fin 128)
    (hA : ∃ M : ℝ, ∀ c : Fin 256, A (ix3 0 r c) = ((Real.rpow 2 (-M) * T (ps (lane r)) (Sv qL qR ck kr b ⟨(r : ℕ) / 128, by omega⟩ (ps (lane r))) (Vv ck b) 2048 c : ℝ) : EReal)) :
    k0_pay127 (F := Ideal) A (ix2 r c) = (Spec.out qL qR ck kr b (ps (lane r)) ⟨(r : ℕ) / 128, by omega⟩ c : EReal) := by
  obtain ⟨M, hA⟩ := hA
  rw [pay127_at, hA, hA, T_val, T_one]
  exact Online.ratio M _ _ (Spec.wgt_sum_ne qL qR ck kr b _ _)

variable (qc : IVec S1x128x1 32) (hqc : qc (ix3 0 (lane r) 0) = BitVec.ofNat 32 ((ps (lane r) : ℕ) / 64))
include hqc

theorem rowA (hq : (ps (lane r) : ℕ) < 512) (c : Fin 128) :
    k0_pay127 (F := Ideal) (last1 0#32 qc Q (kb0 X) (m0, a0)) (ix2 r c) = (Spec.out qL qR ck kr b (ps (lane r)) ⟨(r : ℕ) / 128, by omega⟩ c : EReal) :=
  out_row R r _ c (row_last Q (kb0 X) r (m0, a0) _ 0 _ _ qc (row_zero r _ _ _) (sc_blk R hQ r _ 0 (by omega) (kb0_at X)) (val_blk R _ 0 (by omega) (kb0_at X))
    (by omega) (by omega) (by omega) (by omega) hqc)

theorem rowB (hq : 512 ≤ (ps (lane r) : ℕ)) (hq' : (ps (lane r) : ℕ) < 1024) (c : Fin 128) :
    k0_pay127 (F := Ideal) (last1 512#32 qc Q (kb1 X) (open1 Q (kb0 X) (m0, a0))) (ix2 r c) = (Spec.out qL qR ck kr b (ps (lane r)) ⟨(r : ℕ) / 128, by omega⟩ c : EReal) := by
  have h0 := row_open Q (kb0 X) r (m0, a0) (ps (lane r)) 0 _ _ (row_zero r _ _ _) (sc_blk R hQ r _ 0 (by omega) (kb0_at X)) (val_blk R _ 0 (by omega) (kb0_at X)) (by omega)
  exact out_row R r _ c (row_last Q (kb1 X) r _ _ 512 _ _ qc h0 (sc_blk R hQ r _ 512 (by omega) (kb1_at X)) (val_blk R _ 512 (by omega) (kb1_at X))
    (by omega) (by omega) (by omega) (by omega) hqc)

theorem rowC (hq : 1024 ≤ (ps (lane r) : ℕ)) (hq' : (ps (lane r) : ℕ) < 1536) (c : Fin 128) :
    k0_pay127 (F := Ideal) (last1 1024#32 qc Q (kb2 X) (open1 Q (kb1 X) (open1 Q (kb0 X) (m0, a0)))) (ix2 r c) = (Spec.out qL qR ck kr b (ps (lane r)) ⟨(r : ℕ) / 128, by omega⟩ c : EReal) := by
  have h0 := row_open Q (kb0 X) r (m0, a0) (ps (lane r)) 0 _ _ (row_zero r _ _ _) (sc_blk R hQ r _ 0 (by omega) (kb0_at X)) (val_blk R _ 0 (by omega) (kb0_at X)) (by omega)
  have h1 := row_open Q (kb1 X) r _ (ps (lane r)) 512 _ _ h0 (sc_blk R hQ r _ 512 (by omega) (kb1_at X)) (val_blk R _ 512 (by omega) (kb1_at X)) (by omega)
  exact out_row R r _ c (row_last Q (kb2 X) r _ _ 1024 _ _ qc h1 (sc_blk R hQ r _ 1024 (by omega) (kb2_at X)) (val_blk R _ 1024 (by omega) (kb2_at X))
    (by omega) (by omega) (by omega) (by omega) hqc)

theorem rowD (hq : 1536 ≤ (ps (lane r) : ℕ)) (c : Fin 128) :
    k0_pay127 (F := Ideal) (last1 1536#32 qc Q (kb3 X) (open1 Q (kb2 X) (open1 Q (kb1 X) (open1 Q (kb0 X) (m0, a0))))) (ix2 r c) = (Spec.out qL qR ck kr b (ps (lane r)) ⟨(r : ℕ) / 128, by omega⟩ c : EReal) := by
  have hlt := (ps (lane r)).isLt
  have h0 := row_open Q (kb0 X) r (m0, a0) (ps (lane r)) 0 _ _ (row_zero r _ _ _) (sc_blk R hQ r _ 0 (by omega) (kb0_at X)) (val_blk R _ 0 (by omega) (kb0_at X)) (by omega)
  have h1 := row_open Q (kb1 X) r _ (ps (lane r)) 512 _ _ h0 (sc_blk R hQ r _ 512 (by omega) (kb1_at X)) (val_blk R _ 512 (by omega) (kb1_at X)) (by omega)
  have h2 := row_open Q (kb2 X) r _ (ps (lane r)) 1024 _ _ h1 (sc_blk R hQ r _ 1024 (by omega) (kb2_at X)) (val_blk R _ 1024 (by omega) (kb2_at X)) (by omega)
  exact out_row R r _ c (row_last Q (kb3 X) r _ _ 1536 _ _ qc h2 (sc_blk R hQ r _ 1536 (by omega) (kb3_at X)) (val_blk R _ 1536 (by omega) (kb3_at X))
    (by omega) (by omega) (by omega) (by omega) hqc)

end

end Cert.KernelIdeal.Att

end
-- ==== Proof.Final.lean ====
module

public import proofs.«01_k».proof.Proof.CaseA
public import proofs.«01_k».proof.Proof.CaseB
public import proofs.«01_k».proof.Proof.CaseC
public import proofs.«01_k».proof.Proof.CaseD
public import proofs.«01_k».proof.Proof.Score

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)

variable (qL : Fin 8 → Fin 2048 → Fin 16 → Fin 128 → ℝ) (qR : Fin 8 → Fin 2048 → Fin 16 → Fin 32 → ℝ)
  (ck : Fin 8 → Fin 2048 → Fin 128 → ℝ) (kr : Fin 8 → Fin 2048 → Fin 32 → ℝ)
variable (m : (ℓ : Loc nD τ sig) → Buf (Elt Ideal) ℓ) (c : Dev nD)

/-- The arguments, read at real numbers. -/
structure Args : Prop where
  hq : ∀ b p h x, (show FVec Ideal S8x2048x16x128 .f32 from m ((c : Thread nD τ).loc main_arg0)) (ix4 b p h x) = (qL b p h x : EReal)
  hr : ∀ b p h x, (show FVec Ideal S8x2048x16x32 .f32 from m ((c : Thread nD τ).loc main_arg1)) (ix4 b p h x) = (qR b p h x : EReal)
  hc : ∀ b k x, (show FVec Ideal S8x2048x128 .f32 from m ((c : Thread nD τ).loc main_arg2)) (ix3 b k x) = (ck b k x : EReal)
  hk : ∀ b k x, (show FVec Ideal S8x2048x32 .f32 from m ((c : Thread nD τ).loc main_arg3)) (ix3 b k x) = (kr b k x : EReal)

variable {qL qR ck kr m c} (H : Args qL qR ck kr m c)
include H

theorem reads (t : Fin cfg0.N) : Reads qL qR ck kr (iblk m c 0 t) (iblk m c 1 t) (iblk m c 2 t) (bat t) (pos t) where
  q a x := (blk0_at m c t a x).trans (by rw [H.hq, div_csc])
  r a x := (blk1_at m c t a x).trans (by rw [H.hr, div_csc])
  c k x := (blk2_at m c t k ⟨x, by omega⟩).trans (by rw [dif_pos x.isLt, H.hc])
  k k x := (blk2_at m c t k ⟨128 + x, by omega⟩).trans (by
    rw [dif_neg (by simp), H.hk]
    exact congrArg (fun z => (kr (bat t) k z : EReal)) (Fin.ext (by show (128 + (x : ℕ) - 128) % 32 = (x : ℕ) % 32; omega)))

omit H in
theorem qcv_lane (t : Fin cfg0.N) (r : Fin 2048) : qcv t (ix3 0 (lane r) 0) = BitVec.ofNat 32 ((pos t (lane r) : ℕ) / 64) := by
  rw [qcv, coords t]
  refine (qcv_at _ (Nat.mod_lt _ (by decide)) (lane r)).trans (congrArg _ ?_)
  show (128 * (t.val % 16) + (lane r : ℕ)) / 64 = (t.val % 16 * 128 + (lane r : ℕ)) / 64
  rw [Nat.mul_comm]

/-- The output block of a grid point. -/
theorem point (t : Fin cfg0.N) (y : S1x128x2048.Idx) : (show FVec Ideal S1x128x2048 .bf16 from outsAt0 m c t.val t.isLt) y
    = (Spec.out qL qR ck kr (bat t) (pos t (y 1)) ⟨(y 2 : ℕ) / 128, Nat.div_lt_of_lt_mul (y 2).isLt⟩ ⟨(y 2 : ℕ) % 128, Nat.mod_lt _ (by decide)⟩ : EReal) := by
  have R := reads H t
  generalize hr : rowOf (y 1) (y 2) = r
  have hy1 : (y 1 : ℕ) < 128 := (y 1).isLt
  have hy2 : (y 2 : ℕ) < 2048 := (y 2).isLt
  have hv : (r : ℕ) = (y 2 : ℕ) / 128 * 128 + (y 1 : ℕ) := by rw [← hr]; rfl
  have hl : lane r = y 1 := Fin.ext (by show (r : ℕ) % 128 = (y 1 : ℕ); rw [hv]; omega)
  have hh : (⟨(r : ℕ) / 128, by omega⟩ : Fin 16) = ⟨(y 2 : ℕ) / 128, Nat.div_lt_of_lt_mul (y 2).isLt⟩ := Fin.ext (by show (r : ℕ) / 128 = (y 2 : ℕ) / 128; rw [hv]; omega)
  have hp : (pos t (lane r) : ℕ) = t.val % 16 * 128 + (lane r : ℕ) := rfl
  have hlt := (lane r).isLt
  have hc := qcv_lane t r
  suffices hs : (show FVec Ideal S1x128x2048 .bf16 from outsAt0 m c t.val t.isLt) y
      = (Spec.out qL qR ck kr (bat t) (pos t (lane r)) ⟨(r : ℕ) / 128, by omega⟩ (lane (n := 2048) (y 2)) : EReal) by
    rw [hs, hh, hl]; rfl
  by_cases h0 : t.val % 16 ≤ 3
  · obtain ⟨Q, A, hQ, hA, hy⟩ := caseA m c t h0 (by omega) (by omega) (by omega)
    rw [hy, finv, hr, hA]
    exact rowA R hQ r _ hc (by omega) _
  by_cases h1 : 4 ≤ t.val % 16 ∧ t.val % 16 ≤ 7
  · obtain ⟨Q, A, hQ, hA, hy⟩ := caseB m c t h0 h1 (by omega) (by omega)
    rw [hy, finv, hr, hA]
    exact rowB R hQ r _ hc (by omega) (by omega) _
  by_cases h2 : 8 ≤ t.val % 16 ∧ t.val % 16 ≤ 11
  · obtain ⟨Q, A, hQ, hA, hy⟩ := caseC m c t h0 h1 h2 (by omega)
    rw [hy, finv, hr, hA]
    exact rowC R hQ r _ hc (by omega) (by omega) _
  · obtain ⟨Q, A, hQ, hA, hy⟩ := caseD m c t h0 h1 h2 (by omega)
    rw [hy, finv, hr, hA]
    exact rowD R hQ r _ hc (by omega) _

omit H in
variable (qL qR ck kr) in
/-- The attention as an array. -/
def outArr : FVec Ideal S8x2048x2048 .bf16 := fun i =>
  (Spec.out qL qR ck kr (i 0) (i 1) ⟨(i 2 : ℕ) / 128, Nat.div_lt_of_lt_mul (i 2).isLt⟩ ⟨(i 2 : ℕ) % 128, Nat.mod_lt _ (by decide)⟩ : EReal)

omit H in
variable (qL qR ck kr) in
theorem outArr_of (i : S8x2048x2048.Idx) (b : Fin 8) (p j : Fin 2048) (h0 : (i 0 : ℕ) = b) (h1 : (i 1 : ℕ) = p) (h2 : (i 2 : ℕ) = j) :
    outArr qL qR ck kr i = (Spec.out qL qR ck kr b p ⟨(j : ℕ) / 128, by omega⟩ ⟨(j : ℕ) % 128, Nat.mod_lt _ (by decide)⟩ : EReal) := by
  obtain rfl : i 0 = b := Fin.ext h0
  obtain rfl : i 1 = p := Fin.ext h1
  obtain rfl : i 2 = j := Fin.ext h2
  rfl

/-- The kernel's result is the attention. -/
theorem final : (dats m 0 c).arrAt 3 cfg0.N = outArr qL qR ck kr := by
  refine (dats m 0 c).arrAt_eq_of_covers 3 _ (by decide +kernel) fun t _ y => ?_
  have e := point H t y
  blk_simp
  rw [after0_3]
  refine Eq.trans e (outArr_of qL qR ck kr _ _ _ (y 2) ?_ ?_ ?_).symm
  · have := (y 0).isLt
    blk_simp [idx t]
    simp only [bat]
    try omega
  · blk_simp [idx t]
    simp only [pos]
    try omega
  · blk_simp [idx t]
    try omega

end Cert.KernelIdeal.Att

end
-- ==== Proof.Ref.lean ====
module

public import proofs.«01_k».proof.Proof.Gen.ReferenceIdeal.Read
public import proofs.«01_k».proof.Proof.Spec
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

theorem ofBits96 : Ideal.ofBits .f32 0x42C00000#32 = ((96 : ℝ) : EReal) := by
  simp [Ideal.ofBits, Ideal.ieee]
  rw [← EReal.coe_mul]
  norm_num

theorem negInf : Ideal.ofBits .f32 0xFF800000#32 = ⊥ := by simp [Ideal.ofBits, Ideal.ieee]

theorem hmax_at (v : FVec Ideal S8x16x2048x2048 .f32) (b : Fin 8) (h : Fin 16) (q : Fin 2048) :
    Host.reduce (s := S8x16x2048x2048) (t := S8x16x2048) FloatOps.maximumf v (constant (F := Ideal) S_ .f32 0xFF800000#32) reducesTo_S8x16x2048x2048_S8x16x2048_d3 h_S_ (ix3 b h q)
      = Finset.univ.fold max (Ideal.ofBits .f32 0xFF800000#32) fun x : Fin 2048 => v (ix4 b h q x) := by
  pointwise

/-- The chunk of a place, as the division with the sign's correction computes it. -/
theorem chunk (n : ℕ) (h : n < 2048) : Scalar.select
      (IntOp.andi
        (IntOp.cmpi .ne (if BitVec.ofNat 32 n = 0 then 0 else if (BitVec.ofNat 32 n).msb = true then -1 else 1 : BitVec 32)
          (if (64#32 : BitVec 32) = 0 then 0 else if BitVec.msb 64#32 = true then -1 else 1 : BitVec 32))
        (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32)
    = BitVec.ofNat 32 (n / 64) :=
  (by decide +kernel : ∀ n : Fin 2048, Scalar.select
      (IntOp.andi
        (IntOp.cmpi .ne (if BitVec.ofNat 32 n.val = 0 then 0 else if (BitVec.ofNat 32 n.val).msb = true then -1 else 1 : BitVec 32)
          (if (64#32 : BitVec 32) = 0 then 0 else if BitVec.msb 64#32 = true then -1 else 1 : BitVec 32))
        (IntOp.cmpi .ne (IntOp.remsi .host (BitVec.ofNat 32 n.val) 64#32) 0#32))
      (IntOp.subi (IntOp.divsi .host (BitVec.ofNat 32 n.val) 64#32) 1#32) (IntOp.divsi .host (BitVec.ofNat 32 n.val) 64#32)
    = BitVec.ofNat 32 (n.val / 64)) ⟨n, h⟩

theorem kc_at (k : Fin 2048) : val_main_v10 (F := Ideal) (ix2 (0 : Fin 1) k) = BitVec.ofNat 32 ((k : ℕ) / 64) := by
  pointwise [val_main_v10, val_main_call0_v11, val_main_call0_v13, val_main_call0_v2, val_main_call0_v6, val_main_call0_v10, val_main_call0_v3, val_main_call0_v5, val_main_call0_v4, val_main_call0_v0, val_main_c, val_main_call0_v8, val_main_call0_v9, val_main_call0_c, val_main_call0_v12, val_main_call0_c_0, val_main_v9, val_main_v0, val_main_call0_v1, val_main_call0_v7]
  exact chunk k k.isLt

theorem qc_at (q : Fin 2048) : val_main_v12 (F := Ideal) (ix2 q (0 : Fin 1)) = BitVec.ofNat 32 ((q : ℕ) / 64) := by
  pointwise [val_main_v12, val_main_call1_v11, val_main_call1_v13, val_main_call1_v2, val_main_call1_v6, val_main_call1_v10, val_main_call1_v3, val_main_call1_v5, val_main_call1_v4, val_main_call1_v0, val_main_c_0, val_main_call1_v8, val_main_call1_v9, val_main_call1_c, val_main_call1_v12, val_main_call1_c_0, val_main_v11, val_main_v0, val_main_call1_v1, val_main_call1_v7]
  exact chunk q q.isLt

section
variable (X0 : FVec Ideal S8x2048x16x128 .f32) (X1 : FVec Ideal S8x2048x16x32 .f32) (X2 : FVec Ideal S8x2048x128 .f32) (X3 : FVec Ideal S8x2048x32 .f32)

theorem score_at (b : Fin 8) (h : Fin 16) (q k : Fin 2048) : val_main_v8 (F := Ideal) X0 X1 X2 X3 (ix4 b h q k) =
    Ideal.div (∑ x : Fin 128, X2 (ix3 b k x) * X0 (ix4 b q h x) + ∑ x : Fin 32, X3 (ix3 b k x) * X1 (ix4 b q h x)) (Ideal.sqrt (Ideal.ofBits .f32 0x42C00000#32)) := by
  pointwise [val_main_v8, val_main_v5, val_main_v2, val_main_v4, val_main_v1, val_main_v3, val_main_v7, val_main_v6, val_main_cst]

theorem masked_at (b : Fin 8) (h : Fin 16) (q k : Fin 2048) : val_main_v16 (F := Ideal) X0 X1 X2 X3 (ix4 b h q k) =
    if (k : ℕ) / 64 ≤ (q : ℕ) / 64 then val_main_v8 (F := Ideal) X0 X1 X2 X3 (ix4 b h q k) else ⊥ := by
  have e : val_main_v16 (F := Ideal) X0 X1 X2 X3 (ix4 b h q k) = Scalar.select (IntOp.cmpi .sle (val_main_v10 (F := Ideal) (ix2 (0 : Fin 1) k)) (val_main_v12 (F := Ideal) (ix2 q (0 : Fin 1))))
      (val_main_v8 (F := Ideal) X0 X1 X2 X3 (ix4 b h q k)) (Ideal.ofBits .f32 0xFF800000#32) := by
    pointwise [val_main_v16, val_main_call2_v1, val_main_call2_v2, val_main_call2_v0, val_main_cst_1, val_main_v15, val_main_v13, val_main_v14]
    rfl
  rw [e, kc_at, qc_at, negInf]
  have hk := k.isLt
  have hq := q.isLt
  have hiff := WordCmp.cmpi_sle_ofNat_eq_one_iff (w := 32) (a := (k : ℕ) / 64) (b := (q : ℕ) / 64) (by omega) (by omega)
  unfold Scalar.select
  by_cases hh : (k : ℕ) / 64 ≤ (q : ℕ) / 64
  · exact (if_pos (hiff.2 hh)).trans (if_pos hh).symm
  · exact (if_neg fun e => hh (hiff.1 e)).trans (if_neg hh).symm

theorem max_at (b : Fin 8) (h : Fin 16) (q : Fin 2048) : val_main_v19 (F := Ideal) X0 X1 X2 X3 (ix3 b h q) =
    Finset.univ.fold max ⊥ fun x : Fin 2048 => val_main_v16 (F := Ideal) X0 X1 X2 X3 (ix4 b h q x) := by
  rw [val_main_v19_apply]
  unfold val_main_v17
  generalize val_main_v16 (F := Ideal) X0 X1 X2 X3 = v
  have e := hmax_at v b h q
  rw [negInf] at e
  refine Eq.trans ?_ (max_eq_right bot_le)
  refine congrArg₂ max ?_ e
  exact negInf

theorem soft_at (b : Fin 8) (q : Fin 2048) (j : Fin 2048) : val_main_v31 (F := Ideal) X0 X1 X2 X3 (ix3 b q j) =
    ∑ k : Fin 2048, X2 (ix3 b k ⟨(j : ℕ) % 128, Nat.mod_lt _ (by decide)⟩) * Ideal.div
      (Ideal.exp (val_main_v16 (F := Ideal) X0 X1 X2 X3 (ix4 b ⟨(j : ℕ) / 128, by omega⟩ q k) - val_main_v19 (F := Ideal) X0 X1 X2 X3 (ix3 b ⟨(j : ℕ) / 128, by omega⟩ q)))
      (∑ l : Fin 2048, Ideal.exp (val_main_v16 (F := Ideal) X0 X1 X2 X3 (ix4 b ⟨(j : ℕ) / 128, by omega⟩ q l) - val_main_v19 (F := Ideal) X0 X1 X2 X3 (ix3 b ⟨(j : ℕ) / 128, by omega⟩ q))) := by
  have z : val_main_cst_4 (F := Ideal) (Shape.Idx.first h_S_) = (0 : EReal) := by
    rw [val_main_cst_4_apply]
    exact Ideal.ofBits_zero .f32
  pointwise [val_main_v31, val_main_v30, val_main_v29, val_main_v28, val_main_v27, val_main_v26, val_main_v25, val_main_v24, val_main_v23, val_main_v22, val_main_v21, val_main_v20]
  simp only [z, zero_add]

variable (qL : Fin 8 → Fin 2048 → Fin 16 → Fin 128 → ℝ) (qR : Fin 8 → Fin 2048 → Fin 16 → Fin 32 → ℝ)
  (ck : Fin 8 → Fin 2048 → Fin 128 → ℝ) (kr : Fin 8 → Fin 2048 → Fin 32 → ℝ)

/-- The reference's result, of finite arguments. -/
theorem result_at (h0 : ∀ b q h c, X0 (ix4 b q h c) = (qL b q h c : EReal)) (h1 : ∀ b q h c, X1 (ix4 b q h c) = (qR b q h c : EReal))
    (h2 : ∀ b k c, X2 (ix3 b k c) = (ck b k c : EReal)) (h3 : ∀ b k c, X3 (ix3 b k c) = (kr b k c : EReal)) (b : Fin 8) (q j : Fin 2048) :
    val_main_v31 (F := Ideal) X0 X1 X2 X3 (ix3 b q j) = (Spec.out qL qR ck kr b q ⟨(j : ℕ) / 128, by omega⟩ ⟨(j : ℕ) % 128, Nat.mod_lt _ (by decide)⟩ : EReal) := by
  generalize hh : (⟨(j : ℕ) / 128, by omega⟩ : Fin 16) = h
  generalize hc : (⟨(j : ℕ) % 128, Nat.mod_lt _ (by decide)⟩ : Fin 128) = c
  have hs : (√96 : ℝ) ≠ 0 := by positivity
  have hx : ∀ k, val_main_v16 (F := Ideal) X0 X1 X2 X3 (ix4 b h q k)
      = if (k : ℕ) / 64 ≤ (q : ℕ) / 64 then ((Spec.score qL qR ck kr b h q k / √96 : ℝ) : EReal) else ⊥ := fun k => by
    rw [masked_at, score_at, ofBits96, Ideal.sqrt_coe, if_neg (by norm_num : ¬ (96 : ℝ) < 0), Ideal.div_coe hs]
    simp only [h0, h1, h2, h3, ← EReal.coe_mul, ← Online.coe_sum, ← EReal.coe_add]
    unfold Spec.score
    rw [mul_one_div]
  obtain ⟨M, hM⟩ : ∃ M : ℝ, val_main_v19 (F := Ideal) X0 X1 X2 X3 (ix3 b h q) = (M : EReal) := by
    rw [max_at]
    refine Online.coe_of_ne (Online.fold_ne_bot _ _ (Finset.mem_univ q) ?_) (Online.fold_ne_top _ _ fun k => ?_)
    · rw [hx, if_pos le_rfl]; exact EReal.coe_ne_bot _
    · rw [hx]
      split_ifs
      · exact EReal.coe_ne_top _
      · exact bot_ne_top
  rw [soft_at, hh, hc, hM]
  simp only [h2]
  refine Online.softmax (fun k => val_main_v16 (F := Ideal) X0 X1 X2 X3 (ix4 b h q k)) (Spec.wgt qL qR ck kr b h q) (fun k => ck b k c) M (fun k => ?_)
    (Spec.wgt_sum_ne qL qR ck kr b h q)
  rw [hx, Spec.wgt]
  by_cases hk : (k : ℕ) / 64 ≤ (q : ℕ) / 64
  · rw [if_pos hk, if_pos hk, ← EReal.coe_sub, Ideal.exp_coe, ← Real.exp_add, sub_eq_neg_add]
  · rw [if_neg hk, if_neg hk, EReal.bot_sub, Ideal.exp_bot, mul_zero]; rfl

end

end Cert.ReferenceIdeal.Att

end
-- ==== Proof.Ab.Pay.lean ====
module

public import proofs.«01_k».proof.Proof.Gen.Kernel2Ideal.Frame
public import Idealize.ShloMosaic.Lib.Pointwise

@[expose] public section

set_option maxRecDepth 16384

noncomputable section

/-! The projection call's expressions, element by element. -/

namespace Cert.Kernel2Ideal.Ab

open Cert.Kernel2Ideal Cert.Kernel2Ideal.Gen Idealize.ShloMosaic Idealize.ShloMosaic.TcCoe Idealize.SL.Sem

/-- A row normalised by its root mean square, scaled and shifted by the modulation. -/
def nrm (x g sh sc : Fin 1024 → EReal) (k : Fin 1024) : EReal :=
  x k * Ideal.rsqrt (Ideal.div (∑ l, x l * x l) (Ideal.ofBits .f32 0x44800000#32) + Ideal.ofBits .f32 0x358637BD#32) * g k
    * (Ideal.ofBits .f32 0x3F800000#32 + sc k) + sh k

theorem pay3_at (v0 : Vec Ideal S256x1024 .f32) (v2 : Vec Ideal S1x1024 .f32) (v16 v18 : Vec Ideal S1x1x1024 .f32) (r : Fin 256) (k : Fin 1024) :
    k0_pay3 (F := Ideal) v0 v2 v16 v18 (ix2 r k)
      = nrm (fun k => v0 (ix2 r k)) (fun k => v2 (ix2 0 k)) (fun k => v16 (ix3 0 0 k)) (fun k => v18 (ix3 0 0 k)) k := by
  pointwise [k0_pay3, nrm]

/-- A projection. -/
def prj (A : FVec Ideal S256x1024 .bf16) (B : Vec Ideal S1024x512 .bf16) : FVec Ideal S256x512 .f32 :=
  matmul (φ₂ := .bf16) dot_S256x1024_S1024x512_S256x512_1_0_0_1_n_n none A (shapeCast S1024x512 B shapeCasts_S1024x512_S1024x512) (constant S256x512 .f32 0x00000000#32)

theorem prj_at (A : FVec Ideal S256x1024 .bf16) (B : Vec Ideal S1024x512 .bf16) (r : Fin 256) (c : Fin 512) :
    prj A B (ix2 r c) = ∑ k : Fin 1024, A (ix2 r k) * B (ix2 k c) := by
  pointwise [prj]

/-- The rotation of a tile of 128 columns that holds two heads. -/
def rt (p co si : FVec Ideal S256x128 .f32) : FVec Ideal S256x128 .f32 :=
  addf (mulf p co) (mulf (select (cmpi .slt (andi (iota .tc S256x128 32 [1] iota_S256x128_d1_w32) (broadcast S256x128 63#32)) (broadcast S256x128 32#32))
    (dynamicRotate 1 96#32 none p rotates_S256x128_d1) (dynamicRotate 1 32#32 none p rotates_S256x128_d1)) si)

theorem low_iff : ∀ l : Fin 128, (IntOp.cmpi .slt (IntOp.andi (BitVec.ofNat 32 (l : ℕ)) 63#32) 32#32 = 1#1) ↔ (l : ℕ) % 64 < 32 := by
  decide +kernel

theorem rt_at (p co si : FVec Ideal S256x128 .f32) (r : Fin 256) (l : Fin 128) :
    rt p co si (ix2 r l) = p (ix2 r l) * co (ix2 r l)
      + (if (l : ℕ) % 64 < 32 then p (ix2 r ⟨((l : ℕ) + 32) % 128, by omega⟩) else p (ix2 r ⟨((l : ℕ) + 96) % 128, by omega⟩)) * si (ix2 r l) := by
  have hl := low_iff l
  pointwise [rt]
  refine congrArg (fun z : EReal => p (ix2 r l) * co (ix2 r l) + z * si (ix2 r l)) ?_
  by_cases h : (l : ℕ) % 64 < 32
  · rw [if_pos h]
    refine (if_pos (hl.2 h)).trans ?_
    refine congrArg p (congrArg (ix2 r) (Fin.ext ?_))
    show ((l : ℕ) + 128 - 96) % 128 = _
    congr 1
  · rw [if_neg h]
    refine (if_neg fun e => h (hl.1 e)).trans ?_
    refine congrArg p (congrArg (ix2 r) (Fin.ext ?_))
    show ((l : ℕ) + 128 - 32) % 128 = _
    congr 1

/-- The rotation of four tiles. -/
def rt4 (Z : FVec Ideal S256x512 .f32) (co si : FVec Ideal S256x128 .f32) : FVec Ideal S256x512 .f32 :=
  concatenate S256x512 1 [⟨S256x128, rt (extractStridedSlice S256x128 ![0, 0] Z slices_S256x512_o0_0_S256x128) co si⟩,
    ⟨S256x128, rt (extractStridedSlice S256x128 ![0, 128] Z slices_S256x512_o0_128_S256x128) co si⟩,
    ⟨S256x128, rt (extractStridedSlice S256x128 ![0, 256] Z slices_S256x512_o0_256_S256x128) co si⟩,
    ⟨S256x128, rt (extractStridedSlice S256x128 ![0, 384] Z slices_S256x512_o0_384_S256x128) co si⟩]
    concatenates_S256x128_S256x128_S256x128_S256x128_S256x512_d1

theorem mix (Z : FVec Ideal S256x512 .f32) (co si : FVec Ideal S256x128 .f32) (r : Fin 256) {a a' b b' : Fin 512} {x x' y y' : Fin 128}
    (ha : (a : ℕ) = a') (hx : (x : ℕ) = x') (hb : (b : ℕ) = b') (hy : (y : ℕ) = y') :
    Z (ix2 r a) * co (ix2 r x) + Z (ix2 r b) * si (ix2 r y) = Z (ix2 r a') * co (ix2 r x') + Z (ix2 r b') * si (ix2 r y') := by
  rw [Fin.ext ha, Fin.ext hb, Fin.ext hx, Fin.ext hy]

theorem cat4_at (X0 X1 X2 X3 : FVec Ideal S256x128 .f32) (r : Fin 256) (c : Fin 512) :
    concatenate S256x512 1 [⟨S256x128, X0⟩, ⟨S256x128, X1⟩, ⟨S256x128, X2⟩, ⟨S256x128, X3⟩] concatenates_S256x128_S256x128_S256x128_S256x128_S256x512_d1 (ix2 r c)
      = if (c : ℕ) / 128 = 0 then X0 (ix2 r ⟨(c : ℕ) % 128, by omega⟩) else if (c : ℕ) / 128 = 1 then X1 (ix2 r ⟨(c : ℕ) % 128, by omega⟩)
        else if (c : ℕ) / 128 = 2 then X2 (ix2 r ⟨(c : ℕ) % 128, by omega⟩) else X3 (ix2 r ⟨(c : ℕ) % 128, by omega⟩) := by
  have hc := c.isLt
  obtain e | e | e | e : (c : ℕ) / 128 = 0 ∨ (c : ℕ) / 128 = 1 ∨ (c : ℕ) / 128 = 2 ∨ (c : ℕ) / 128 = 3 := by omega
  · rw [if_pos e]
    pointwise
    split_ifs <;> first | omega | skip
    refine congrArg X0 (congrArg (ix2 r) (Fin.ext ?_))
    dsimp only; omega
  · rw [if_neg (by omega), if_pos e]
    pointwise
    split_ifs <;> first | omega | skip
    refine congrArg X1 (congrArg (ix2 r) (Fin.ext ?_))
    dsimp only; omega
  · rw [if_neg (by omega), if_neg (by omega), if_pos e]
    pointwise
    split_ifs <;> first | omega | skip
    refine congrArg X2 (congrArg (ix2 r) (Fin.ext ?_))
    dsimp only; omega
  · rw [if_neg (by omega), if_neg (by omega), if_neg (by omega)]
    pointwise
    split_ifs <;> first | omega | skip
    refine congrArg X3 (congrArg (ix2 r) (Fin.ext ?_))
    dsimp only; omega

theorem tile_at (Z : FVec Ideal S256x512 .f32) (X co si : FVec Ideal S256x128 .f32) (r : Fin 256) (c : Fin 512) (o : ℕ) (ho : o < 4) (hc : (c : ℕ) / 128 = o)
    (hX : ∀ l : Fin 128, X (ix2 r l) = Z (ix2 r ⟨o * 128 + l, by omega⟩)) :
    rt X co si (ix2 r ⟨(c : ℕ) % 128, by omega⟩) = Z (ix2 r c) * co (ix2 r ⟨(c : ℕ) % 128, by omega⟩)
      + (if (c : ℕ) % 64 < 32 then Z (ix2 r ⟨((c : ℕ) + 32) % 512, by omega⟩) else Z (ix2 r ⟨((c : ℕ) + 480) % 512, by omega⟩)) * si (ix2 r ⟨(c : ℕ) % 128, by omega⟩) := by
  have hl := c.isLt
  rw [rt_at, hX, hX, hX]
  by_cases h : (c : ℕ) % 64 < 32
  · rw [if_pos (by show (c : ℕ) % 128 % 64 < 32; omega), if_pos h]
    refine mix Z co si r ?_ ?_ ?_ ?_
    all_goals first | rfl | (dsimp only; omega)
  · rw [if_neg (by show ¬(c : ℕ) % 128 % 64 < 32; omega), if_neg h]
    refine mix Z co si r ?_ ?_ ?_ ?_
    all_goals first | rfl | (dsimp only; omega)

theorem rt4_at (Z : FVec Ideal S256x512 .f32) (co si : FVec Ideal S256x128 .f32) (r : Fin 256) (c : Fin 512) :
    rt4 Z co si (ix2 r c) = Z (ix2 r c) * co (ix2 r ⟨(c : ℕ) % 128, by omega⟩)
      + (if (c : ℕ) % 64 < 32 then Z (ix2 r ⟨((c : ℕ) + 32) % 512, by omega⟩) else Z (ix2 r ⟨((c : ℕ) + 480) % 512, by omega⟩)) * si (ix2 r ⟨(c : ℕ) % 128, by omega⟩) := by
  have hc := c.isLt
  refine (cat4_at _ _ _ _ r c).trans ?_
  by_cases h0 : (c : ℕ) / 128 = 0
  · rw [if_pos h0]
    refine tile_at Z _ co si r c 0 (by decide) h0 fun l => ?_
    pointwise
  by_cases h1 : (c : ℕ) / 128 = 1
  · rw [if_neg h0, if_pos h1]
    refine tile_at Z _ co si r c 1 (by decide) h1 fun l => ?_
    pointwise
  by_cases h2 : (c : ℕ) / 128 = 2
  · rw [if_neg h0, if_neg h1, if_pos h2]
    refine tile_at Z _ co si r c 2 (by decide) h2 fun l => ?_
    pointwise
  · rw [if_neg h0, if_neg h1, if_neg h2]
    refine tile_at Z _ co si r c 3 (by decide) (by omega) fun l => ?_
    pointwise

/-- The scale of the queries. -/
def qk : EReal := ((((8 : ℝ) * Real.log 2)⁻¹ : ℝ) : EReal)

/-- The scale of the indexing weights. -/
def iw : EReal := ((((8 : ℝ) * Real.sqrt 8)⁻¹ : ℝ) : EReal)

theorem pay6_at (v0 : Vec Ideal S256x1024 .f32) (v2 : Vec Ideal S1x1024 .f32) (v16 v18 : Vec Ideal S1x1x1024 .f32) (B : Vec Ideal S1024x512 .bf16) (r : Fin 256) (c : Fin 512) :
    k0_pay6 (F := Ideal) v0 v2 v16 v18 B (ix2 r c) = (∑ k : Fin 1024, k0_pay3 (F := Ideal) v0 v2 v16 v18 (ix2 r k) * B (ix2 k c)) * qk := by
  have e : k0_pay6 (F := Ideal) v0 v2 v16 v18 B (ix2 r c) = prj (k0_pay3 (F := Ideal) v0 v2 v16 v18) B (ix2 r c) * qk := rfl
  rw [e, prj_at]

variable (A : FVec Ideal S256x1024 .bf16) (B : Vec Ideal S1024x512 .bf16) (D : Vec Ideal S1024x128 .bf16) (co si : FVec Ideal S256x128 .f32) (fb : Vec Ideal S1x128 .f32)

theorem pay15_at (Z : FVec Ideal S256x512 .f32) (r : Fin 256) (c : Fin 512) :
    k0_pay15 (F := Ideal) co si Z (extractStridedSlice S256x128 ![0, 0] Z slices_S256x512_o0_0_S256x128) k0_pay14 96#32 (ix2 r c) = rt4 Z co si (ix2 r c) * qk := rfl

theorem pay21_eq : k0_pay21 (F := Ideal) co si (k0_pay17 A co si B) (k0_pay18 A co si B) (k0_pay19 A co si B) (k0_pay20 A B) (iota .tc S256x128 32 [1] iota_S256x128_d1_w32) = rt4 (prj A B) co si := rfl

theorem pay29_eq (r : Fin 256) (c : Fin 512) : k0_pay29 (F := Ideal) co si (k0_pay25 A B) (k0_pay27 A co B) (k0_pay28 A si B) (ix2 r c) = rt4 (prj A B) co si (ix2 r c) := rfl

/-- The projection of the small columns. -/
def prs : FVec Ideal S256x128 .f32 := k0_pay32 A D

theorem prs_at (r : Fin 256) (c : Fin 128) : prs A D (ix2 r c) = ∑ k : Fin 1024, A (ix2 r k) * D (ix2 k c) := by
  pointwise [prs, k0_pay32]

theorem pay33_eq : k0_pay33 (F := Ideal) A co si D = rt (prs A D) co si := rfl

/-- The logarithm of a sigmoid as the kernel evaluates it. -/
def lsg (z : EReal) : EReal := 0 - (max (0 - z) 0 + Ideal.log1p (Ideal.exp (0 - FloatOps.absf (F := Ideal) (φ := .f32) (0 - z))))

theorem lt64 : ∀ l : Fin 128, (IntOp.cmpi .slt (BitVec.ofNat 32 (l : ℕ)) 64#32 = 1#1) ↔ (l : ℕ) < 64 := by decide +kernel
theorem lt72 : ∀ l : Fin 128, (IntOp.cmpi .slt (BitVec.ofNat 32 (l : ℕ)) 72#32 = 1#1) ↔ (l : ℕ) < 72 := by decide +kernel

theorem small_at (r : Fin 256) (l : Fin 128) :
    k0_pay1 (F := Ideal) (k0_pay33 A co si D) k0_pay34 (k0_pay35 A D fb) (ix2 r l)
      = if (l : ℕ) < 64 then rt (prs A D) co si (ix2 r l) else if (l : ℕ) < 72 then lsg (prs A D (ix2 r l) + fb (ix2 0 l)) else prs A D (ix2 r l) * iw := by
  rw [pay33_eq]
  have e : k0_pay35 A D fb (ix2 r l) = if (l : ℕ) < 72 then lsg (prs A D (ix2 r l) + fb (ix2 0 l)) else prs A D (ix2 r l) * iw := by
    have h2 := lt72 l
    unfold k0_pay35
    rw [← prs]
    generalize prs A D = Z
    pointwise [lsg]
    by_cases h : (l : ℕ) < 72
    · rw [if_pos h]; exact if_pos (h2.2 h)
    · rw [if_neg h]; exact if_neg fun e => h (h2.1 e)
  generalize k0_pay35 A D fb = Y at e
  generalize rt (prs A D) co si = X
  rw [← e]
  have h1 := lt64 l
  pointwise [k0_pay1, k0_pay34]
  by_cases h : (l : ℕ) < 64
  · rw [if_pos h]; exact if_pos (h1.2 h)
  · rw [if_neg h]; exact if_neg fun e => h (h1.1 e)

theorem ikik_at (X : FVec Ideal S256x128 .f32) (r : Fin 256) (l : Fin 128) :
    k0_pay2 (F := Ideal) (iota .tc S256x128 32 [1] iota_S256x128_d1_w32) X (ix2 r l) = X (ix2 r ⟨(l : ℕ) % 64, by omega⟩) := by
  have h1 := lt64 l
  pointwise [k0_pay2]
  by_cases h : (l : ℕ) < 64
  · refine (if_pos (h1.2 h)).trans (congrArg X (congrArg (ix2 r) (Fin.ext ?_)))
    dsimp only; omega
  · refine (if_neg fun e => h (h1.1 e)).trans (congrArg X (congrArg (ix2 r) (Fin.ext ?_)))
    show ((l : ℕ) + 128 - 64) % 128 = _
    dsimp only; omega

end Cert.Kernel2Ideal.Ab

end
-- ==== Proof.Ab.Host.lean ====
module

public import proofs.«01_k».proof.Proof.Ab.Pay
public import Idealize.ShloMosaic.Lib.Routing.OpsOne

@[expose] public section

set_option maxRecDepth 16384

noncomputable section

/-! The operands the projection call is handed, element by element. -/

namespace Cert.Kernel2Ideal.Ab

open Cert.Kernel2Ideal Cert.Kernel2Ideal.Gen Idealize.ShloMosaic Idealize.ShloMosaic.TcCoe Idealize.SL.Sem

/-- The column of the weights that a column of the rearranged weights is, or one past the last for a column of zeros. -/
def col (c : ℕ) : ℕ :=
  if c < 1536 then c else if c < 4096 then c + 8 else if c < 4608 then c + 80 else if c < 4672 then c - 504
  else if c < 4680 then c - 3136 else if c < 4688 then c - 512 else 4688

/-- An element of the weights, zero past the last column. -/
def wel (W : FVec Ideal S1024x4688 .f32) (k : Fin 1024) (n : ℕ) : EReal := if h : n < 4688 then W (ix2 k ⟨n, h⟩) else 0

theorem wel_eq (W : FVec Ideal S1024x4688 .f32) (k : Fin 1024) {c n : ℕ} (hn : n < 4688) (h : col c = n) : W (ix2 k ⟨n, hn⟩) = wel W k (col c) := by
  subst h
  rw [wel, dif_pos hn]

theorem dstep {α : Type} {p : Prop} [Decidable p] {a : p → α} {b : ¬p → α} {z : α} (h1 : ∀ h, a h = z) (h2 : ∀ h, b h = z) : dite p a b = z := by
  by_cases h : p
  · rw [dif_pos h]; exact h1 h
  · rw [dif_neg h]; exact h2 h

theorem w_at (W : FVec Ideal S1024x4688 .f32) (k : Fin 1024) (c : Fin 4736) :
    (truncf .bf16 (concatenate S1024x4736 1 [⟨S1024x512, extractStridedSlice S1024x512 ![0, 0] W slices_S1024x4688_S1024x512_0_0⟩,
      ⟨S1024x512, extractStridedSlice S1024x512 ![0, 512] W slices_S1024x4688_S1024x512_0_512⟩,
      ⟨S1024x512, extractStridedSlice S1024x512 ![0, 1024] W slices_S1024x4688_S1024x512_0_1024⟩,
      ⟨S1024x512, extractStridedSlice S1024x512 ![0, 1544] W slices_S1024x4688_S1024x512_0_1544⟩,
      ⟨S1024x512, extractStridedSlice S1024x512 ![0, 2056] W slices_S1024x4688_S1024x512_0_2056⟩,
      ⟨S1024x512, extractStridedSlice S1024x512 ![0, 2568] W slices_S1024x4688_S1024x512_0_2568⟩,
      ⟨S1024x512, extractStridedSlice S1024x512 ![0, 3080] W slices_S1024x4688_S1024x512_0_3080⟩,
      ⟨S1024x512, extractStridedSlice S1024x512 ![0, 3592] W slices_S1024x4688_S1024x512_0_3592⟩,
      ⟨S1024x512, extractStridedSlice S1024x512 ![0, 4176] W slices_S1024x4688_S1024x512_0_4176⟩,
      ⟨S1024x64, extractStridedSlice S1024x64 ![0, 4104] W slices_S1024x4688_S1024x64_0_4104⟩,
      ⟨S1024x8, extractStridedSlice S1024x8 ![0, 1536] W slices_S1024x4688_S1024x8_0_1536⟩,
      ⟨S1024x8, extractStridedSlice S1024x8 ![0, 4168] W slices_S1024x4688_S1024x8_0_4168⟩,
      ⟨S1024x48, broadcastInDim S1024x48 ![] bcast_S_S1024x48 (constant S_ .f32 0x00000000#32)⟩]
      concatenates_S1024x512_S1024x512_S1024x512_S1024x512_S1024x512_S1024x512_S1024x512_S1024x512_S1024x512_S1024x64_S1024x8_S1024x8_S1024x48_S1024x4736_d1 : FVec Ideal S1024x4736 .f32) bitsLt_bf16_f32 : FVec Ideal S1024x4736 .bf16) (ix2 k c)
      = wel W k (col c) := by
  have hc := c.isLt
  pointwise
  iterate 12
    refine dstep (fun h => ?_) fun h => ?_
    · refine wel_eq W k _ ?_
      unfold col
      split_ifs <;> omega
  rw [wel, dif_neg]
  unfold col
  split_ifs <;> omega

theorem fb_lands (idx : IVec S2 32) (k : Fin 8) (r : Fin 1) (c : Fin 128) :
    scatter_S1x128_S2_S8_0_0_01_0.resultIdx? (ix1 k) idx = some (ix2 r c) ↔ (idx (ix1 (0 : Fin 2))).toInt = r.val ∧ (idx (ix1 (1 : Fin 2))).toInt + (k.val : Int) = c.val := by
  have hwin0 : scatter_S1x128_S2_S8_0_0_01_0.window (ix1 k) 0 = 0 := by
    unfold ScatterDims.window
    rw [dif_neg fun h => (of_decide_eq_true (List.mem_filter.1 h).2) (by decide)]
  have hwin1 : scatter_S1x128_S2_S8_0_0_01_0.window (ix1 k) 1 = k.val := by
    unfold ScatterDims.window
    rw [dif_pos (by decide)]
    exact congrArg (fun t => ((ix1 k : S8.Idx) t).val) (Subsingleton.elim (α := Fin 1) _ 0)
  refine (Routing.resultIdx?_ix2 (R := 1) (C := 128) scatter_S1x128_S2_S8_0_0_01_0 (ix1 k) idx r c).trans ?_
  rw [Routing.start_pair (R := 1) (C := 128) (u := S8) scatter_S1x128_S2_S8_0_0_01_0 rfl rfl, Routing.start_pair (R := 1) (C := 128) (u := S8) scatter_S1x128_S2_S8_0_0_01_0 rfl rfl, hwin0, hwin1]
  show (idx (ix1 (0 : Fin 2))).toInt + ((0 : ℕ) : Int) = r.val ∧ (idx (ix1 (1 : Fin 2))).toInt + ((k : ℕ) : Int) = c.val ↔ _
  omega

theorem fb_at (f : FVec Ideal S8 .f32) (l : Fin 128) :
    (Host.scatter scatter_S1x128_S2_S8_0_0_01_0 (fun _ b => b) (broadcastInDim S1x128 ![] bcast_S_S1x128 (constant (F := Ideal) S_ .f32 0x00000000#32) : FVec Ideal S1x128 .f32)
      (concatenate S2 0 [⟨S1, broadcastInDim S1 ![] bcast_S_S1 (constantI S_ 32 0#32)⟩, ⟨S1, broadcastInDim S1 ![] bcast_S_S1 (constantI S_ 32 64#32)⟩] concatenates_S1_S1_S2_d0 : IVec S2 32) f) (ix2 0 l)
      = if h : 64 ≤ (l : ℕ) ∧ (l : ℕ) < 72 then f (ix1 ⟨(l : ℕ) - 64, by omega⟩) else 0 := by
  generalize hi : (concatenate S2 0 [⟨S1, broadcastInDim S1 ![] bcast_S_S1 (constantI S_ 32 0#32)⟩, ⟨S1, broadcastInDim S1 ![] bcast_S_S1 (constantI S_ 32 64#32)⟩] concatenates_S1_S1_S2_d0 : IVec S2 32) = idx
  have h0 : (idx (ix1 (0 : Fin 2))).toInt = 0 := by rw [← hi]; decide
  have h1 : (idx (ix1 (1 : Fin 2))).toInt = 64 := by rw [← hi]; decide
  have lands : ∀ (k : S8.Idx), scatter_S1x128_S2_S8_0_0_01_0.resultIdx? k idx = some (ix2 0 l) → 64 + (((k 0 : Fin 8) : ℕ) : Int) = l.val := fun k hk => by
    have := ((fb_lands idx (k 0) 0 l).1 ((congrArg (fun t => scatter_S1x128_S2_S8_0_0_01_0.resultIdx? t idx) (eq_ix1 k).symm).trans hk)).2
    rwa [h1] at this
  by_cases h : 64 ≤ (l : ℕ) ∧ (l : ℕ) < 72
  · rw [dif_pos h]
    refine Routing.scatter_set_hit _ _ idx f _ _ (fun k hk => ?_) (ix1 ⟨(l : ℕ) - 64, by omega⟩) ((fb_lands idx _ 0 l).2 ⟨h0, ?_⟩)
    · have q := lands k hk
      rw [eq_ix1 k]
      refine congrArg f (congrArg ix1 (Fin.ext ?_))
      show ((k 0 : Fin 8) : ℕ) = (l : ℕ) - 64
      omega
    · rw [h1]
      show (64 : Int) + (((l : ℕ) - 64 : ℕ) : Int) = _
      omega
  · rw [dif_neg h]
    refine (Routing.scatter_set_miss _ _ idx f _ fun k hk => h ?_).trans (by pointwise)
    have q := lands k hk
    have : ((k 0 : Fin 8) : ℕ) < 8 := (k 0 : Fin 8).isLt
    omega

/-- The angle of a position and a lane. -/
def ang (p : Fin 2048) (l : Fin 32) : EReal :=
  (FloatOps.sitofp (F := Ideal) .f32 (BitVec.ofNat 32 (p : ℕ))) * Ideal.pow (Ideal.ofBits .f32 0x461C4000#32) (Ideal.div (-(FloatOps.sitofp (F := Ideal) .f32 (BitVec.ofNat 32 (l : ℕ)))) (Ideal.ofBits .f32 0x42000000#32))

/-- The angles as the operands compute them. -/
def angs : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

theorem angs_at (p : Fin 2048) (l : Fin 32) : angs (ix2 p l) = ang p l := by
  pointwise [angs, ang]

theorem cos_at (A : FVec Ideal S2048x32 .f32) (p : Fin 2048) (l : Fin 128) :
    shapeCast S2048x128 (broadcastInDim S1x2048x2x64 ![0, 1, 2, 3] bcast_S1x2048x1x64_S1x2048x2x64_0_1_2_3
      (shapeCast S1x2048x1x64 (concatenate S2048x64 1 [⟨S2048x32, Host.cos A⟩, ⟨S2048x32, Host.cos A⟩] concatenates_S2048x32_S2048x32_S2048x64_d1) shapeCasts_S2048x64_S1x2048x1x64)) shapeCasts_S1x2048x2x64_S2048x128 (ix2 p l)
      = Ideal.cos (A (ix2 p ⟨(l : ℕ) % 32, by omega⟩)) := by
  pointwise
  refine dstep (fun h => ?_) fun h => ?_
  · exact congrArg (fun z => Ideal.cos (A (ix2 p z))) (Fin.ext (show (l : ℕ) % 64 = (l : ℕ) % 32 by omega))
  · exact congrArg (fun z => Ideal.cos (A (ix2 p z))) (Fin.ext (show (l : ℕ) % 64 - 32 = (l : ℕ) % 32 by omega))

theorem sin_at (A : FVec Ideal S2048x32 .f32) (p : Fin 2048) (l : Fin 128) :
    shapeCast S2048x128 (broadcastInDim S1x2048x2x64 ![0, 1, 2, 3] bcast_S1x2048x1x64_S1x2048x2x64_0_1_2_3
      (shapeCast S1x2048x1x64 (concatenate S2048x64 1 [⟨S2048x32, Host.negf (Host.sin A)⟩, ⟨S2048x32, Host.sin A⟩] concatenates_S2048x32_S2048x32_S2048x64_d1) shapeCasts_S2048x64_S1x2048x1x64)) shapeCasts_S1x2048x2x64_S2048x128 (ix2 p l)
      = if (l : ℕ) % 64 < 32 then -Ideal.sin (A (ix2 p ⟨(l : ℕ) % 32, by omega⟩)) else Ideal.sin (A (ix2 p ⟨(l : ℕ) % 32, by omega⟩)) := by
  pointwise
  refine dstep (fun h => ?_) fun h => ?_
  · rw [if_pos h]
    exact congrArg (fun z => -Ideal.sin (A (ix2 p z))) (Fin.ext (show (l : ℕ) % 64 = (l : ℕ) % 32 by omega))
  · rw [if_neg h]
    exact congrArg (fun z => Ideal.sin (A (ix2 p z))) (Fin.ext (show (l : ℕ) % 64 - 32 = (l : ℕ) % 32 by omega))

end Cert.Kernel2Ideal.Ab

end
-- ==== Proof.Ab.Blk.lean ====
module

public import proofs.«01_k».proof.Proof.Ab.Host
public import Idealize.ShloMosaic.Lib.Pipeline.ValueKit
public import Idealize.ShloMosaic.Lib.Claim

@[expose] public section

set_option maxRecDepth 16384

noncomputable section

/-! The blocks a grid point of the projection call is handed, read off the arguments. -/

namespace Cert.Kernel2Ideal.Ab

open Cert.Kernel2Ideal Cert.Kernel2Ideal.Gen Idealize.ShloMosaic Idealize.ShloMosaic.TcCoe Idealize.SL.Sem
open Idealize.ShloMosaic.Pipeline (Dat)

theorem idxi : ∀ t : Fin cfg0.N, win0_0.index t = ![t.val, 0] ∧ win0_1.index t = ![t.val / 8, 0, 0] ∧ win0_2.index t = ![0, 0] ∧ win0_3.index t = ![0, 0]
    ∧ win0_4.index t = ![t.val % 8, 0] ∧ win0_5.index t = ![t.val % 8, 0] ∧ win0_6.index t = ![0, 0] := (by decide +kernel : ∀ t : Fin grid0.N, _)

theorem idxo : ∀ t : Fin cfg0.N, win0_7.index t = ![t.val, 0] ∧ win0_8.index t = ![t.val, 0] ∧ win0_9.index t = ![t.val, 0] ∧ win0_10.index t = ![t.val, 0]
    ∧ win0_11.index t = ![t.val, 0] ∧ win0_12.index t = ![t.val, 0] := (by decide +kernel : ∀ t : Fin grid0.N, _)

theorem lt64' (t : Fin cfg0.N) : t.val < 64 := lt_of_lt_of_eq t.isLt N_0

/-- The row of the arrays that a row of a grid point's block is. -/
def row (t : Fin cfg0.N) (r : Fin 256) : Fin 16384 := ⟨t.val * 256 + r, by have := lt64' t; omega⟩

/-- The batch of a row. -/
def bat (n : Fin 16384) : Fin 8 := ⟨(n : ℕ) / 2048, by omega⟩

/-- The position of a row. -/
def pos (n : Fin 16384) : Fin 2048 := ⟨(n : ℕ) % 2048, by omega⟩

theorem x_at (X : FVec Ideal S8x2048x1024 .f32) (n : Fin 16384) (k : Fin 1024) :
    shapeCast S16384x1024 X shapeCasts_S8x2048x1024_S16384x1024 (ix2 n k) = X (ix3 (bat n) (pos n) k) := by
  pointwise [bat, pos]

theorem m_at (X : FVec Ideal S8x3072 .f32) (b : Fin 8) (j : Fin 3) (k : Fin 1024) :
    shapeCast S8x3x1024 X shapeCasts_S8x3072_S8x3x1024 (ix3 b j k) = X (ix2 b ⟨(j : ℕ) * 1024 + k, by omega⟩) := by
  pointwise

theorem g_at (X : FVec Ideal S1024 .f32) (k : Fin 1024) : shapeCast S1x1024 X shapeCasts_S1024_S1x1024 (ix2 0 k) = X (ix1 k) := by
  pointwise

variable (m : (ℓ : Loc nD τ sig) → Buf (Elt Ideal) ℓ)

theorem blk0_at (c : Dev nD) (t : Fin cfg0.N) (r : Fin 256) (k : Fin 1024) :
    (show Vec Ideal S256x1024 .f32 from iblk m c 0 t) (ix2 r k)
      = (show FVec Ideal S8x2048x1024 .f32 from m ((c : Thread nD τ).loc main_arg0)) (ix3 (bat (row t r)) (pos (row t r)) k) := by
  refine Eq.trans ?_ (x_at _ _ _)
  blk_simp [iblk]
  entry_read
  blk_ext [idxi t, row]

theorem blk1_at (c : Dev nD) (t : Fin cfg0.N) (r : Fin 256) (j : Fin 3) (k : Fin 1024) :
    (show Vec Ideal S1x3x1024 .f32 from iblk m c 1 t) (ix3 0 j k)
      = (show FVec Ideal S8x3072 .f32 from m ((c : Thread nD τ).loc main_arg1)) (ix2 (bat (row t r)) ⟨(j : ℕ) * 1024 + k, by omega⟩) := by
  refine Eq.trans ?_ (m_at _ _ _ _)
  blk_simp [iblk]
  entry_read
  blk_ext [idxi t, row, bat]

theorem blk2_at (c : Dev nD) (t : Fin cfg0.N) (k : Fin 1024) :
    (show Vec Ideal S1x1024 .f32 from iblk m c 2 t) (ix2 0 k)
      = (show FVec Ideal S1024 .f32 from m ((c : Thread nD τ).loc main_arg2)) (ix1 k) := by
  refine Eq.trans ?_ (g_at _ _)
  blk_simp [iblk]
  entry_read
  blk_ext [idxi t]

theorem blk4_at (c : Dev nD) (t : Fin cfg0.N) (r : Fin 256) (l : Fin 128) :
    (show Vec Ideal S256x128 .f32 from iblk m c 4 t) (ix2 r l) = Ideal.cos (ang (pos (row t r)) ⟨(l : ℕ) % 32, by omega⟩) := by
  rw [← angs_at]
  refine Eq.trans ?_ (cos_at angs _ _)
  blk_simp [iblk]
  entry_read
  blk_ext [idxi t, row, pos]

theorem blk5_at (c : Dev nD) (t : Fin cfg0.N) (r : Fin 256) (l : Fin 128) :
    (show Vec Ideal S256x128 .f32 from iblk m c 5 t) (ix2 r l)
      = if (l : ℕ) % 64 < 32 then -Ideal.sin (ang (pos (row t r)) ⟨(l : ℕ) % 32, by omega⟩) else Ideal.sin (ang (pos (row t r)) ⟨(l : ℕ) % 32, by omega⟩) := by
  rw [← angs_at]
  refine Eq.trans ?_ (sin_at angs _ _)
  blk_simp [iblk]
  entry_read
  blk_ext [idxi t, row, pos]

theorem blk6_at (c : Dev nD) (t : Fin cfg0.N) (l : Fin 128) :
    (show Vec Ideal S1x128 .f32 from iblk m c 6 t) (ix2 0 l)
      = if h : 64 ≤ (l : ℕ) ∧ (l : ℕ) < 72 then (show FVec Ideal S8 .f32 from m ((c : Thread nD τ).loc main_arg4)) (ix1 ⟨(l : ℕ) - 64, by omega⟩) else 0 := by
  refine Eq.trans ?_ (fb_at _ _)
  blk_simp [iblk]
  entry_read
  blk_ext [idxi t]

end Cert.Kernel2Ideal.Ab

end
-- ==== Proof.Ab.BlkW.lean ====
module

public import proofs.«01_k».proof.Proof.Ab.Blk
public import Idealize.ShloMosaic.Lib.Pipeline.ValueKit
public import Idealize.ShloMosaic.Lib.Claim
public import Idealize.ShloMosaic.Lib.StableHlo.RunRead

@[expose] public section

set_option maxRecDepth 16384

noncomputable section

/-! The blocks a grid point of the projection call is handed, read off the arguments. -/

namespace Cert.Kernel2Ideal.Ab

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The weights laid out for the call: thirteen blocks of columns side by side. -/
def lay (a0 : FVec Ideal S1024x512 .f32) (a1 : FVec Ideal S1024x512 .f32) (a2 : FVec Ideal S1024x512 .f32) (a3 : FVec Ideal S1024x512 .f32) (a4 : FVec Ideal S1024x512 .f32) (a5 : FVec Ideal S1024x512 .f32) (a6 : FVec Ideal S1024x512 .f32) (a7 : FVec Ideal S1024x512 .f32) (a8 : FVec Ideal S1024x512 .f32) (a9 : FVec Ideal S1024x64 .f32) (a10 : FVec Ideal S1024x8 .f32) (a11 : FVec Ideal S1024x8 .f32) (a12 : FVec Ideal S1024x48 .f32) : FVec Ideal S1024x4736 .bf16 :=
  (truncf .bf16 (concatenate S1024x4736 1 [⟨S1024x512, a0⟩, ⟨S1024x512, a1⟩, ⟨S1024x512, a2⟩, ⟨S1024x512, a3⟩, ⟨S1024x512, a4⟩, ⟨S1024x512, a5⟩, ⟨S1024x512, a6⟩, ⟨S1024x512, a7⟩, ⟨S1024x512, a8⟩, ⟨S1024x64, a9⟩, ⟨S1024x8, a10⟩, ⟨S1024x8, a11⟩, ⟨S1024x48, a12⟩] concatenates_S1024x512_S1024x512_S1024x512_S1024x512_S1024x512_S1024x512_S1024x512_S1024x512_S1024x512_S1024x64_S1024x8_S1024x8_S1024x48_S1024x4736_d1 : FVec Ideal S1024x4736 .f32) bitsLt_bf16_f32 : FVec Ideal S1024x4736 .bf16)

/-- The buffers' contents just before they are put side by side. -/
abbrev at14 (c : Dev nD) (b : Ref sig .tc) : Buf (Elt Ideal) ((c : Thread nD τ).loc b) := StableHlo.upto hostOps0 (fun b => m (c, b)) 14 b

theorem rd0 (c : Dev nD) : at14 m c main_v0 = extractStridedSlice S1024x512 ![0, 0] (m ((c : Thread nD τ).loc main_arg3)) slices_S1024x4688_S1024x512_0_0 := by
  unfold at14
  after_reads_simp

theorem rd1 (c : Dev nD) : at14 m c main_v1 = extractStridedSlice S1024x512 ![0, 512] (m ((c : Thread nD τ).loc main_arg3)) slices_S1024x4688_S1024x512_0_512 := by
  unfold at14
  after_reads_simp

theorem rd2 (c : Dev nD) : at14 m c main_v2 = extractStridedSlice S1024x512 ![0, 1024] (m ((c : Thread nD τ).loc main_arg3)) slices_S1024x4688_S1024x512_0_1024 := by
  unfold at14
  after_reads_simp

theorem rd3 (c : Dev nD) : at14 m c main_v4 = extractStridedSlice S1024x512 ![0, 1544] (m ((c : Thread nD τ).loc main_arg3)) slices_S1024x4688_S1024x512_0_1544 := by
  unfold at14
  after_reads_simp

theorem rd4 (c : Dev nD) : at14 m c main_v5 = extractStridedSlice S1024x512 ![0, 2056] (m ((c : Thread nD τ).loc main_arg3)) slices_S1024x4688_S1024x512_0_2056 := by
  unfold at14
  after_reads_simp

theorem rd5 (c : Dev nD) : at14 m c main_v6 = extractStridedSlice S1024x512 ![0, 2568] (m ((c : Thread nD τ).loc main_arg3)) slices_S1024x4688_S1024x512_0_2568 := by
  unfold at14
  after_reads_simp

theorem rd6 (c : Dev nD) : at14 m c main_v7 = extractStridedSlice S1024x512 ![0, 3080] (m ((c : Thread nD τ).loc main_arg3)) slices_S1024x4688_S1024x512_0_3080 := by
  unfold at14
  after_reads_simp

theorem rd7 (c : Dev nD) : at14 m c main_v8 = extractStridedSlice S1024x512 ![0, 3592] (m ((c : Thread nD τ).loc main_arg3)) slices_S1024x4688_S1024x512_0_3592 := by
  unfold at14
  after_reads_simp

theorem rd8 (c : Dev nD) : at14 m c main_v11 = extractStridedSlice S1024x512 ![0, 4176] (m ((c : Thread nD τ).loc main_arg3)) slices_S1024x4688_S1024x512_0_4176 := by
  unfold at14
  after_reads_simp

theorem rd9 (c : Dev nD) : at14 m c main_v9 = extractStridedSlice S1024x64 ![0, 4104] (m ((c : Thread nD τ).loc main_arg3)) slices_S1024x4688_S1024x64_0_4104 := by
  unfold at14
  after_reads_simp

theorem rd10 (c : Dev nD) : at14 m c main_v3 = extractStridedSlice S1024x8 ![0, 1536] (m ((c : Thread nD τ).loc main_arg3)) slices_S1024x4688_S1024x8_0_1536 := by
  unfold at14
  after_reads_simp

theorem rd11 (c : Dev nD) : at14 m c main_v10 = extractStridedSlice S1024x8 ![0, 4168] (m ((c : Thread nD τ).loc main_arg3)) slices_S1024x4688_S1024x8_0_4168 := by
  unfold at14
  after_reads_simp

theorem rd12 (c : Dev nD) : at14 m c main_v12 = (broadcastInDim S1024x48 ![] bcast_S_S1024x48 (constant S_ .f32 0x00000000#32) : FVec Ideal S1024x48 .f32) := by
  unfold at14
  after_reads_simp

theorem lay_eq (c : Dev nD) : V m c main_v14 = lay (at14 m c main_v0) (at14 m c main_v1) (at14 m c main_v2) (at14 m c main_v4) (at14 m c main_v5) (at14 m c main_v6) (at14 m c main_v7) (at14 m c main_v8) (at14 m c main_v11) (at14 m c main_v9) (at14 m c main_v3) (at14 m c main_v10) (at14 m c main_v12) := by
  unfold V
  after_reads_simp
  rfl

theorem blk3_at (c : Dev nD) (t : Fin cfg0.N) (k : Fin 1024) (j : Fin 4736) :
    (show Vec Ideal S1024x4736 .bf16 from iblk m c 3 t) (ix2 k j) = wel (m ((c : Thread nD τ).loc main_arg3)) k (col j) := by
  refine Eq.trans ?_ (w_at _ _ _)
  show _ = lay (extractStridedSlice S1024x512 ![0, 0] (m ((c : Thread nD τ).loc main_arg3)) slices_S1024x4688_S1024x512_0_0) (extractStridedSlice S1024x512 ![0, 512] (m ((c : Thread nD τ).loc main_arg3)) slices_S1024x4688_S1024x512_0_512) (extractStridedSlice S1024x512 ![0, 1024] (m ((c : Thread nD τ).loc main_arg3)) slices_S1024x4688_S1024x512_0_1024) (extractStridedSlice S1024x512 ![0, 1544] (m ((c : Thread nD τ).loc main_arg3)) slices_S1024x4688_S1024x512_0_1544) (extractStridedSlice S1024x512 ![0, 2056] (m ((c : Thread nD τ).loc main_arg3)) slices_S1024x4688_S1024x512_0_2056) (extractStridedSlice S1024x512 ![0, 2568] (m ((c : Thread nD τ).loc main_arg3)) slices_S1024x4688_S1024x512_0_2568) (extractStridedSlice S1024x512 ![0, 3080] (m ((c : Thread nD τ).loc main_arg3)) slices_S1024x4688_S1024x512_0_3080) (extractStridedSlice S1024x512 ![0, 3592] (m ((c : Thread nD τ).loc main_arg3)) slices_S1024x4688_S1024x512_0_3592) (extractStridedSlice S1024x512 ![0, 4176] (m ((c : Thread nD τ).loc main_arg3)) slices_S1024x4688_S1024x512_0_4176) (extractStridedSlice S1024x64 ![0, 4104] (m ((c : Thread nD τ).loc main_arg3)) slices_S1024x4688_S1024x64_0_4104) (extractStridedSlice S1024x8 ![0, 1536] (m ((c : Thread nD τ).loc main_arg3)) slices_S1024x4688_S1024x8_0_1536) (extractStridedSlice S1024x8 ![0, 4168] (m ((c : Thread nD τ).loc main_arg3)) slices_S1024x4688_S1024x8_0_4168) (broadcastInDim S1024x48 ![] bcast_S_S1024x48 (constant S_ .f32 0x00000000#32)) _
  rw [← rd0, ← rd1, ← rd2, ← rd3, ← rd4, ← rd5, ← rd6, ← rd7, ← rd8, ← rd9, ← rd10, ← rd11, ← rd12, ← lay_eq]
  blk_simp [iblk]
  blk_ext [idxi t]

end Cert.Kernel2Ideal.Ab

end
-- ==== Proof.Ab.Tiles.lean ====
module

public import proofs.«01_k».proof.Proof.Ab.BlkW

@[expose] public section

set_option maxRecDepth 16384

noncomputable section

/-! Ten stores side by side, read at an index. -/

namespace Cert.Kernel2Ideal.Ab

open Cert.Kernel2Ideal Cert.Kernel2Ideal.Gen Idealize.ShloMosaic Idealize.ShloMosaic.TcCoe Idealize.SL.Sem
open Idealize.ShloMosaic.Pipeline (Dat)

theorem tiles (a0 : FVec Ideal S256x512 .bf16) (a1 : FVec Ideal S256x512 .bf16) (a2 : FVec Ideal S256x512 .bf16) (a3 : FVec Ideal S256x512 .bf16) (a4 : FVec Ideal S256x512 .bf16) (a5 : FVec Ideal S256x512 .bf16) (a6 : FVec Ideal S256x512 .bf16) (a7 : FVec Ideal S256x512 .bf16) (a8 : FVec Ideal S256x512 .bf16) (a9 : FVec Ideal S256x128 .bf16) (ev : Fin 256 → ℕ → EReal)
    (h0 : ∀ (r : Fin 256) (l : Fin 512), a0 (ix2 r l) = ev r (0 + l))
    (h1 : ∀ (r : Fin 256) (l : Fin 512), a1 (ix2 r l) = ev r (512 + l))
    (h2 : ∀ (r : Fin 256) (l : Fin 512), a2 (ix2 r l) = ev r (1024 + l))
    (h3 : ∀ (r : Fin 256) (l : Fin 512), a3 (ix2 r l) = ev r (1536 + l))
    (h4 : ∀ (r : Fin 256) (l : Fin 512), a4 (ix2 r l) = ev r (2048 + l))
    (h5 : ∀ (r : Fin 256) (l : Fin 512), a5 (ix2 r l) = ev r (2560 + l))
    (h6 : ∀ (r : Fin 256) (l : Fin 512), a6 (ix2 r l) = ev r (3072 + l))
    (h7 : ∀ (r : Fin 256) (l : Fin 512), a7 (ix2 r l) = ev r (3584 + l))
    (h8 : ∀ (r : Fin 256) (l : Fin 512), a8 (ix2 r l) = ev r (4096 + l))
    (h9 : ∀ (r : Fin 256) (l : Fin 128), a9 (ix2 r l) = ev r (4608 + l))
    (y : S256x4736.Idx) : View.canon (Val := Elt Ideal) (s := S256x4736) (e := .bf16)
      [⟨Rect.unit ![0, 4608] ![256, 128] inb_S256x4736_S256x128_0_4608, a9⟩, ⟨Rect.unit ![0, 4096] ![256, 512] inb_S256x4736_S256x512_0_4096, a8⟩, ⟨Rect.unit ![0, 3584] ![256, 512] inb_S256x4736_S256x512_0_3584, a7⟩, ⟨Rect.unit ![0, 3072] ![256, 512] inb_S256x4736_S256x512_0_3072, a6⟩, ⟨Rect.unit ![0, 2560] ![256, 512] inb_S256x4736_S256x512_0_2560, a5⟩, ⟨Rect.unit ![0, 2048] ![256, 512] inb_S256x4736_S256x512_0_2048, a4⟩, ⟨Rect.unit ![0, 1536] ![256, 512] inb_S256x4736_S256x512_0_1536, a3⟩, ⟨Rect.unit ![0, 1024] ![256, 512] inb_S256x4736_S256x512_0_1024, a2⟩, ⟨Rect.unit ![0, 512] ![256, 512] inb_S256x4736_S256x512_0_512, a1⟩, ⟨Rect.unit ![0, 0] ![256, 512] inb_S256x4736_S256x512_0_0, a0⟩] y = ev (y 0) (y 1 : Fin 4736) := by
  canon_tiles x g using (View.cover_of_tiledBy _ ![256, 128] (by sl_kernel_rfl) y)
  · have e0 : (y 0 : Fin 256) = x 0 := Fin.ext g0
    rw [e0, show ((y 1 : Fin 4736) : ℕ) = 4608 + ((x 1 : Fin 128) : ℕ) by have := g1; omega]
    exact (congrArg a9 (eq_ix2 x)).trans (h9 (x 0) (x 1))
  · have e0 : (y 0 : Fin 256) = x 0 := Fin.ext g0
    rw [e0, show ((y 1 : Fin 4736) : ℕ) = 4096 + ((x 1 : Fin 512) : ℕ) by have := g1; omega]
    exact (congrArg a8 (eq_ix2 x)).trans (h8 (x 0) (x 1))
  · have e0 : (y 0 : Fin 256) = x 0 := Fin.ext g0
    rw [e0, show ((y 1 : Fin 4736) : ℕ) = 3584 + ((x 1 : Fin 512) : ℕ) by have := g1; omega]
    exact (congrArg a7 (eq_ix2 x)).trans (h7 (x 0) (x 1))
  · have e0 : (y 0 : Fin 256) = x 0 := Fin.ext g0
    rw [e0, show ((y 1 : Fin 4736) : ℕ) = 3072 + ((x 1 : Fin 512) : ℕ) by have := g1; omega]
    exact (congrArg a6 (eq_ix2 x)).trans (h6 (x 0) (x 1))
  · have e0 : (y 0 : Fin 256) = x 0 := Fin.ext g0
    rw [e0, show ((y 1 : Fin 4736) : ℕ) = 2560 + ((x 1 : Fin 512) : ℕ) by have := g1; omega]
    exact (congrArg a5 (eq_ix2 x)).trans (h5 (x 0) (x 1))
  · have e0 : (y 0 : Fin 256) = x 0 := Fin.ext g0
    rw [e0, show ((y 1 : Fin 4736) : ℕ) = 2048 + ((x 1 : Fin 512) : ℕ) by have := g1; omega]
    exact (congrArg a4 (eq_ix2 x)).trans (h4 (x 0) (x 1))
  · have e0 : (y 0 : Fin 256) = x 0 := Fin.ext g0
    rw [e0, show ((y 1 : Fin 4736) : ℕ) = 1536 + ((x 1 : Fin 512) : ℕ) by have := g1; omega]
    exact (congrArg a3 (eq_ix2 x)).trans (h3 (x 0) (x 1))
  · have e0 : (y 0 : Fin 256) = x 0 := Fin.ext g0
    rw [e0, show ((y 1 : Fin 4736) : ℕ) = 1024 + ((x 1 : Fin 512) : ℕ) by have := g1; omega]
    exact (congrArg a2 (eq_ix2 x)).trans (h2 (x 0) (x 1))
  · have e0 : (y 0 : Fin 256) = x 0 := Fin.ext g0
    rw [e0, show ((y 1 : Fin 4736) : ℕ) = 512 + ((x 1 : Fin 512) : ℕ) by have := g1; omega]
    exact (congrArg a1 (eq_ix2 x)).trans (h1 (x 0) (x 1))
  · have e0 : (y 0 : Fin 256) = x 0 := Fin.ext g0
    rw [e0, show ((y 1 : Fin 4736) : ℕ) = 0 + ((x 1 : Fin 512) : ℕ) by have := g1; omega]
    exact (congrArg a0 (eq_ix2 x)).trans (h0 (x 0) (x 1))

end Cert.Kernel2Ideal.Ab

end
-- ==== Proof.Ab.Point.lean ====
module

public import proofs.«01_k».proof.Proof.Ab.Tiles

@[expose] public section

set_option maxRecDepth 16384

noncomputable section

/-! What a grid point of the projection call leaves in its outputs' blocks. -/

namespace Cert.Kernel2Ideal.Ab

open Cert.Kernel2Ideal Cert.Kernel2Ideal.Gen Idealize.ShloMosaic Idealize.ShloMosaic.TcCoe Idealize.SL.Sem
open Idealize.ShloMosaic.Pipeline (Dat)

section spec

variable (X : FVec Ideal S8x2048x1024 .f32) (M : FVec Ideal S8x3072 .f32) (G : FVec Ideal S1024 .f32) (W : FVec Ideal S1024x4688 .f32) (F : FVec Ideal S8 .f32)

/-- The normalised and modulated row. -/
def hd (n : Fin 16384) (k : Fin 1024) : EReal :=
  nrm (fun k => X (ix3 (bat n) (pos n) k)) (fun k => G (ix1 k)) (fun k => M (ix2 (bat n) ⟨k, by omega⟩)) (fun k => M (ix2 (bat n) ⟨1024 + k, by omega⟩)) k

/-- Its projection on a column of the weights. -/
def pr (n : Fin 16384) (j : ℕ) : EReal := ∑ k : Fin 1024, hd X M G n k * wel W k j

/-- The projections on the columns from `o`, rotated by the row's position. -/
def rp (n : Fin 16384) (o c : ℕ) : EReal :=
  pr X M G W n (o + c) * Ideal.cos (ang (pos n) ⟨c % 32, by omega⟩)
    + (if c % 64 < 32 then pr X M G W n (o + (c + 32)) else pr X M G W n (o + (c - 32)))
      * (if c % 64 < 32 then -Ideal.sin (ang (pos n) ⟨c % 32, by omega⟩) else Ideal.sin (ang (pos n) ⟨c % 32, by omega⟩))

/-- All projections side by side. -/
def every (n : Fin 16384) (c : ℕ) : EReal :=
  if c < 512 then pr X M G W n c * qk else if c < 1536 then pr X M G W n c else if c < 2048 then pr X M G W n (c + 8)
  else if c < 2560 then rp X M G W n 2056 (c - 2048) * qk else if c < 3072 then rp X M G W n 2568 (c - 2560)
  else if c < 3584 then pr X M G W n (c + 8) else if c < 4096 then rp X M G W n 3592 (c - 3584) else if c < 4608 then pr X M G W n (c + 80)
  else rp X M G W n 4104 ((c - 4608) % 64)

/-- The small projections. -/
def small (n : Fin 16384) (l : ℕ) : EReal :=
  if l < 64 then rp X M G W n 4104 l else if h : l < 72 then lsg (pr X M G W n (1536 + (l - 64)) + F (ix1 ⟨l - 64, by omega⟩))
  else if l < 80 then pr X M G W n (4168 + (l - 72)) * iw else 0

variable {X M G W F} {n : Fin 16384} {A : FVec Ideal S256x1024 .bf16} {r : Fin 256}

theorem prj_eq (hA : ∀ k, A (ix2 r k) = hd X M G n k) (B : Vec Ideal S1024x512 .bf16) (c : Fin 512) (j : ℕ) (hB : ∀ k, B (ix2 k c) = wel W k j) :
    prj A B (ix2 r c) = pr X M G W n j := by
  rw [prj_at, pr]
  exact Finset.sum_congr rfl fun k _ => by rw [hA, hB]

theorem prs_eq (hA : ∀ k, A (ix2 r k) = hd X M G n k) (D : Vec Ideal S1024x128 .bf16) (c : Fin 128) (j : ℕ) (hD : ∀ k, D (ix2 k c) = wel W k j) :
    prs A D (ix2 r c) = pr X M G W n j := by
  rw [prs_at, pr]
  exact Finset.sum_congr rfl fun k _ => by rw [hA, hD]

variable {co si : FVec Ideal S256x128 .f32}

theorem rt4_eq (hA : ∀ k, A (ix2 r k) = hd X M G n k) (B : Vec Ideal S1024x512 .bf16) (o : ℕ) (hB : ∀ k (c : Fin 512), B (ix2 k c) = wel W k (o + c))
    (hc : ∀ l : Fin 128, co (ix2 r l) = Ideal.cos (ang (pos n) ⟨(l : ℕ) % 32, by omega⟩))
    (hs : ∀ l : Fin 128, si (ix2 r l) = if (l : ℕ) % 64 < 32 then -Ideal.sin (ang (pos n) ⟨(l : ℕ) % 32, by omega⟩) else Ideal.sin (ang (pos n) ⟨(l : ℕ) % 32, by omega⟩))
    (c : Fin 512) : rt4 (prj A B) co si (ix2 r c) = rp X M G W n o c := by
  have hl := c.isLt
  have e1 : (⟨(c : ℕ) % 128 % 32, by omega⟩ : Fin 32) = ⟨(c : ℕ) % 32, by omega⟩ := Fin.ext (show (c : ℕ) % 128 % 32 = (c : ℕ) % 32 by omega)
  have e2 : (c : ℕ) % 128 % 64 = (c : ℕ) % 64 := by omega
  rw [rt4_at, hc, hs, prj_eq hA B c _ fun k => hB k c, rp]
  dsimp only
  rw [e1, e2]
  by_cases h : (c : ℕ) % 64 < 32
  · rw [if_pos h, if_pos h, if_pos h, prj_eq hA B _ _ fun k => hB k _]
    have e3 : ((c : ℕ) + 32) % 512 = (c : ℕ) + 32 := by omega
    dsimp only
    rw [e3]
  · rw [if_neg h, if_neg h, if_neg h, prj_eq hA B _ _ fun k => hB k _]
    have e3 : ((c : ℕ) + 480) % 512 = (c : ℕ) - 32 := by omega
    dsimp only
    rw [e3]

theorem rt_eq (hA : ∀ k, A (ix2 r k) = hd X M G n k) (D : Vec Ideal S1024x128 .bf16) (o : ℕ) (hD : ∀ k (l : Fin 128), (l : ℕ) < 64 → D (ix2 k l) = wel W k (o + l))
    (hc : ∀ l : Fin 128, co (ix2 r l) = Ideal.cos (ang (pos n) ⟨(l : ℕ) % 32, by omega⟩))
    (hs : ∀ l : Fin 128, si (ix2 r l) = if (l : ℕ) % 64 < 32 then -Ideal.sin (ang (pos n) ⟨(l : ℕ) % 32, by omega⟩) else Ideal.sin (ang (pos n) ⟨(l : ℕ) % 32, by omega⟩))
    (l : Fin 128) (hl : (l : ℕ) < 64) : rt (prs A D) co si (ix2 r l) = rp X M G W n o l := by
  rw [rt_at, hc, hs, prs_eq hA D l _ fun k => hD k l hl, rp]
  by_cases h : (l : ℕ) % 64 < 32
  · rw [if_pos h, if_pos h, if_pos h, prs_eq hA D _ _ fun k => hD k _ (by dsimp only; omega)]
    have e3 : ((l : ℕ) + 32) % 128 = (l : ℕ) + 32 := by omega
    dsimp only
    rw [e3]
  · rw [if_neg h, if_neg h, if_neg h, prs_eq hA D _ _ fun k => hD k _ (by dsimp only; omega)]
    have e3 : ((l : ℕ) + 96) % 128 = (l : ℕ) - 32 := by omega
    dsimp only
    rw [e3]

end spec

variable (m : (ℓ : Loc nD τ sig) → Buf (Elt Ideal) ℓ) (c : Dev nD) (t : Fin cfg0.N)

/-- The arguments. -/
def aX : FVec Ideal S8x2048x1024 .f32 := m ((c : Thread nD τ).loc main_arg0)
def aM : FVec Ideal S8x3072 .f32 := m ((c : Thread nD τ).loc main_arg1)
def aG : FVec Ideal S1024 .f32 := m ((c : Thread nD τ).loc main_arg2)
def aW : FVec Ideal S1024x4688 .f32 := m ((c : Thread nD τ).loc main_arg3)
def aF : FVec Ideal S8 .f32 := m ((c : Thread nD τ).loc main_arg4)

theorem ldM (Y : Vec Ideal S1x3x1024 .f32) (j : ℕ) (hj : j < 3) (inb : ∀ a, ![0, j, 0] a + ![1, 1, 1024] a ≤ S1x3x1024.size a) (k : Fin 1024) :
    (View.ld Y (Rect.unit ![0, j, 0] ![1, 1, 1024] inb) : Vec Ideal S1x1x1024 .f32) (ix3 0 0 k) = Y (ix3 0 ⟨j, hj⟩ k) := by
  refine View.ld_unit_apply_of _ _ _ _ _ _ fun d => ?_
  fin_cases d <;> simp

theorem ldW (Y : Vec Ideal S1024x4736 .bf16) (o : ℕ) (ho : o + 512 ≤ 4736) (inb : ∀ a, ![0, o] a + ![1024, 512] a ≤ S1024x4736.size a) (k : Fin 1024) (l : Fin 512) :
    (View.ld Y (Rect.unit ![0, o] ![1024, 512] inb) : Vec Ideal S1024x512 .bf16) (ix2 k l) = Y (ix2 k ⟨o + l, by omega⟩) := by
  refine View.ld_unit_apply_of _ _ _ _ _ _ fun d => ?_
  fin_cases d <;> simp

theorem ldS (Y : Vec Ideal S1024x4736 .bf16) (inb : ∀ a, ![0, 4608] a + ![1024, 128] a ≤ S1024x4736.size a) (k : Fin 1024) (l : Fin 128) :
    (View.ld Y (Rect.unit ![0, 4608] ![1024, 128] inb) : Vec Ideal S1024x128 .bf16) (ix2 k l) = Y (ix2 k ⟨4608 + l, by omega⟩) := by
  refine View.ld_unit_apply_of _ _ _ _ _ _ fun d => ?_
  fin_cases d <;> simp

/-- The normalised rows of a grid point. -/
def hb : FVec Ideal S256x1024 .bf16 := k0_pay3 (iblk m c 0 t) (iblk m c 2 t)
  (View.ld (iblk m c 1 t) (Rect.unit ![0, 0, 0] ![1, 1, 1024] inb_S1x3x1024_S1x1x1024_0_0_0))
  (View.ld (iblk m c 1 t) (Rect.unit ![0, 1, 0] ![1, 1, 1024] inb_S1x3x1024_S1x1x1024_0_1_0))

theorem hb_at (r : Fin 256) (k : Fin 1024) : hb m c t (ix2 r k) = hd (aX m c) (aM m c) (aG m c) (row t r) k := by
  rw [hb, pay3_at, hd]
  congr 1
  · exact funext fun k => blk0_at m c t r k
  · exact funext fun k => blk2_at m c t k
  · exact funext fun k => (ldM _ 0 (by decide) _ k).trans ((blk1_at m c t r 0 k).trans (congrArg (fun z => aM m c (ix2 _ z)) (Fin.ext (by show 0 * 1024 + (k : ℕ) = k; omega))))
  · exact funext fun k => (ldM _ 1 (by decide) _ k).trans ((blk1_at m c t r 1 k).trans (congrArg (fun z => aM m c (ix2 _ z)) (Fin.ext (by show 1 * 1024 + (k : ℕ) = 1024 + k; omega))))

/-- A tile of 512 columns of the weights. -/
theorem wt_at (o : ℕ) (ho : o + 512 ≤ 4736) (inb : ∀ a, ![0, o] a + ![1024, 512] a ≤ S1024x4736.size a) (o' : ℕ) (h : ∀ c < 512, col (o + c) = o' + c) (k : Fin 1024) (l : Fin 512) :
    (View.ld (iblk m c 3 t : Vec Ideal S1024x4736 .bf16) (Rect.unit ![0, o] ![1024, 512] inb) : Vec Ideal S1024x512 .bf16) (ix2 k l) = wel (aW m c) k (o' + l) := by
  refine (ldW _ o ho inb k l).trans ((blk3_at m c t k _).trans ?_)
  dsimp only
  rw [h _ l.isLt]
  rfl

theorem ws_at (k : Fin 1024) (l : Fin 128) :
    (View.ld (iblk m c 3 t : Vec Ideal S1024x4736 .bf16) (Rect.unit ![0, 4608] ![1024, 128] inb_S1024x4736_S1024x128_0_4608) : Vec Ideal S1024x128 .bf16) (ix2 k l) = wel (aW m c) k (col (4608 + l)) :=
  (ldS _ _ k l).trans (blk3_at m c t k _)

theorem pay4_eq (Y : Vec Ideal S256x128 .f32) (r : Fin 256) (l : Fin 128) : k0_pay4 (F := Ideal) Y (ix2 r l) = Y (ix2 r l) := by
  pointwise [k0_pay4]
theorem pay5_eq (Y : Vec Ideal S256x128 .f32) (r : Fin 256) (l : Fin 128) : k0_pay5 (F := Ideal) Y (ix2 r l) = Y (ix2 r l) := by
  pointwise [k0_pay5]

theorem co_at (r : Fin 256) (l : Fin 128) : k0_pay4 (F := Ideal) (iblk m c 4 t) (ix2 r l) = Ideal.cos (ang (pos (row t r)) ⟨(l : ℕ) % 32, by omega⟩) :=
  (pay4_eq _ r l).trans (blk4_at m c t r l)

theorem si_at (r : Fin 256) (l : Fin 128) : k0_pay5 (F := Ideal) (iblk m c 5 t) (ix2 r l)
    = if (l : ℕ) % 64 < 32 then -Ideal.sin (ang (pos (row t r)) ⟨(l : ℕ) % 32, by omega⟩) else Ideal.sin (ang (pos (row t r)) ⟨(l : ℕ) % 32, by omega⟩) :=
  (pay5_eq _ r l).trans (blk5_at m c t r l)

/-- A tile's projections. -/
theorem tp (r : Fin 256) (l : Fin 512) (o : ℕ) (ho : o + 512 ≤ 4736) (inb : ∀ a, ![0, o] a + ![1024, 512] a ≤ S1024x4736.size a) (o' : ℕ) (h : ∀ c < 512, col (o + c) = o' + c) :
    prj (hb m c t) (View.ld (iblk m c 3 t : Vec Ideal S1024x4736 .bf16) (Rect.unit ![0, o] ![1024, 512] inb)) (ix2 r l)
      = pr (aX m c) (aM m c) (aG m c) (aW m c) (row t r) (o' + l) :=
  prj_eq (hb_at m c t r) _ l _ fun k => wt_at m c t o ho inb o' h k l

/-- A tile's projections, rotated. -/
theorem tr (r : Fin 256) (l : Fin 512) (o : ℕ) (ho : o + 512 ≤ 4736) (inb : ∀ a, ![0, o] a + ![1024, 512] a ≤ S1024x4736.size a) (o' : ℕ) (h : ∀ c < 512, col (o + c) = o' + c) :
    rt4 (prj (hb m c t) (View.ld (iblk m c 3 t : Vec Ideal S1024x4736 .bf16) (Rect.unit ![0, o] ![1024, 512] inb))) (k0_pay4 (iblk m c 4 t)) (k0_pay5 (iblk m c 5 t)) (ix2 r l)
      = rp (aX m c) (aM m c) (aG m c) (aW m c) (row t r) o' l :=
  rt4_eq (hb_at m c t r) _ o' (wt_at m c t o ho inb o' h) (co_at m c t r) (si_at m c t r) l

/-- The rotated keys of the index. -/
theorem ik_at (r : Fin 256) (l : Fin 128) (hl : (l : ℕ) < 64) :
    rt (prs (hb m c t) (View.ld (iblk m c 3 t : Vec Ideal S1024x4736 .bf16) (Rect.unit ![0, 4608] ![1024, 128] inb_S1024x4736_S1024x128_0_4608))) (k0_pay4 (iblk m c 4 t)) (k0_pay5 (iblk m c 5 t)) (ix2 r l)
      = rp (aX m c) (aM m c) (aG m c) (aW m c) (row t r) 4104 l :=
  rt_eq (hb_at m c t r) _ 4104 (fun k l hl => (ws_at m c t k l).trans (by
    have e : col (4608 + (l : ℕ)) = 4104 + (l : ℕ) := by unfold col; split_ifs <;> omega
    rw [e])) (co_at m c t r) (si_at m c t r) l hl

theorem eqi {a b : ℕ} (i : (⟨2, ![a, b]⟩ : Shape).Idx) : i = ix2 (i 0) (i 1) := eq_ix2 i

theorem point8 (r : Fin 256) (l : Fin 512) : (show FVec Ideal S256x512 .f32 from (outsAt0 m c t).2.1) (ix2 r l) = pr (aX m c) (aM m c) (aG m c) (aW m c) (row t r) (512 + l) := by
  unfold outsAt0
  frame_out
  exact tp m c t r l 512 (by decide) _ 512 fun c h => by unfold col; split_ifs <;> omega

theorem point9 (r : Fin 256) (l : Fin 512) : (show FVec Ideal S256x512 .f32 from (outsAt0 m c t).2.2.1) (ix2 r l) = pr (aX m c) (aM m c) (aG m c) (aW m c) (row t r) (1024 + l) := by
  unfold outsAt0
  frame_out
  exact tp m c t r l 1024 (by decide) _ 1024 fun c h => by unfold col; split_ifs <;> omega

theorem point10 (r : Fin 256) (l : Fin 512) : (show FVec Ideal S256x512 .f32 from (outsAt0 m c t).2.2.2.1) (ix2 r l) = rp (aX m c) (aM m c) (aG m c) (aW m c) (row t r) 2568 l := by
  unfold outsAt0
  frame_out
  exact tr m c t r l 2560 (by decide) _ 2568 fun c h => by unfold col; split_ifs <;> omega

theorem point11 (r : Fin 256) (l : Fin 512) : (show FVec Ideal S256x512 .f32 from (outsAt0 m c t).2.2.2.2.1) (ix2 r l) = pr (aX m c) (aM m c) (aG m c) (aW m c) (row t r) (3080 + l) := by
  unfold outsAt0
  frame_out
  exact tp m c t r l 3072 (by decide) _ 3080 fun c h => by unfold col; split_ifs <;> omega

theorem point12 (r : Fin 256) (l : Fin 128) : (show FVec Ideal S256x128 .f32 from (outsAt0 m c t).2.2.2.2.2) (ix2 r l) = small (aX m c) (aM m c) (aG m c) (aW m c) (aF m c) (row t r) l := by
  unfold outsAt0
  frame_out
  refine (small_at (hb m c t) _ _ _ _ r l).trans ?_
  have hl := l.isLt
  have hp := fun (o : ℕ) (e : col (4608 + (l : ℕ)) = o) => prs_eq (W := aW m c) (hb_at m c t r) (View.ld (iblk m c 3 t : Vec Ideal S1024x4736 .bf16) (Rect.unit ![0, 4608] ![1024, 128] inb_S1024x4736_S1024x128_0_4608)) l o
    fun k => (ws_at m c t k l).trans (by rw [e])
  unfold small
  by_cases h0 : (l : ℕ) < 64
  · rw [if_pos h0, if_pos h0]
    exact ik_at m c t r l h0
  rw [if_neg h0, if_neg h0]
  by_cases h1 : (l : ℕ) < 72
  · rw [if_pos h1, dif_pos h1]
    exact congrArg₂ (fun a b => lsg (a + b)) (hp (1536 + ((l : ℕ) - 64)) (by unfold col; split_ifs <;> omega)) ((blk6_at m c t l).trans (dif_pos ⟨by omega, h1⟩))
  rw [if_neg h1, dif_neg h1]
  by_cases h2 : (l : ℕ) < 80
  · rw [if_pos h2]
    exact congrArg (· * iw) (hp (4168 + ((l : ℕ) - 72)) (by unfold col; split_ifs <;> omega))
  · rw [if_neg h2]
    refine (congrArg (· * iw) (hp 4688 (by unfold col; split_ifs <;> omega))).trans ?_
    show pr _ _ _ _ _ _ * iw = 0
    rw [pr, Finset.sum_eq_zero fun k _ => by rw [wel, dif_neg (lt_irrefl _), mul_zero], zero_mul]

section every

variable (X : FVec Ideal S8x2048x1024 .f32) (M : FVec Ideal S8x3072 .f32) (G : FVec Ideal S1024 .f32) (W : FVec Ideal S1024x4688 .f32)

theorem ev0 (n : Fin 16384) (l : ℕ) (h : l < 512) : every X M G W n (0 + l) = pr X M G W n (0 + l) * qk := by
  unfold every
  rw [if_pos (by omega)]

theorem ev1 (n : Fin 16384) (l : ℕ) (h : l < 512) : every X M G W n (512 + l) = pr X M G W n (512 + l) := by
  unfold every
  rw [if_neg (by omega), if_pos (by omega)]

theorem ev2 (n : Fin 16384) (l : ℕ) (h : l < 512) : every X M G W n (1024 + l) = pr X M G W n (1024 + l) := by
  unfold every
  rw [if_neg (by omega), if_pos (by omega)]

theorem ev3 (n : Fin 16384) (l : ℕ) (h : l < 512) : every X M G W n (1536 + l) = pr X M G W n (1544 + l) := by
  unfold every
  rw [if_neg (by omega), if_neg (by omega), if_pos (by omega), show 1536 + l + 8 = 1544 + l by omega]

theorem ev4 (n : Fin 16384) (l : ℕ) (h : l < 512) : every X M G W n (2048 + l) = rp X M G W n 2056 l * qk := by
  unfold every
  rw [if_neg (by omega), if_neg (by omega), if_neg (by omega), if_pos (by omega), show 2048 + l - 2048 = l by omega]

theorem ev5 (n : Fin 16384) (l : ℕ) (h : l < 512) : every X M G W n (2560 + l) = rp X M G W n 2568 l := by
  unfold every
  rw [if_neg (by omega), if_neg (by omega), if_neg (by omega), if_neg (by omega), if_pos (by omega), show 2560 + l - 2560 = l by omega]

theorem ev6 (n : Fin 16384) (l : ℕ) (h : l < 512) : every X M G W n (3072 + l) = pr X M G W n (3080 + l) := by
  unfold every
  rw [if_neg (by omega), if_neg (by omega), if_neg (by omega), if_neg (by omega), if_neg (by omega), if_pos (by omega), show 3072 + l + 8 = 3080 + l by omega]

theorem ev7 (n : Fin 16384) (l : ℕ) (h : l < 512) : every X M G W n (3584 + l) = rp X M G W n 3592 l := by
  unfold every
  rw [if_neg (by omega), if_neg (by omega), if_neg (by omega), if_neg (by omega), if_neg (by omega), if_neg (by omega), if_pos (by omega), show 3584 + l - 3584 = l by omega]

theorem ev8 (n : Fin 16384) (l : ℕ) (h : l < 512) : every X M G W n (4096 + l) = pr X M G W n (4176 + l) := by
  unfold every
  rw [if_neg (by omega), if_neg (by omega), if_neg (by omega), if_neg (by omega), if_neg (by omega), if_neg (by omega), if_neg (by omega), if_pos (by omega), show 4096 + l + 80 = 4176 + l by omega]

theorem ev9 (n : Fin 16384) (l : ℕ) (h : l < 128) : every X M G W n (4608 + l) = rp X M G W n 4104 (l % 64) := by
  unfold every
  rw [if_neg (by omega), if_neg (by omega), if_neg (by omega), if_neg (by omega), if_neg (by omega), if_neg (by omega), if_neg (by omega), if_neg (by omega), show 4608 + l - 4608 = l by omega]

end every

theorem point7 (y : S256x4736.Idx) : (show FVec Ideal S256x4736 .bf16 from (outsAt0 m c t).1) y = every (aX m c) (aM m c) (aG m c) (aW m c) (row t (y 0)) (y 1 : Fin 4736) := by
  unfold outsAt0
  frame_out
  refine tiles _ _ _ _ _ _ _ _ _ _ (fun r j => every (aX m c) (aM m c) (aG m c) (aW m c) (row t r) j) ?_ ?_ ?_ ?_ ?_ ?_ ?_ ?_ ?_ ?_ y
  · exact fun r l => ((pay6_at _ _ _ _ _ r l).trans (congrArg (· * qk) ((prj_at (hb m c t) _ r l).symm.trans (tp m c t r l 0 (by decide) _ 0 fun c h => by unfold col; split_ifs <;> omega)))).trans (ev0 (aX m c) (aM m c) (aG m c) (aW m c) (row t r) l l.isLt).symm
  · exact fun r l => (tp m c t r l 512 (by decide) _ 512 fun c h => by unfold col; split_ifs <;> omega).trans (ev1 (aX m c) (aM m c) (aG m c) (aW m c) (row t r) l l.isLt).symm
  · exact fun r l => (tp m c t r l 1024 (by decide) _ 1024 fun c h => by unfold col; split_ifs <;> omega).trans (ev2 (aX m c) (aM m c) (aG m c) (aW m c) (row t r) l l.isLt).symm
  · exact fun r l => (tp m c t r l 1536 (by decide) _ 1544 fun c h => by unfold col; split_ifs <;> omega).trans (ev3 (aX m c) (aM m c) (aG m c) (aW m c) (row t r) l l.isLt).symm
  · exact fun r l => ((pay15_at _ _ (prj (hb m c t) _) r l).trans (congrArg (· * qk) (tr m c t r l 2048 (by decide) _ 2056 fun c h => by unfold col; split_ifs <;> omega))).trans (ev4 (aX m c) (aM m c) (aG m c) (aW m c) (row t r) l l.isLt).symm
  · exact fun r l => ((congrFun (pay21_eq (hb m c t) _ _ _) (ix2 r l)).trans (tr m c t r l 2560 (by decide) _ 2568 fun c h => by unfold col; split_ifs <;> omega)).trans (ev5 (aX m c) (aM m c) (aG m c) (aW m c) (row t r) l l.isLt).symm
  · exact fun r l => (tp m c t r l 3072 (by decide) _ 3080 fun c h => by unfold col; split_ifs <;> omega).trans (ev6 (aX m c) (aM m c) (aG m c) (aW m c) (row t r) l l.isLt).symm
  · exact fun r l => ((pay29_eq (hb m c t) _ _ _ r l).trans (tr m c t r l 3584 (by decide) _ 3592 fun c h => by unfold col; split_ifs <;> omega)).trans (ev7 (aX m c) (aM m c) (aG m c) (aW m c) (row t r) l l.isLt).symm
  · exact fun r l => (tp m c t r l 4096 (by decide) _ 4176 fun c h => by unfold col; split_ifs <;> omega).trans (ev8 (aX m c) (aM m c) (aG m c) (aW m c) (row t r) l l.isLt).symm
  · exact fun r l => ((ikik_at _ r l).trans ((congrFun (pay33_eq (hb m c t) _ _ _) _).trans (ik_at m c t r _ (by dsimp only; omega)))).trans (ev9 (aX m c) (aM m c) (aG m c) (aW m c) (row t r) l l.isLt).symm

end Cert.Kernel2Ideal.Ab

end
-- ==== Proof.Ab.Arr.lean ====
module

public import proofs.«01_k».proof.Proof.Ab.Point

@[expose] public section

set_option maxRecDepth 16384

noncomputable section

/-! The arrays the projection call leaves. -/

namespace Cert.Kernel2Ideal.Ab

open Cert.Kernel2Ideal Cert.Kernel2Ideal.Gen Idealize.ShloMosaic Idealize.ShloMosaic.TcCoe Idealize.SL.Sem
open Idealize.ShloMosaic.Pipeline (Dat)

/-- An array of rows, from its entries. -/
def arr (C : ℕ) (f : Fin 16384 → ℕ → EReal) : (⟨2, ![16384, C]⟩ : Shape).Idx → EReal := fun i => f (i 0) ((i 1 : Fin C) : ℕ)

theorem arr_of {C : ℕ} (f : Fin 16384 → ℕ → EReal) (i : (⟨2, ![16384, C]⟩ : Shape).Idx) (n : Fin 16384) (j : ℕ) (h0 : (i 0 : ℕ) = n) (h1 : (i 1 : ℕ) = j) :
    arr C f i = f n j := by
  obtain rfl : i 0 = n := Fin.ext h0
  subst h1
  rfl

variable (m : (ℓ : Loc nD τ sig) → Buf (Elt Ideal) ℓ) (c : Dev nD)

theorem final7 : (dats m 0 c).arrAt 7 cfg0.N = (arr 4736 (every (aX m c) (aM m c) (aG m c) (aW m c)) : FVec Ideal S16384x4736 .bf16) := by
  refine (dats m 0 c).arrAt_eq_of_covers 7 _ (by decide +kernel) fun t _ (y : S256x4736.Idx) => ?_
  blk_simp
  rw [after0_7]
  refine Eq.trans (point7 m c t y) (arr_of (C := 4736) (every (aX m c) (aM m c) (aG m c) (aW m c)) _ (row t (y 0)) (y 1 : Fin 4736) ?_ ?_).symm
  · have := (y 0).isLt
    blk_simp [idxo t]
    simp only [row]
    try omega
  · blk_simp [idxo t]
    try omega

theorem final8 : (dats m 0 c).arrAt 8 cfg0.N = (arr 512 (fun n l => pr (aX m c) (aM m c) (aG m c) (aW m c) n (512 + l)) : FVec Ideal S16384x512 .f32) := by
  refine (dats m 0 c).arrAt_eq_of_covers 8 _ (by decide +kernel) fun t _ (y : S256x512.Idx) => ?_
  blk_simp
  rw [after0_8]
  refine Eq.trans ((congrArg _ (eq_ix2 y)).trans (point8 m c t (y 0) (y 1))) (arr_of (C := 512) (fun n l => pr (aX m c) (aM m c) (aG m c) (aW m c) n (512 + l)) _ (row t (y 0)) (y 1 : Fin 512) ?_ ?_).symm
  · have := (y 0).isLt
    blk_simp [idxo t]
    simp only [row]
    try omega
  · blk_simp [idxo t]
    try omega

theorem final9 : (dats m 0 c).arrAt 9 cfg0.N = (arr 512 (fun n l => pr (aX m c) (aM m c) (aG m c) (aW m c) n (1024 + l)) : FVec Ideal S16384x512 .f32) := by
  refine (dats m 0 c).arrAt_eq_of_covers 9 _ (by decide +kernel) fun t _ (y : S256x512.Idx) => ?_
  blk_simp
  rw [after0_9]
  refine Eq.trans ((congrArg _ (eq_ix2 y)).trans (point9 m c t (y 0) (y 1))) (arr_of (C := 512) (fun n l => pr (aX m c) (aM m c) (aG m c) (aW m c) n (1024 + l)) _ (row t (y 0)) (y 1 : Fin 512) ?_ ?_).symm
  · have := (y 0).isLt
    blk_simp [idxo t]
    simp only [row]
    try omega
  · blk_simp [idxo t]
    try omega

theorem final10 : (dats m 0 c).arrAt 10 cfg0.N = (arr 512 (fun n l => rp (aX m c) (aM m c) (aG m c) (aW m c) n 2568 l) : FVec Ideal S16384x512 .f32) := by
  refine (dats m 0 c).arrAt_eq_of_covers 10 _ (by decide +kernel) fun t _ (y : S256x512.Idx) => ?_
  blk_simp
  rw [after0_10]
  refine Eq.trans ((congrArg _ (eq_ix2 y)).trans (point10 m c t (y 0) (y 1))) (arr_of (C := 512) (fun n l => rp (aX m c) (aM m c) (aG m c) (aW m c) n 2568 l) _ (row t (y 0)) (y 1 : Fin 512) ?_ ?_).symm
  · have := (y 0).isLt
    blk_simp [idxo t]
    simp only [row]
    try omega
  · blk_simp [idxo t]
    try omega

theorem final11 : (dats m 0 c).arrAt 11 cfg0.N = (arr 512 (fun n l => pr (aX m c) (aM m c) (aG m c) (aW m c) n (3080 + l)) : FVec Ideal S16384x512 .f32) := by
  refine (dats m 0 c).arrAt_eq_of_covers 11 _ (by decide +kernel) fun t _ (y : S256x512.Idx) => ?_
  blk_simp
  rw [after0_11]
  refine Eq.trans ((congrArg _ (eq_ix2 y)).trans (point11 m c t (y 0) (y 1))) (arr_of (C := 512) (fun n l => pr (aX m c) (aM m c) (aG m c) (aW m c) n (3080 + l)) _ (row t (y 0)) (y 1 : Fin 512) ?_ ?_).symm
  · have := (y 0).isLt
    blk_simp [idxo t]
    simp only [row]
    try omega
  · blk_simp [idxo t]
    try omega

theorem final12 : (dats m 0 c).arrAt 12 cfg0.N = (arr 128 (small (aX m c) (aM m c) (aG m c) (aW m c) (aF m c)) : FVec Ideal S16384x128 .f32) := by
  refine (dats m 0 c).arrAt_eq_of_covers 12 _ (by decide +kernel) fun t _ (y : S256x128.Idx) => ?_
  blk_simp
  rw [after0_12]
  refine Eq.trans ((congrArg _ (eq_ix2 y)).trans (point12 m c t (y 0) (y 1))) (arr_of (C := 128) (small (aX m c) (aM m c) (aG m c) (aW m c) (aF m c)) _ (row t (y 0)) (y 1 : Fin 128) ?_ ?_).symm
  · have := (y 0).isLt
    blk_simp [idxo t]
    simp only [row]
    try omega
  · blk_simp [idxo t]
    try omega

end Cert.Kernel2Ideal.Ab

end
-- ==== Proof.Ab.Ref.lean ====
module

public import proofs.«01_k».proof.Proof.Ab.Arr
public import proofs.«01_k».proof.Proof.Gen.Reference2Ideal.Read
public import Idealize.ShloMosaic.Lib.Pointwise

@[expose] public section

set_option maxRecDepth 16384

noncomputable section

/-! The reference of the projection call, read at an index. -/

namespace Cert.Reference2Ideal.Ab

open Cert.Reference2Ideal Cert.Reference2Ideal.Gen Cert.Reference2Ideal.Read Idealize.ShloMosaic Idealize.ShloMosaic.TcCoe Idealize.SL.Sem
open Cert.Kernel2Ideal.Ab

variable (X : FVec Ideal S8x2048x1024 .f32) (M : FVec Ideal S8x3072 .f32) (G : FVec Ideal S1024 .f32) (W : FVec Ideal S1024x4688 .f32) (B : FVec Ideal S8 .f32)

theorem ofBits1 : Ideal.ofBits .f32 0x3F800000#32 = 1 := by
  simp [Ideal.ofBits, Ideal.ieee]
  rw [← EReal.coe_mul]
  norm_num

theorem h_at (n : Fin 16384) (k : Fin 1024) : val_main_v24 (F := Ideal) X M G (ix3 (bat n) (pos n) k) = hd X M G n k := by
  pointwise [val_main_v1, val_main_v2, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2]
  unfold hd nrm
  rw [ofBits1]

theorem z_at (n : Fin 16384) (j : Fin 4688) : val_main_v25 (F := Ideal) X M G W (ix3 (bat n) (pos n) j) = pr X M G W n j := by
  pointwise [val_main_v25]
  rw [pr]
  refine Finset.sum_congr rfl fun k _ => ?_
  rw [h_at, wel, dif_pos j.isLt]

theorem z_of (n : Fin 16384) (j j' : ℕ) (hj : j < 4688) (e : j = j') : val_main_v25 (F := Ideal) X M G W (ix3 (bat n) (pos n) ⟨j, hj⟩) = pr X M G W n j' :=
  (z_at X M G W n ⟨j, hj⟩).trans (congrArg (pr X M G W n) e)

theorem rope_lo (n : Fin 16384) (o l : ℕ) (a a' g : EReal) (h : l % 64 < 32) (ha : a = pr X M G W n (o + l)) (ha' : a' = pr X M G W n (o + (l + 32)))
    (hg : g = ang (pos n) ⟨l % 32, Nat.mod_lt _ (by decide)⟩) : a * Ideal.cos g - a' * Ideal.sin g = rp X M G W n o l := by
  subst ha ha' hg
  rw [rp, if_pos h, if_pos h, mul_neg, sub_eq_add_neg]

theorem rope_hi (n : Fin 16384) (o l : ℕ) (a a' g : EReal) (h : ¬ l % 64 < 32) (ha : a = pr X M G W n (o + l)) (ha' : a' = pr X M G W n (o + (l - 32)))
    (hg : g = ang (pos n) ⟨l % 32, Nat.mod_lt _ (by decide)⟩) : a * Ideal.cos g + a' * Ideal.sin g = rp X M G W n o l := by
  subst ha ha' hg
  rw [rp, if_neg h, if_neg h]

theorem lsg_eq (z : EReal) : (-if -z ≠ -z then -z else max (-z) 0 + Ideal.log1p (Ideal.exp (-FloatOps.absf (F := Ideal) (φ := .f32) (-z)))) = lsg z := by
  rw [if_neg fun h => h rfl]
  simp only [lsg, zero_sub]

theorem ofBits64 : Ideal.ofBits .f32 0x42800000#32 = ((64 : ℝ) : EReal) := by
  simp [Ideal.ofBits, Ideal.ieee]
  rw [← EReal.coe_mul]
  norm_num

theorem ofBits8 : Ideal.ofBits .f32 0x41000000#32 = ((8 : ℝ) : EReal) := by
  simp [Ideal.ofBits, Ideal.ieee]
  rw [← EReal.coe_mul]
  norm_num

theorem ofBits2 : Ideal.ofBits .f32 0x40000000#32 = ((2 : ℝ) : EReal) := by
  simp [Ideal.ofBits, Ideal.ieee]
  try rw [← EReal.coe_mul]
  try norm_num

theorem sqrt64 : √(64 : ℝ) = 8 := by
  rw [show (64 : ℝ) = 8 * 8 by norm_num]
  exact Real.sqrt_mul_self (by norm_num)

theorem unit_div (z : EReal) : Ideal.div z (Ideal.sqrt (Ideal.ofBits .f32 0x42800000#32) * Ideal.log (Ideal.ofBits .f32 0x40000000#32)) = z * qk := by
  have hl : Real.log 2 ≠ 0 := (Real.log_pos (by norm_num)).ne'
  rw [ofBits64, ofBits2, Ideal.sqrt_coe, if_neg (by norm_num : ¬ (64 : ℝ) < 0), Ideal.log_coe, sqrt64]
  simp only [if_neg (by norm_num : ¬ (2 : ℝ) < 0), if_neg (by norm_num : ¬ (2 : ℝ) = 0), if_neg (by norm_num : ¬ (2 : ℝ) ≤ 0)]
  rw [← EReal.coe_mul, Ideal.div_coe (mul_ne_zero (by norm_num) hl), one_div, qk]

theorem iw_div (z : EReal) : Ideal.div z (Ideal.sqrt (Ideal.ofBits .f32 0x41000000#32) * Ideal.sqrt (Ideal.ofBits .f32 0x42800000#32)) = z * iw := by
  have hl : √(8 : ℝ) ≠ 0 := (Real.sqrt_pos.2 (by norm_num)).ne'
  rw [ofBits64, ofBits8, Ideal.sqrt_coe, Ideal.sqrt_coe, if_neg (by norm_num : ¬ (64 : ℝ) < 0), if_neg (by norm_num : ¬ (8 : ℝ) < 0), sqrt64]
  rw [← EReal.coe_mul, mul_comm (√(8 : ℝ)) 8, Ideal.div_coe (mul_ne_zero (by norm_num) hl), one_div, iw]

theorem qb_tr (p : Fin 2048) (l : Fin 32) : val_main_v52 (F := Ideal) (ix2 p l) * val_main_v53 (F := Ideal) (ix2 p l) = ang p l := by
  pointwise [val_main_v43, val_main_v44, val_main_v45, val_main_v46, val_main_v47, val_main_v48, val_main_v49, val_main_v50, val_main_v51, val_main_v52, val_main_v53, val_main_v0, val_main_cst_3, val_main_cst_4, ang]

theorem qb_at (n : Fin 16384) (l : Fin 512) : val_main_v72 (F := Ideal) X M G W (ix3 (bat n) (pos n) l) = rp X M G W n 2056 l := by
  pointwise [val_main_v42, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v31]
  have hl := l.isLt
  refine dstep (fun h => ?_) fun h => ?_
  · exact rope_lo X M G W n 2056 l _ _ _ (by omega) (z_of X M G W n _ _ _ (by omega)) (z_of X M G W n _ _ _ (by omega)) ((qb_tr _ _).trans (congrArg (ang (pos n)) (Fin.ext (by dsimp only; omega))))
  · exact rope_hi X M G W n 2056 l _ _ _ (by omega) (z_of X M G W n _ _ _ (by omega)) (z_of X M G W n _ _ _ (by omega)) ((qb_tr _ _).trans (congrArg (ang (pos n)) (Fin.ext (by dsimp only; omega))))

theorem kb_tr (p : Fin 2048) (l : Fin 32) : val_main_v83 (F := Ideal) (ix2 p l) * val_main_v84 (F := Ideal) (ix2 p l) = ang p l := by
  pointwise [val_main_v74, val_main_v75, val_main_v76, val_main_v77, val_main_v78, val_main_v79, val_main_v80, val_main_v81, val_main_v82, val_main_v83, val_main_v84, val_main_v0, val_main_cst_5, val_main_cst_6, ang]

theorem kb_at (n : Fin 16384) (l : Fin 512) : val_main_v103 (F := Ideal) X M G W (ix3 (bat n) (pos n) l) = rp X M G W n 2568 l := by
  pointwise [val_main_v73, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v32]
  have hl := l.isLt
  refine dstep (fun h => ?_) fun h => ?_
  · exact rope_lo X M G W n 2568 l _ _ _ (by omega) (z_of X M G W n _ _ _ (by omega)) (z_of X M G W n _ _ _ (by omega)) ((kb_tr _ _).trans (congrArg (ang (pos n)) (Fin.ext (by dsimp only; omega))))
  · exact rope_hi X M G W n 2568 l _ _ _ (by omega) (z_of X M G W n _ _ _ (by omega)) (z_of X M G W n _ _ _ (by omega)) ((kb_tr _ _).trans (congrArg (ang (pos n)) (Fin.ext (by dsimp only; omega))))

theorem iq_tr (p : Fin 2048) (l : Fin 32) : val_main_v114 (F := Ideal) (ix2 p l) * val_main_v115 (F := Ideal) (ix2 p l) = ang p l := by
  pointwise [val_main_v105, val_main_v106, val_main_v107, val_main_v108, val_main_v109, val_main_v110, val_main_v111, val_main_v112, val_main_v113, val_main_v114, val_main_v115, val_main_v0, val_main_cst_7, val_main_cst_8, ang]

theorem iq_at (n : Fin 16384) (l : Fin 512) : val_main_v134 (F := Ideal) X M G W (ix3 (bat n) (pos n) l) = rp X M G W n 3592 l := by
  pointwise [val_main_v104, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v34]
  have hl := l.isLt
  refine dstep (fun h => ?_) fun h => ?_
  · exact rope_lo X M G W n 3592 l _ _ _ (by omega) (z_of X M G W n _ _ _ (by omega)) (z_of X M G W n _ _ _ (by omega)) ((iq_tr _ _).trans (congrArg (ang (pos n)) (Fin.ext (by dsimp only; omega))))
  · exact rope_hi X M G W n 3592 l _ _ _ (by omega) (z_of X M G W n _ _ _ (by omega)) (z_of X M G W n _ _ _ (by omega)) ((iq_tr _ _).trans (congrArg (ang (pos n)) (Fin.ext (by dsimp only; omega))))

theorem ik_tr (p : Fin 2048) (l : Fin 32) : val_main_v145 (F := Ideal) (ix2 p l) * val_main_v146 (F := Ideal) (ix2 p l) = ang p l := by
  pointwise [val_main_v136, val_main_v137, val_main_v138, val_main_v139, val_main_v140, val_main_v141, val_main_v142, val_main_v143, val_main_v144, val_main_v145, val_main_v146, val_main_v0, val_main_cst_9, val_main_cst_10, ang]

theorem ik_at (n : Fin 16384) (l : Fin 64) : val_main_v165 (F := Ideal) X M G W (ix3 (bat n) (pos n) l) = rp X M G W n 4104 l := by
  pointwise [val_main_v135, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v35]
  have hl := l.isLt
  refine dstep (fun h => ?_) fun h => ?_
  · exact rope_lo X M G W n 4104 l _ _ _ (by omega) (z_of X M G W n _ _ _ (by omega)) (z_of X M G W n _ _ _ (by omega)) ((ik_tr _ _).trans (congrArg (ang (pos n)) (Fin.ext (by dsimp only; omega))))
  · exact rope_hi X M G W n 4104 l _ _ _ (by omega) (z_of X M G W n _ _ _ (by omega)) (z_of X M G W n _ _ _ (by omega)) ((ik_tr _ _).trans (congrArg (ang (pos n)) (Fin.ext (by dsimp only; omega))))

theorem lf_at (n : Fin 16384) (l : Fin 8) : val_main_v41 (F := Ideal) X M G W B (ix3 (bat n) (pos n) l) = lsg (pr X M G W n (1536 + l) + B (ix1 l)) := by
  pointwise [val_main_v29, val_main_v38, val_main_v39, val_main_v40, val_main_v41, val_main_call0_v0, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [z_at]
  exact lsg_eq _

theorem iw_at (n : Fin 16384) (l : Fin 8) : val_main_v170 (F := Ideal) X M G W (ix3 (bat n) (pos n) l) = pr X M G W n (4168 + l) * iw := by
  pointwise [val_main_v170, val_main_v36, val_main_v169, val_main_v168, val_main_v167, val_main_v166, val_main_cst_11, val_main_cst_12]
  rw [z_at]
  exact iw_div _

theorem qa_at (n : Fin 16384) (l : Fin 512) : val_main_v175 (F := Ideal) X M G W (ix3 (bat n) (pos n) l) = pr X M G W n (0 + l) * qk := by
  pointwise [val_main_v175, val_main_v26, val_main_v174, val_main_v173, val_main_v172, val_main_v171, val_main_cst_13, val_main_cst_14]
  rw [z_at]
  exact unit_div _

theorem qb'_at (n : Fin 16384) (l : Fin 512) : val_main_v177 (F := Ideal) X M G W (ix3 (bat n) (pos n) l) = rp X M G W n 2056 l * qk := by
  pointwise [val_main_v177, val_main_v176, val_main_v173, val_main_v172, val_main_v171, val_main_cst_13, val_main_cst_14]
  rw [qb_at]
  exact unit_div _

theorem ka_at (n : Fin 16384) (l : Fin 512) : val_main_v27 (F := Ideal) X M G W (ix3 (bat n) (pos n) l) = pr X M G W n (512 + l) := by
  pointwise [val_main_v27]
  exact z_at X M G W n _

theorem va_at (n : Fin 16384) (l : Fin 512) : val_main_v28 (F := Ideal) X M G W (ix3 (bat n) (pos n) l) = pr X M G W n (1024 + l) := by
  pointwise [val_main_v28]
  exact z_at X M G W n _

theorem ga_at (n : Fin 16384) (l : Fin 512) : val_main_v30 (F := Ideal) X M G W (ix3 (bat n) (pos n) l) = pr X M G W n (1544 + l) := by
  pointwise [val_main_v30]
  exact z_at X M G W n _

theorem vb_at (n : Fin 16384) (l : Fin 512) : val_main_v33 (F := Ideal) X M G W (ix3 (bat n) (pos n) l) = pr X M G W n (3080 + l) := by
  pointwise [val_main_v33]
  exact z_at X M G W n _

theorem gb_at (n : Fin 16384) (l : Fin 512) : val_main_v37 (F := Ideal) X M G W (ix3 (bat n) (pos n) l) = pr X M G W n (4176 + l) := by
  pointwise [val_main_v37]
  exact z_at X M G W n _

theorem every_at (n : Fin 16384) (j : Fin 4736) : val_main_v182 (F := Ideal) X M G W (ix2 n j) = every X M G W n j := by
  have hj := j.isLt
  pointwise [val_main_v182, val_main_v179, val_main_v178]
  refine dstep (fun h => ?_) fun h => ?_
  · exact (qa_at X M G W n _).trans ((ev0 X M G W n _ (Fin.isLt _)).symm.trans (congrArg (every X M G W n) (by dsimp only; omega)))
  refine dstep (fun h => ?_) fun h => ?_
  · exact (ka_at X M G W n _).trans ((ev1 X M G W n _ (Fin.isLt _)).symm.trans (congrArg (every X M G W n) (by dsimp only; omega)))
  refine dstep (fun h => ?_) fun h => ?_
  · exact (va_at X M G W n _).trans ((ev2 X M G W n _ (Fin.isLt _)).symm.trans (congrArg (every X M G W n) (by dsimp only; omega)))
  refine dstep (fun h => ?_) fun h => ?_
  · exact (ga_at X M G W n _).trans ((ev3 X M G W n _ (Fin.isLt _)).symm.trans (congrArg (every X M G W n) (by dsimp only; omega)))
  refine dstep (fun h => ?_) fun h => ?_
  · exact (qb'_at X M G W n _).trans ((ev4 X M G W n _ (Fin.isLt _)).symm.trans (congrArg (every X M G W n) (by dsimp only; omega)))
  refine dstep (fun h => ?_) fun h => ?_
  · exact (kb_at X M G W n _).trans ((ev5 X M G W n _ (Fin.isLt _)).symm.trans (congrArg (every X M G W n) (by dsimp only; omega)))
  refine dstep (fun h => ?_) fun h => ?_
  · exact (vb_at X M G W n _).trans ((ev6 X M G W n _ (Fin.isLt _)).symm.trans (congrArg (every X M G W n) (by dsimp only; omega)))
  refine dstep (fun h => ?_) fun h => ?_
  · exact (iq_at X M G W n _).trans ((ev7 X M G W n _ (Fin.isLt _)).symm.trans (congrArg (every X M G W n) (by dsimp only; omega)))
  refine dstep (fun h => ?_) fun h => ?_
  · exact (gb_at X M G W n _).trans ((ev8 X M G W n _ (Fin.isLt _)).symm.trans (congrArg (every X M G W n) (by dsimp only; omega)))
  refine dstep (fun h => ?_) fun h => ?_
  · refine (ik_at X M G W n _).trans (Eq.trans ?_ ((ev9 X M G W n (j - 4608) (by omega)).symm.trans (congrArg (every X M G W n) (by omega))))
    exact congrArg (rp X M G W n 4104) (by dsimp only; omega)
  · refine (ik_at X M G W n _).trans (Eq.trans ?_ ((ev9 X M G W n (j - 4608) (by omega)).symm.trans (congrArg (every X M G W n) (by omega))))
    exact congrArg (rp X M G W n 4104) (by dsimp only; omega)

theorem small_at' (n : Fin 16384) (j : Fin 128) : val_main_v187 (F := Ideal) X M G W B (ix2 n j) = small X M G W B n j := by
  have hj := j.isLt
  pointwise [val_main_v187, val_main_v181, val_main_v180, val_main_cst_15]
  unfold small
  by_cases h1 : (j : ℕ) < 64
  · rw [dif_pos h1, if_pos h1]
    exact ik_at X M G W n _
  rw [dif_neg h1, if_neg h1]
  by_cases h2 : (j : ℕ) < 72
  · rw [dif_pos (by omega), dif_pos h2]
    exact lf_at X M G W B n _
  rw [dif_neg (by omega), dif_neg h2]
  by_cases h3 : (j : ℕ) < 80
  · rw [dif_pos (by omega), if_pos h3]
    refine (iw_at X M G W n _).trans (congrArg (fun z => pr X M G W n z * iw) ?_)
    dsimp only
    omega
  · rw [dif_neg (by omega), if_neg h3]

theorem ka'_at (n : Fin 16384) (l : Fin 512) : val_main_v183 (F := Ideal) X M G W (ix2 n l) = pr X M G W n (512 + l) := by
  pointwise [val_main_v183]
  exact ka_at X M G W n l

theorem va'_at (n : Fin 16384) (l : Fin 512) : val_main_v184 (F := Ideal) X M G W (ix2 n l) = pr X M G W n (1024 + l) := by
  pointwise [val_main_v184]
  exact va_at X M G W n l

theorem kb'_at (n : Fin 16384) (l : Fin 512) : val_main_v185 (F := Ideal) X M G W (ix2 n l) = rp X M G W n 2568 l := by
  pointwise [val_main_v185]
  exact kb_at X M G W n l

theorem vb'_at (n : Fin 16384) (l : Fin 512) : val_main_v186 (F := Ideal) X M G W (ix2 n l) = pr X M G W n (3080 + l) := by
  pointwise [val_main_v186]
  exact vb_at X M G W n l

end Cert.Reference2Ideal.Ab

end
-- ==== Proof.Oc.Pay.lean ====
module

public import proofs.«01_k».proof.Proof.Gen.Kernel3Ideal.Frame
public import Idealize.ShloMosaic.Lib.Pointwise

@[expose] public section

set_option maxRecDepth 16384

noncomputable section

/-! The output call's expressions, element by element. -/

namespace Cert.Kernel3Ideal.Oc

open Cert.Kernel3Ideal Cert.Kernel3Ideal.Gen Idealize.ShloMosaic Idealize.ShloMosaic.TcCoe Idealize.SL.Sem

/-- A gate: its argument times its logistic value. -/
def sl (x : EReal) : EReal := x * Ideal.div (Ideal.ofBits .f32 0x3F800000#32) (Ideal.ofBits .f32 0x3F800000#32 + Ideal.exp (-x))

/-- A row normalised by its root mean square. -/
def rms (x g : Fin 1024 → EReal) (k : Fin 1024) : EReal :=
  x k * Ideal.rsqrt (Ideal.div (∑ l, x l * x l) (Ideal.ofBits .f32 0x44800000#32) + Ideal.ofBits .f32 0x358637BD#32) * g k

theorem dstep {α : Type} {p : Prop} [Decidable p] {a : p → α} {b : ¬p → α} {z : α} (h1 : ∀ h, a h = z) (h2 : ∀ h, b h = z) : dite p a b = z := by
  by_cases h : p
  · rw [dif_pos h]; exact h1 h
  · rw [dif_neg h]; exact h2 h

theorem pay1_at (v56 v58 : FVec Ideal S256x1024 .f32) (v59 : Vec Ideal S1x1x1024 .f32) (v64 : Vec Ideal S1x1024 .f32) (r : Fin 256) (k : Fin 1024) :
    k0_pay1 (F := Ideal) v56 v58 v59 v64 (ix2 r k)
      = rms (fun k => v58 (ix2 r k) + v59 (ix3 0 0 k) * v56 (ix2 r k)) (fun k => v64 (ix2 0 k)) k := by
  pointwise [k0_pay1, rms]

theorem pay2_at (A : Vec Ideal S256x256 .bf16) (B : Vec Ideal S1x256x128 .bf16) (r : Fin 256) (l : Fin 128) :
    k0_pay2 (F := Ideal) A B (ix2 r l) = ∑ k : Fin 256, A (ix2 r k) * B (ix3 0 k l) := by
  pointwise [k0_pay2]

/-- Eight tiles side by side. -/
def cat (p0 p1 p2 p3 p4 p5 p6 p7 : FVec Ideal S256x128 .f32) : FVec Ideal S256x1024 .f32 :=
  concatenate S256x1024 1 [⟨S256x128, p0⟩, ⟨S256x128, p1⟩, ⟨S256x128, p2⟩, ⟨S256x128, p3⟩, ⟨S256x128, p4⟩, ⟨S256x128, p5⟩, ⟨S256x128, p6⟩, ⟨S256x128, p7⟩]
    concatenates_S256x128_S256x128_S256x128_S256x128_S256x128_S256x128_S256x128_S256x128_S256x1024_d1

theorem cat_at (p0 p1 p2 p3 p4 p5 p6 p7 : FVec Ideal S256x128 .f32) (r : Fin 256) (f : ℕ → EReal) (h0 : ∀ l : Fin 128, p0 (ix2 r l) = f l) (h1 : ∀ l : Fin 128, p1 (ix2 r l) = f (128 + l))
    (h2 : ∀ l : Fin 128, p2 (ix2 r l) = f (256 + l)) (h3 : ∀ l : Fin 128, p3 (ix2 r l) = f (384 + l)) (h4 : ∀ l : Fin 128, p4 (ix2 r l) = f (512 + l))
    (h5 : ∀ l : Fin 128, p5 (ix2 r l) = f (640 + l)) (h6 : ∀ l : Fin 128, p6 (ix2 r l) = f (768 + l)) (h7 : ∀ l : Fin 128, p7 (ix2 r l) = f (896 + l)) (c : Fin 1024) :
    cat p0 p1 p2 p3 p4 p5 p6 p7 (ix2 r c) = f c := by
  have hc := c.isLt
  pointwise [cat]
  refine dstep (fun h => (h0 _).trans (congrArg f (by dsimp only))) fun h => ?_
  refine dstep (fun h => (h1 _).trans (congrArg f (by dsimp only; omega))) fun h => ?_
  refine dstep (fun h => (h2 _).trans (congrArg f (by dsimp only; omega))) fun h => ?_
  refine dstep (fun h => (h3 _).trans (congrArg f (by dsimp only; omega))) fun h => ?_
  refine dstep (fun h => (h4 _).trans (congrArg f (by dsimp only; omega))) fun h => ?_
  refine dstep (fun h => (h5 _).trans (congrArg f (by dsimp only; omega))) fun h => ?_
  refine dstep (fun h => (h6 _).trans (congrArg f (by dsimp only; omega))) fun h => ?_
  exact (h7 _).trans (congrArg f (by dsimp only; omega))

/-- The gated mixture times the output weights. -/
def mx (O : FVec Ideal S256x1024 .f32) (G : Vec Ideal S256x1024 .bf16) (W : Vec Ideal S1024x1024 .bf16) : FVec Ideal S256x1024 .f32 :=
  have v42 : FVec Ideal S256x1024 .bf16 := shapeCast S256x1024 G shapeCasts_S256x1024_S256x1024
  have v43 : FVec Ideal S256x1024 .f32 := extf .f32 v42 bitsLt_bf16_f32
  have v50 : FVec Ideal S256x1024 .f32 := divf (broadcast S256x1024 (Scalar.ofBits .f32 0x3F800000#32)) (addf (broadcast S256x1024 (Scalar.ofBits .f32 0x3F800000#32)) (exp (subf (broadcast S256x1024 (Scalar.ofBits .f32 0x00000000#32)) v43)))
  matmul (φ₂ := .bf16) dot_S256x1024_S1024x1024_S256x1024_1_0_0_1_n_n none (truncf .bf16 (mulf O (mulf v43 v50)) bitsLt_bf16_f32) (shapeCast S1024x1024 W shapeCasts_S1024x1024_S1024x1024) (constant S256x1024 .f32 0x00000000#32)

theorem mx_at (O : FVec Ideal S256x1024 .f32) (G : Vec Ideal S256x1024 .bf16) (W : Vec Ideal S1024x1024 .bf16) (r : Fin 256) (d : Fin 1024) :
    mx O G W (ix2 r d) = ∑ c : Fin 1024, O (ix2 r c) * sl (G (ix2 r c)) * W (ix2 c d) := by
  pointwise [mx, sl]
  simp only [zero_sub]

theorem pay8_eq (v4 v9 v14 v19 v24 : FVec Ideal S256x128 .f32) (v25 : Vec Ideal S256x256 .bf16) (v27 : Vec Ideal S1x256x128 .bf16) (v30 : Vec Ideal S256x256 .bf16) (v32 : Vec Ideal S1x256x128 .bf16)
    (v35 : Vec Ideal S256x256 .bf16) (v37 : Vec Ideal S1x256x128 .bf16) (v41 : Vec Ideal S256x1024 .bf16) (v54 : Vec Ideal S1024x1024 .bf16) :
    k0_pay8 (F := Ideal) v4 v9 v14 v19 v24 (k0_pay7 v25) v27 v30 v32 v35 v37 v41 v54 = mx (cat v4 v9 v14 v19 v24 (k0_pay2 v25 v27) (k0_pay2 v30 v32) (k0_pay2 v35 v37)) v41 v54 := rfl

end Cert.Kernel3Ideal.Oc

end
-- ==== Proof.Oc.Blk.lean ====
module

public import proofs.«01_k».proof.Proof.Oc.Pay
public import Idealize.ShloMosaic.Lib.Pipeline.ValueKit
public import Idealize.ShloMosaic.Lib.Claim

@[expose] public section

set_option maxRecDepth 16384

noncomputable section

/-! The blocks a grid point of the output call is handed, read off the arguments. -/

namespace Cert.Kernel3Ideal.Oc

open Cert.Kernel3Ideal Cert.Kernel3Ideal.Gen Idealize.ShloMosaic Idealize.ShloMosaic.TcCoe Idealize.SL.Sem
open Idealize.ShloMosaic.Pipeline (Dat)

theorem idxi : ∀ t : Fin cfg0.N, win0_0.index t = ![t.val, 0] ∧ win0_1.index t = ![t.val, 0] ∧ win0_2.index t = ![t.val, 0] ∧ win0_3.index t = ![0, 0, 0]
    ∧ win0_4.index t = ![0, 0] ∧ win0_5.index t = ![t.val / 8, 0, 0] ∧ win0_6.index t = ![0, 0] := (by decide +kernel : ∀ t : Fin grid0.N, _)

theorem idxo : ∀ t : Fin cfg0.N, win0_7.index t = ![t.val, 0] := (by decide +kernel : ∀ t : Fin grid0.N, _)

theorem lt64' (t : Fin cfg0.N) : t.val < 64 := lt_of_lt_of_eq t.isLt N_0

/-- The row of the arrays that a row of a grid point's block is. -/
def row (t : Fin cfg0.N) (r : Fin 256) : Fin 16384 := ⟨t.val * 256 + r, by have := lt64' t; omega⟩

/-- The batch of a row. -/
def bat (n : Fin 16384) : Fin 8 := ⟨(n : ℕ) / 2048, by omega⟩

/-- The position of a row. -/
def pos (n : Fin 16384) : Fin 2048 := ⟨(n : ℕ) % 2048, by omega⟩

theorem x_at (X : FVec Ideal S8x2048x1024 .f32) (n : Fin 16384) (k : Fin 1024) :
    shapeCast S16384x1024 X shapeCasts_S8x2048x1024_S16384x1024 (ix2 n k) = X (ix3 (bat n) (pos n) k) := by
  pointwise [bat, pos]

theorem o_at (X : FVec Ideal S8x2048x2048 .f32) (n : Fin 16384) (k : Fin 2048) :
    shapeCast S16384x2048 X shapeCasts_S8x2048x2048_S16384x2048 (ix2 n k) = X (ix3 (bat n) (pos n) k) := by
  pointwise [bat, pos]

theorem m_at (X : FVec Ideal S8x3072 .f32) (b : Fin 8) (j : Fin 3) (k : Fin 1024) :
    shapeCast S8x3x1024 X shapeCasts_S8x3072_S8x3x1024 (ix3 b j k) = X (ix2 b ⟨(j : ℕ) * 1024 + k, by omega⟩) := by
  pointwise

theorem g_at (X : FVec Ideal S1024 .f32) (k : Fin 1024) : shapeCast S1x1024 X shapeCasts_S1024_S1x1024 (ix2 0 k) = X (ix1 k) := by
  pointwise

/-- The heads' weights, a pair of heads to a block, one head on each half of the diagonal. -/
def bd (U : FVec Ideal S128x16x64 .f32) : FVec Ideal S8x256x128 .f32 :=
  have v1 : FVec Ideal S8x2x128x64 .f32 := shapeCast S8x2x128x64 (transpose S16x128x64 [1, 0, 2] U transposes_S128x16x64_S16x128x64_1_0_2) shapeCasts_S16x128x64_S8x2x128x64
  have z : FVec Ideal S8x128x64 .f32 := broadcastInDim S8x128x64 ![] bcast_S_S8x128x64 (constant S_ .f32 0x00000000#32)
  have a : FVec Ideal S8x128x64 .f32 := shapeCast S8x128x64 (extractStridedSlice S8x1x128x64 ![0, 0, 0, 0] v1 slices_S8x2x128x64_S8x1x128x64_0_0_0_0) shapeCasts_S8x1x128x64_S8x128x64
  have b : FVec Ideal S8x128x64 .f32 := shapeCast S8x128x64 (extractStridedSlice S8x1x128x64 ![0, 1, 0, 0] v1 slices_S8x2x128x64_S8x1x128x64_0_1_0_0) shapeCasts_S8x1x128x64_S8x128x64
  have p : FVec Ideal S8x128x128 .f32 := concatenate S8x128x128 2 [⟨S8x128x64, a⟩, ⟨S8x128x64, z⟩] concatenates_S8x128x64_S8x128x64_S8x128x128_d2
  have q : FVec Ideal S8x128x128 .f32 := concatenate S8x128x128 2 [⟨S8x128x64, z⟩, ⟨S8x128x64, b⟩] concatenates_S8x128x64_S8x128x64_S8x128x128_d2
  concatenate S8x256x128 1 [⟨S8x128x128, p⟩, ⟨S8x128x128, q⟩] concatenates_S8x128x128_S8x128x128_S8x256x128_d1

/-- An entry of those blocks. -/
def bde (U : FVec Ideal S128x16x64 .f32) (j : Fin 8) (k : Fin 256) (l : Fin 128) : EReal :=
  if (k : ℕ) / 128 = (l : ℕ) / 64 then U (ix3 ⟨(k : ℕ) % 128, by omega⟩ ⟨2 * (j : ℕ) + (l : ℕ) / 64, by omega⟩ ⟨(l : ℕ) % 64, by omega⟩) else 0

theorem bde_on (U : FVec Ideal S128x16x64 .f32) (j : Fin 8) (k : Fin 256) (l : Fin 128) (h : (k : ℕ) / 128 = (l : ℕ) / 64) :
    U (ix3 ⟨(k : ℕ) % 128, by omega⟩ ⟨2 * (j : ℕ) + (l : ℕ) / 64, by omega⟩ ⟨(l : ℕ) % 64, by omega⟩) = bde U j k l := (if_pos h).symm

theorem u_congr (U : FVec Ideal S128x16x64 .f32) {a a' : Fin 128} {b b' : Fin 16} {d d' : Fin 64} (h1 : (a : ℕ) = a') (h2 : (b : ℕ) = b') (h3 : (d : ℕ) = d') :
    U (ix3 a b d) = U (ix3 a' b' d') := by
  obtain rfl := Fin.ext h1
  obtain rfl := Fin.ext h2
  obtain rfl := Fin.ext h3
  rfl

theorem bd_at (U : FVec Ideal S128x16x64 .f32) (j : Fin 8) (k : Fin 256) (l : Fin 128) : bd U (ix3 j k l) = bde U j k l := by
  have hk := k.isLt
  have hl := l.isLt
  have hj := j.isLt
  pointwise [bd]
  refine dstep (fun h => dstep (fun h' => ?_) fun h' => ?_) fun h => dstep (fun h' => ?_) fun h' => ?_
  · exact (u_congr U (by dsimp only; omega) (by dsimp only; omega) (by dsimp only; omega)).trans (bde_on U j k l (by omega))
  · rw [bde, if_neg (by omega)]
  · rw [bde, if_neg (by omega)]
  · exact (u_congr U (by dsimp only; omega) (by dsimp only; omega) (by dsimp only; omega)).trans (bde_on U j k l (by omega))

/-- A row times a column of the blocks only meets the half on the diagonal. -/
theorem bde_sum (U : FVec Ideal S128x16x64 .f32) (f : ℕ → EReal) (j : Fin 8) (l : Fin 128) :
    (∑ k : Fin 256, f k * bde U j k l)
      = ∑ k : Fin 128, f ((l : ℕ) / 64 * 128 + k) * U (ix3 k ⟨2 * (j : ℕ) + (l : ℕ) / 64, by omega⟩ ⟨(l : ℕ) % 64, by omega⟩) := by
  have hl := l.isLt
  rw [show (∑ k : Fin 256, f k * bde U j k l) = ∑ k : Fin (128 + 128), f k * bde U j k l from rfl, Fin.sum_univ_add]
  by_cases h : (l : ℕ) < 64
  · rw [Finset.sum_eq_zero (s := Finset.univ) (f := fun k : Fin 128 => f (Fin.natAdd 128 k : Fin (128 + 128)) * bde U j (Fin.natAdd 128 k) l), add_zero]
    · refine Finset.sum_congr rfl fun k _ => ?_
      have hk := k.isLt
      rw [bde, if_pos (by simp only [Fin.val_castAdd]; omega)]
      refine congrArg₂ _ (congrArg f (by simp only [Fin.val_castAdd]; omega)) (u_congr U ?_ rfl rfl)
      simp only [Fin.val_castAdd]; omega
    · intro k _
      have hk := k.isLt
      rw [bde, if_neg (by simp only [Fin.val_natAdd]; omega), mul_zero]
  · rw [Finset.sum_eq_zero (s := Finset.univ) (f := fun k : Fin 128 => f (Fin.castAdd 128 k : Fin (128 + 128)) * bde U j (Fin.castAdd 128 k) l), zero_add]
    · refine Finset.sum_congr rfl fun k _ => ?_
      have hk := k.isLt
      rw [bde, if_pos (by simp only [Fin.val_natAdd]; omega)]
      refine congrArg₂ _ (congrArg f (by simp only [Fin.val_natAdd]; omega)) (u_congr U ?_ rfl rfl)
      simp only [Fin.val_natAdd]; omega
    · intro k _
      have hk := k.isLt
      rw [bde, if_neg (by simp only [Fin.val_castAdd]; omega), mul_zero]

variable (m : (ℓ : Loc nD τ sig) → Buf (Elt Ideal) ℓ) (c : Dev nD)

/-- The residual stream. -/
abbrev aX : FVec Ideal S8x2048x1024 .f32 := m ((c : Thread nD τ).loc main_arg0)
/-- The attention's latent output. -/
abbrev aO : FVec Ideal S8x2048x2048 .f32 := m ((c : Thread nD τ).loc main_arg1)
/-- The gate's argument. -/
abbrev aG : FVec Ideal S8x2048x1024 .f32 := m ((c : Thread nD τ).loc main_arg2)
/-- The modulation. -/
abbrev aM : FVec Ideal S8x3072 .f32 := m ((c : Thread nD τ).loc main_arg3)
/-- The heads' weights. -/
abbrev aU : FVec Ideal S128x16x64 .f32 := m ((c : Thread nD τ).loc main_arg4)
/-- The output weights. -/
abbrev aW : FVec Ideal S1024x1024 .f32 := m ((c : Thread nD τ).loc main_arg5)
/-- The norm's gain. -/
abbrev aF : FVec Ideal S1024 .f32 := m ((c : Thread nD τ).loc main_arg6)

theorem blk0_at (t : Fin cfg0.N) (r : Fin 256) (k : Fin 1024) :
    (show Vec Ideal S256x1024 .f32 from iblk m c 0 t) (ix2 r k) = aX m c (ix3 (bat (row t r)) (pos (row t r)) k) := by
  refine Eq.trans ?_ (x_at _ _ _)
  blk_simp [iblk]
  entry_read
  blk_ext [idxi t, row]

theorem blk1_at (t : Fin cfg0.N) (r : Fin 256) (k : Fin 2048) :
    (show Vec Ideal S256x2048 .bf16 from iblk m c 1 t) (ix2 r k) = aO m c (ix3 (bat (row t r)) (pos (row t r)) k) := by
  refine Eq.trans ?_ (o_at _ _ _)
  blk_simp [iblk]
  entry_read
  blk_ext [idxi t, row]

theorem blk2_at (t : Fin cfg0.N) (r : Fin 256) (k : Fin 1024) :
    (show Vec Ideal S256x1024 .bf16 from iblk m c 2 t) (ix2 r k) = aG m c (ix3 (bat (row t r)) (pos (row t r)) k) := by
  refine Eq.trans ?_ (x_at _ _ _)
  blk_simp [iblk]
  entry_read
  blk_ext [idxi t, row]

theorem blk3_at (t : Fin cfg0.N) (j : Fin 8) (k : Fin 256) (l : Fin 128) :
    (show Vec Ideal S8x256x128 .bf16 from iblk m c 3 t) (ix3 j k l) = bde (aU m c) j k l := by
  refine Eq.trans ?_ (bd_at _ _ _ _)
  blk_simp [iblk]
  entry_read
  blk_ext [idxi t]

theorem blk4_at (t : Fin cfg0.N) (k l : Fin 1024) :
    (show Vec Ideal S1024x1024 .bf16 from iblk m c 4 t) (ix2 k l) = aW m c (ix2 k l) := by
  blk_simp [iblk]
  entry_read
  blk_ext [idxi t]

theorem blk5_at (t : Fin cfg0.N) (r : Fin 256) (j : Fin 3) (k : Fin 1024) :
    (show Vec Ideal S1x3x1024 .f32 from iblk m c 5 t) (ix3 0 j k) = aM m c (ix2 (bat (row t r)) ⟨(j : ℕ) * 1024 + k, by omega⟩) := by
  refine Eq.trans ?_ (m_at _ _ _ _)
  blk_simp [iblk]
  entry_read
  blk_ext [idxi t, row, bat]

theorem blk6_at (t : Fin cfg0.N) (k : Fin 1024) :
    (show Vec Ideal S1x1024 .f32 from iblk m c 6 t) (ix2 0 k) = aF m c (ix1 k) := by
  refine Eq.trans ?_ (g_at _ _)
  blk_simp [iblk]
  entry_read
  blk_ext [idxi t]

section spec

variable (X : FVec Ideal S8x2048x1024 .f32) (O : FVec Ideal S8x2048x2048 .f32) (G : FVec Ideal S8x2048x1024 .f32) (M : FVec Ideal S8x3072 .f32) (U : FVec Ideal S128x16x64 .f32)
  (W : FVec Ideal S1024x1024 .f32) (F : FVec Ideal S1024 .f32)

/-- An entry of a row of the latent output. -/
def oe (n : Fin 16384) (k : ℕ) : EReal := if h : k < 2048 then O (ix3 (bat n) (pos n) ⟨k, h⟩) else 0

/-- A head's output, at a column of all heads side by side. -/
def ov (n : Fin 16384) (j : ℕ) : EReal := if h : j < 1024 then ∑ k : Fin 128, oe O n (j / 64 * 128 + k) * U (ix3 k ⟨j / 64, by omega⟩ ⟨j % 64, by omega⟩) else 0

/-- The gated heads' outputs times the output weights. -/
def yv (n : Fin 16384) (d : Fin 1024) : EReal := ∑ i : Fin 1024, ov O U n i * sl (G (ix3 (bat n) (pos n) i)) * W (ix2 i d)

/-- The new residual stream, normalised. -/
def fin (n : Fin 16384) (d : Fin 1024) : EReal :=
  rms (fun d => X (ix3 (bat n) (pos n) d) + M (ix2 (bat n) ⟨2 * 1024 + d, by omega⟩) * yv O G U W n d) (fun d => F (ix1 d)) d

end spec

end Cert.Kernel3Ideal.Oc

end
-- ==== Proof.Oc.Ref.lean ====
module

public import proofs.«01_k».proof.Proof.Oc.Blk
public import proofs.«01_k».proof.Proof.Gen.Reference3Ideal.Read
public import Idealize.ShloMosaic.Lib.Pointwise

@[expose] public section

set_option maxRecDepth 16384

noncomputable section

/-! The reference of the output call, read at an index. -/

namespace Cert.Reference3Ideal.Oc

open Cert.Reference3Ideal Cert.Reference3Ideal.Gen Cert.Reference3Ideal.Read Idealize.ShloMosaic Idealize.ShloMosaic.TcCoe Idealize.SL.Sem
open Cert.Kernel3Ideal.Oc

variable (X : FVec Ideal S8x2048x1024 .f32) (O : FVec Ideal S8x2048x2048 .f32) (G : FVec Ideal S8x2048x1024 .f32) (M : FVec Ideal S8x3072 .f32) (U : FVec Ideal S128x16x64 .f32)
  (W : FVec Ideal S1024x1024 .f32) (F : FVec Ideal S1024 .f32)

theorem o_ref (n : Fin 16384) (j : Fin 1024) : val_main_v6 (F := Ideal) O U (ix3 (bat n) (pos n) j) = ov O U n j := by
  pointwise [val_main_v6, val_main_v5, val_main_v4, val_main_v3]
  have hj := j.isLt
  rw [ov, dif_pos hj]
  refine Finset.sum_congr rfl fun k _ => ?_
  have hk := k.isLt
  rw [oe, dif_pos (by omega), mul_comm]

theorem y_ref (n : Fin 16384) (d : Fin 1024) : val_main_v9 (F := Ideal) O G U W (ix3 (bat n) (pos n) d) = yv O G U W n d := by
  pointwise [val_main_v9, val_main_v8, val_main_v7, val_main_call0_v0, val_main_call0_v1, val_main_call0_cst, val_main_call0_v2, val_main_call0_v3, val_main_call0_cst_0, val_main_call0_v4, val_main_call0_v5]
  rw [yv]
  refine Finset.sum_congr rfl fun k _ => ?_
  rw [o_ref, sl]
  try pointwise

theorem z_ref (n : Fin 16384) (d : Fin 1024) :
    val_main_v13 (F := Ideal) X O G M U W (ix3 (bat n) (pos n) d) = X (ix3 (bat n) (pos n) d) + M (ix2 (bat n) ⟨2 * 1024 + d, by omega⟩) * yv O G U W n d := by
  pointwise [val_main_v13, val_main_v12, val_main_v11, val_main_v10, val_main_v2]
  rw [y_ref]

theorem ref_at (n : Fin 16384) (d : Fin 1024) : val_main_v27 (F := Ideal) X O G M U W F (ix2 n d) = fin X O G M U W F n d := by
  refine Eq.trans (x_at _ n d) ?_
  pointwise [val_main_v26, val_main_v25, val_main_v24, val_main_v23, val_main_v22, val_main_v21, val_main_v20, val_main_v19, val_main_v18, val_main_v17, val_main_v16, val_main_v15, val_main_v14, val_main_cst, val_main_cst_0, val_main_cst_1]
  simp only [z_ref]
  rw [fin, rms]
  try pointwise

end Cert.Reference3Ideal.Oc

end
-- ==== Proof.Oc.Final.lean ====
module

public import proofs.«01_k».proof.Proof.Oc.Blk

@[expose] public section

set_option maxRecDepth 16384

noncomputable section

/-! What a grid point of the output call leaves in its block, and the array the call leaves. -/

namespace Cert.Kernel3Ideal.Oc

open Cert.Kernel3Ideal Cert.Kernel3Ideal.Gen Idealize.ShloMosaic Idealize.ShloMosaic.TcCoe Idealize.SL.Sem
open Idealize.ShloMosaic.Pipeline (Dat)

theorem ldO (Y : Vec Ideal S256x2048 .bf16) (o : ℕ) (ho : o + 256 ≤ 2048) (inb : ∀ a, ![0, o] a + ![256, 256] a ≤ S256x2048.size a) (r k : Fin 256) :
    (View.ld Y (Rect.unit ![0, o] ![256, 256] inb) : Vec Ideal S256x256 .bf16) (ix2 r k) = Y (ix2 r ⟨o + k, by omega⟩) := by
  refine View.ld_unit_apply_of _ _ _ _ _ _ fun d => ?_
  fin_cases d <;> simp

theorem ldU (Y : Vec Ideal S8x256x128 .bf16) (j : ℕ) (hj : j < 8) (inb : ∀ a, ![j, 0, 0] a + ![1, 256, 128] a ≤ S8x256x128.size a) (k : Fin 256) (l : Fin 128) :
    (View.ld Y (Rect.unit ![j, 0, 0] ![1, 256, 128] inb) : Vec Ideal S1x256x128 .bf16) (ix3 0 k l) = Y (ix3 ⟨j, hj⟩ k l) := by
  refine View.ld_unit_apply_of _ _ _ _ _ _ fun d => ?_
  fin_cases d <;> simp

theorem ldM (Y : Vec Ideal S1x3x1024 .f32) (inb : ∀ a, ![0, 2, 0] a + ![1, 1, 1024] a ≤ S1x3x1024.size a) (k : Fin 1024) :
    (View.ld Y (Rect.unit ![0, 2, 0] ![1, 1, 1024] inb) : Vec Ideal S1x1x1024 .f32) (ix3 0 0 k) = Y (ix3 0 2 k) := by
  refine View.ld_unit_apply_of _ _ _ _ _ _ fun d => ?_
  fin_cases d <;> simp

theorem pay9_at (x : Vec Ideal S256x1024 .f32) (r : Fin 256) (k : Fin 1024) : k0_pay9 (F := Ideal) x (ix2 r k) = x (ix2 r k) := by
  pointwise [k0_pay9]

variable (m : (ℓ : Loc nD τ sig) → Buf (Elt Ideal) ℓ) (c : Dev nD) (t : Fin cfg0.N)

/-- A pair of heads. -/
theorem tl (j : ℕ) (hj : j < 8) (o s : ℕ) (ho : o = 256 * j) (hs : s = 128 * j) (inb : ∀ a, ![0, o] a + ![256, 256] a ≤ S256x2048.size a)
    (inb' : ∀ a, ![j, 0, 0] a + ![1, 256, 128] a ≤ S8x256x128.size a) (r : Fin 256) (l : Fin 128) :
    k0_pay2 (F := Ideal) (View.ld (iblk m c 1 t : Vec Ideal S256x2048 .bf16) (Rect.unit ![0, o] ![256, 256] inb))
      (View.ld (iblk m c 3 t : Vec Ideal S8x256x128 .bf16) (Rect.unit ![j, 0, 0] ![1, 256, 128] inb')) (ix2 r l) = ov (aO m c) (aU m c) (row t r) (s + l) := by
  have hl := l.isLt
  subst ho hs
  rw [pay2_at]
  refine Eq.trans ?_ ((bde_sum (aU m c) (fun k => oe (aO m c) (row t r) (256 * j + k)) ⟨j, hj⟩ l).trans ?_)
  · refine Finset.sum_congr rfl fun k _ => ?_
    have hk := k.isLt
    refine congrArg₂ _ ((ldO _ _ (by omega) inb r k).trans ((blk1_at m c t r _).trans ?_)) ((ldU _ j hj inb' k l).trans (blk3_at m c t _ k l))
    rw [oe, dif_pos (by omega)]
  · rw [ov, dif_pos (by omega)]
    refine Finset.sum_congr rfl fun k _ => congrArg₂ _ (congrArg (oe (aO m c) (row t r)) ?_) (u_congr _ rfl ?_ ?_)
    · omega
    · dsimp only; omega
    · dsimp only; omega

/-- What a grid point leaves, at an entry of its block. -/
theorem point7 (r : Fin 256) (d : Fin 1024) :
    (show FVec Ideal S256x1024 .f32 from out0_7 (iblk m c 0 t) (iblk m c 1 t) (iblk m c 2 t) (iblk m c 3 t) (iblk m c 4 t) (iblk m c 5 t) (iblk m c 6 t)) (ix2 r d) = fin (aX m c) (aO m c) (aG m c) (aM m c) (aU m c) (aW m c) (aF m c) (row t r) d := by
  unfold out0_7
  frame_out
  rw [pay8_eq]
  refine (pay1_at _ _ _ _ r d).trans ?_
  refine congrArg₂ (fun a b => rms a b d) (funext fun k => ?_) (funext fun k => blk6_at m c t k)
  refine congrArg₂ _ ((pay9_at _ r k).trans (blk0_at m c t r k)) (congrArg₂ _ ((ldM _ _ k).trans (blk5_at m c t r 2 k)) ?_)
  refine (mx_at _ _ _ r k).trans (Finset.sum_congr rfl fun i _ => ?_)
  refine congrArg₂ _ (congrArg₂ _ ?_ (congrArg sl (blk2_at m c t r i))) (blk4_at m c t i k)
  refine cat_at _ _ _ _ _ _ _ _ r (ov (aO m c) (aU m c) (row t r)) (fun l => ?_) (fun l => ?_) (fun l => ?_) (fun l => ?_) (fun l => ?_) (fun l => ?_) (fun l => ?_) (fun l => ?_) i
  · exact (tl m c t 0 (by decide) 0 0 rfl rfl _ _ r l).trans (congrArg _ (Nat.zero_add _))
  · exact tl m c t 1 (by decide) 256 128 rfl rfl _ _ r l
  · exact tl m c t 2 (by decide) 512 256 rfl rfl _ _ r l
  · exact tl m c t 3 (by decide) 768 384 rfl rfl _ _ r l
  · exact tl m c t 4 (by decide) 1024 512 rfl rfl _ _ r l
  · exact tl m c t 5 (by decide) 1280 640 rfl rfl _ _ r l
  · exact tl m c t 6 (by decide) 1536 768 rfl rfl _ _ r l
  · exact tl m c t 7 (by decide) 1792 896 rfl rfl _ _ r l

/-- An array of rows, from its entries. -/
def arr (f : Fin 16384 → Fin 1024 → EReal) : (⟨2, ![16384, 1024]⟩ : Shape).Idx → EReal := fun i => f (i 0) (i 1)

theorem arr_of (f : Fin 16384 → Fin 1024 → EReal) (i : (⟨2, ![16384, 1024]⟩ : Shape).Idx) (n : Fin 16384) (j : Fin 1024) (h0 : (i 0 : ℕ) = n) (h1 : (i 1 : ℕ) = j) :
    arr f i = f n j := by
  obtain rfl : i 0 = n := Fin.ext h0
  obtain rfl : i 1 = j := Fin.ext h1
  rfl

theorem final7 : (dats m 0 c).arrAt 7 cfg0.N = (arr (fin (aX m c) (aO m c) (aG m c) (aM m c) (aU m c) (aW m c) (aF m c)) : FVec Ideal S16384x1024 .f32) := by
  refine (dats m 0 c).arrAt_eq_of_covers 7 _ (by decide +kernel) fun t _ (y : S256x1024.Idx) => ?_
  blk_simp
  rw [after0_7]
  refine Eq.trans ((congrArg _ (eq_ix2 y)).trans (point7 m c t (y 0) (y 1)))
    (arr_of (fin (aX m c) (aO m c) (aG m c) (aM m c) (aU m c) (aW m c) (aF m c)) _ (row t (y 0)) (y 1 : Fin 1024) ?_ ?_).symm
  · have := (y 0).isLt
    blk_simp [idxo t]
    simp only [row]
    try omega
  · blk_simp [idxo t]
    try omega

end Cert.Kernel3Ideal.Oc

end
-- ==== Proof.Mid.Pay.lean ====
module

public import proofs.«01_k».proof.Proof.Gen.Kernel4Ideal.Frame
public import Idealize.ShloMosaic.Lib.Pointwise

@[expose] public section

set_option maxRecDepth 16384

noncomputable section

/-! The middle call's expressions, element by element. -/

namespace Cert.Kernel4Ideal.Md

open Cert.Kernel4Ideal Cert.Kernel4Ideal.Gen Idealize.ShloMosaic Idealize.ShloMosaic.TcCoe Idealize.SL.Sem

theorem dstep {α : Type} {p : Prop} [Decidable p] {a : p → α} {b : ¬p → α} {z : α} (h1 : ∀ h, a h = z) (h2 : ∀ h, b h = z) : dite p a b = z := by
  by_cases h : p
  · rw [dif_pos h]; exact h1 h
  · rw [dif_neg h]; exact h2 h

/-- A row normalised by its root mean square, `N` its length. -/
def rms {K : ℕ} (N : EReal) (x g : Fin K → EReal) (k : Fin K) : EReal :=
  x k * Ideal.rsqrt (Ideal.div (∑ l, x l * x l) N + Ideal.ofBits .f32 0x358637BD#32) * g k

/-- The same, scaled and shifted by the modulation. -/
def nrm (x g sh sc : Fin 1024 → EReal) (k : Fin 1024) : EReal :=
  rms (Ideal.ofBits .f32 0x44800000#32) x g k * (Ideal.ofBits .f32 0x3F800000#32 + sc k) + sh k

theorem pay3_at (a b : Vec Ideal S256x512 .bf16) (u w : Vec Ideal S512x1024 .bf16) (x : Vec Ideal S256x1024 .f32) (g : Vec Ideal S1x1x1024 .f32) (r : Fin 256) (d : Fin 1024) :
    k0_pay3 (F := Ideal) a u b w x g (ix2 r d)
      = x (ix2 r d) + g (ix3 0 0 d) * ((∑ k : Fin 512, a (ix2 r k) * u (ix2 k d)) + ∑ k : Fin 512, b (ix2 r k) * w (ix2 k d)) := by
  pointwise [k0_pay3]

/-- The norm of a tile of rows. -/
def nm (v18 : FVec Ideal S256x1024 .f32) (v19 : Vec Ideal S1x1024 .f32) : FVec Ideal S256x1024 .f32 :=
  have v20 : FVec Ideal S1x1024 .f32 := shapeCast S1x1024 v19 shapeCasts_S1x1024_S1x1024
  have v22 : FVec Ideal S256 .f32 := multiReduction .add [1] S256 (mulf v18 v18) 0x00000000#32 reduces_S256x1024_S256 (.inl rfl) rfl
  have v23 : FVec Ideal S256x1 .f32 := shapeCast S256x1 v22 shapeCasts_S256_S256x1
  have v25 : FVec Ideal S256x1 .f32 := divf v23 (broadcast S256x1 (Scalar.ofBits .f32 0x44800000#32))
  have v28 : FVec Ideal S256x1 .f32 := rsqrt (addf v25 (broadcast S256x1 (Scalar.ofBits .f32 0x358637BD#32)))
  mulf (mulf v18 (broadcastTo S256x1024 v28 broadcasts_S256x1_S256x1024)) (broadcastTo S256x1024 v20 broadcasts_S1x1024_S256x1024)

theorem nm_at (X : FVec Ideal S256x1024 .f32) (g : Vec Ideal S1x1024 .f32) (r : Fin 256) (k : Fin 1024) :
    nm X g (ix2 r k) = rms (Ideal.ofBits .f32 0x44800000#32) (fun k => X (ix2 r k)) (fun k => g (ix2 0 k)) k := by
  pointwise [nm, rms]

theorem pay4_eq (a b : Vec Ideal S256x512 .bf16) (u w : Vec Ideal S512x1024 .bf16) (x : Vec Ideal S256x1024 .f32) (g : Vec Ideal S1x1x1024 .f32) (n : Vec Ideal S1x1024 .f32) :
    k0_pay4 (F := Ideal) a u b w x g n = nm (k0_pay3 (F := Ideal) a u b w x g) n := rfl

theorem pay5_at (Y : FVec Ideal S256x1024 .f32) (sh sc : Vec Ideal S1x1x1024 .f32) (r : Fin 256) (k : Fin 1024) :
    k0_pay5 (F := Ideal) Y sh sc (ix2 r k) = Y (ix2 r k) * (Ideal.ofBits .f32 0x3F800000#32 + sc (ix3 0 0 k)) + sh (ix3 0 0 k) := by
  pointwise [k0_pay5]

/-- The projections. -/
def pg (A : FVec Ideal S256x1024 .bf16) (B : Vec Ideal S1024x1024 .bf16) : FVec Ideal S256x1024 .f32 :=
  matmul (φ₂ := .bf16) dot_S256x1024_S1024x1024_S256x1024_1_0_0_1_n_n none A (shapeCast S1024x1024 B shapeCasts_S1024x1024_S1024x1024) (constant S256x1024 .f32 0x00000000#32)
def pq (A : FVec Ideal S256x1024 .bf16) (B : Vec Ideal S1024x384 .bf16) : FVec Ideal S256x384 .f32 :=
  matmul (φ₂ := .bf16) dot_S256x1024_S1024x384_S256x384_1_0_0_1_n_n none A (shapeCast S1024x384 B shapeCasts_S1024x384_S1024x384) (constant S256x384 .f32 0x00000000#32)
def ps (A : FVec Ideal S256x1024 .bf16) (B : Vec Ideal S1024x128 .bf16) : FVec Ideal S256x128 .f32 :=
  matmul (φ₂ := .bf16) dot_S256x1024_S1024x128_S256x128_1_0_0_1_n_n none A (shapeCast S1024x128 B shapeCasts_S1024x128_S1024x128) (constant S256x128 .f32 0x00000000#32)

theorem pg_at (A : FVec Ideal S256x1024 .bf16) (B : Vec Ideal S1024x1024 .bf16) (r : Fin 256) (c : Fin 1024) :
    pg A B (ix2 r c) = ∑ k : Fin 1024, A (ix2 r k) * B (ix2 k c) := by
  pointwise [pg]
theorem pq_at (A : FVec Ideal S256x1024 .bf16) (B : Vec Ideal S1024x384 .bf16) (r : Fin 256) (c : Fin 384) :
    pq A B (ix2 r c) = ∑ k : Fin 1024, A (ix2 r k) * B (ix2 k c) := by
  pointwise [pq]
theorem ps_at (A : FVec Ideal S256x1024 .bf16) (B : Vec Ideal S1024x128 .bf16) (r : Fin 256) (c : Fin 128) :
    ps A B (ix2 r c) = ∑ k : Fin 1024, A (ix2 r k) * B (ix2 k c) := by
  pointwise [ps]

/-- The queries' norm. -/
def nq (v55 : FVec Ideal S256x384 .f32) (v56 : Vec Ideal S1x384 .f32) : FVec Ideal S256x384 .bf16 :=
  have v57 : FVec Ideal S1x384 .f32 := shapeCast S1x384 v56 shapeCasts_S1x384_S1x384
  have v59 : FVec Ideal S256 .f32 := multiReduction .add [1] S256 (mulf v55 v55) 0x00000000#32 reduces_S256x384_S256 (.inl rfl) rfl
  have v60 : FVec Ideal S256x1 .f32 := shapeCast S256x1 v59 shapeCasts_S256_S256x1
  have v62 : FVec Ideal S256x1 .f32 := divf v60 (broadcast S256x1 (Scalar.ofBits .f32 0x43C00000#32))
  have v65 : FVec Ideal S256x1 .f32 := rsqrt (addf v62 (broadcast S256x1 (Scalar.ofBits .f32 0x358637BD#32)))
  truncf .bf16 (mulf (mulf v55 (broadcastTo S256x384 v65 broadcasts_S256x1_S256x384)) (broadcastTo S256x384 v57 broadcasts_S1x384_S256x384)) bitsLt_bf16_f32

theorem nq_at (Z : FVec Ideal S256x384 .f32) (g : Vec Ideal S1x384 .f32) (r : Fin 256) (k : Fin 384) :
    nq Z g (ix2 r k) = rms (Ideal.ofBits .f32 0x43C00000#32) (fun k => Z (ix2 r k)) (fun k => g (ix2 0 k)) k := by
  pointwise [nq, rms]

/-- The latents' norm. -/
def nk (v208 : FVec Ideal S256x128 .f32) (v209 : Vec Ideal S1x128 .f32) : FVec Ideal S256x128 .f32 :=
  have v210 : FVec Ideal S1x128 .f32 := shapeCast S1x128 v209 shapeCasts_S1x128_S1x128
  have v212 : FVec Ideal S256 .f32 := multiReduction .add [1] S256 (mulf v208 v208) 0x00000000#32 reduces_S256x128_S256 (.inl rfl) rfl
  have v213 : FVec Ideal S256x1 .f32 := shapeCast S256x1 v212 shapeCasts_S256_S256x1
  have v215 : FVec Ideal S256x1 .f32 := divf v213 (broadcast S256x1 (Scalar.ofBits .f32 0x43000000#32))
  have v218 : FVec Ideal S256x1 .f32 := rsqrt (addf v215 (broadcast S256x1 (Scalar.ofBits .f32 0x358637BD#32)))
  mulf (mulf v208 (broadcastTo S256x128 v218 broadcasts_S256x1_S256x128)) (broadcastTo S256x128 v210 broadcasts_S1x128_S256x128)

theorem nk_at (Z : FVec Ideal S256x128 .f32) (g : Vec Ideal S1x128 .f32) (r : Fin 256) (k : Fin 128) :
    nk Z g (ix2 r k) = rms (Ideal.ofBits .f32 0x43000000#32) (fun k => Z (ix2 r k)) (fun k => g (ix2 0 k)) k := by
  pointwise [nk, rms]

/-- The rotation of a tile of 128 columns that holds four heads. -/
def rt (p co si : FVec Ideal S256x128 .f32) : FVec Ideal S256x128 .f32 :=
  addf (mulf p co) (mulf (select (cmpi .slt (andi (iota .tc S256x128 32 [1] iota_S256x128_d1_w32) (broadcast S256x128 31#32)) (broadcast S256x128 16#32))
    (dynamicRotate 1 112#32 none p rotates_S256x128_d1) (dynamicRotate 1 16#32 none p rotates_S256x128_d1)) si)

theorem low_iff : ∀ l : Fin 128, (IntOp.cmpi .slt (IntOp.andi (BitVec.ofNat 32 (l : ℕ)) 31#32) 16#32 = 1#1) ↔ (l : ℕ) % 32 < 16 := by
  decide +kernel

theorem rt_at (p co si : FVec Ideal S256x128 .f32) (r : Fin 256) (l : Fin 128) :
    rt p co si (ix2 r l) = p (ix2 r l) * co (ix2 r l)
      + (if (l : ℕ) % 32 < 16 then p (ix2 r ⟨((l : ℕ) + 16) % 128, by omega⟩) else p (ix2 r ⟨((l : ℕ) + 112) % 128, by omega⟩)) * si (ix2 r l) := by
  have hl := low_iff l
  pointwise [rt]
  refine congrArg (fun z : EReal => p (ix2 r l) * co (ix2 r l) + z * si (ix2 r l)) ?_
  by_cases h : (l : ℕ) % 32 < 16
  · rw [if_pos h]
    refine (if_pos (hl.2 h)).trans ?_
    refine congrArg p (congrArg (ix2 r) (Fin.ext ?_))
    show ((l : ℕ) + 128 - 112) % 128 = _
    congr 1
  · rw [if_neg h]
    refine (if_neg fun e => h (hl.1 e)).trans ?_
    refine congrArg p (congrArg (ix2 r) (Fin.ext ?_))
    show ((l : ℕ) + 128 - 16) % 128 = _
    congr 1

theorem lt32 : ∀ l : Fin 128, (IntOp.cmpi .slt (BitVec.ofNat 32 (l : ℕ)) 32#32 = 1#1) ↔ (l : ℕ) < 32 := by decide +kernel

/-- A tile whose columns from 32 on are made zero. -/
def msk (X : FVec Ideal S256x128 .f32) : FVec Ideal S256x128 .f32 :=
  select (cmpi .slt (iota .tc S256x128 32 [1] iota_S256x128_d1_w32) (broadcast S256x128 32#32)) X (broadcast S256x128 (Scalar.ofBits .f32 0x00000000#32))

theorem msk_at (X : FVec Ideal S256x128 .f32) (r : Fin 256) (l : Fin 128) : msk X (ix2 r l) = if (l : ℕ) < 32 then X (ix2 r l) else 0 := by
  have hl := lt32 l
  pointwise [msk]
  by_cases h : (l : ℕ) < 32
  · rw [if_pos h]; exact if_pos (hl.2 h)
  · rw [if_neg h]; exact if_neg fun e => h (hl.1 e)

/-- The first 32 columns four times over. -/
theorem rep_at (Y : FVec Ideal S256x128 .f32) (r : Fin 256) (l : Fin 128) :
    k0_pay2 (F := Ideal) Y (dynamicRotate 1 32#32 none Y rotates_S256x128_d1) (ix2 r l)
      = Y (ix2 r l) + Y (ix2 r ⟨((l : ℕ) + 96) % 128, by omega⟩) + Y (ix2 r ⟨((l : ℕ) + 64) % 128, by omega⟩) + Y (ix2 r ⟨((l : ℕ) + 32) % 128, by omega⟩) := by
  pointwise [k0_pay2]
  rfl

theorem four (f : ℕ → EReal) (l : ℕ) (hl : l < 128) :
    (if l < 32 then f l else 0) + (if (l + 96) % 128 < 32 then f ((l + 96) % 128) else 0) + (if (l + 64) % 128 < 32 then f ((l + 64) % 128) else 0)
      + (if (l + 32) % 128 < 32 then f ((l + 32) % 128) else 0) = f (l % 32) := by
  obtain e | e | e | e : l / 32 = 0 ∨ l / 32 = 1 ∨ l / 32 = 2 ∨ l / 32 = 3 := by omega
  · rw [if_pos (by omega), if_neg (by omega), if_neg (by omega), if_neg (by omega), add_zero, add_zero, add_zero, Nat.mod_eq_of_lt (by omega : l < 32)]
  · rw [if_neg (by omega), if_pos (by omega), if_neg (by omega), if_neg (by omega), add_zero, add_zero, zero_add, show (l + 96) % 128 = l % 32 by omega]
  · rw [if_neg (by omega), if_neg (by omega), if_pos (by omega), if_neg (by omega), add_zero, add_zero, zero_add, show (l + 64) % 128 = l % 32 by omega]
  · rw [if_neg (by omega), if_neg (by omega), if_neg (by omega), if_pos (by omega), add_zero, add_zero, zero_add, show (l + 32) % 128 = l % 32 by omega]

/-- The scale of the queries. -/
def cs : EReal := (((Real.sqrt 96 * Real.log 2)⁻¹ : ℝ) : EReal)

theorem pay10_at (Q : FVec Ideal S256x384 .bf16) (B : Vec Ideal S384x1024 .bf16) (r : Fin 256) (c : Fin 1024) :
    k0_pay10 (F := Ideal) Q B (ix2 r c) = ∑ k : Fin 384, Q (ix2 r k) * B (ix2 k c) := by
  pointwise [k0_pay10]
theorem pay21_at (Q : FVec Ideal S256x384 .bf16) (B : Vec Ideal S384x512 .bf16) (r : Fin 256) (c : Fin 512) :
    k0_pay21 (F := Ideal) Q B (ix2 r c) = ∑ k : Fin 384, Q (ix2 r k) * B (ix2 k c) := by
  pointwise [k0_pay21]

/-- A pair of heads' latent queries. -/
def lt2 (N : FVec Ideal S256x128 .bf16) (B : Vec Ideal S1x128x256 .bf16) : FVec Ideal S256x256 .f32 :=
  matmul (φ₂ := .bf16) dot_S256x128_S128x256_S256x256_1_0_0_1_n_n none N (shapeCast S128x256 B shapeCasts_S1x128x256_S128x256) (constant S256x256 .f32 0x00000000#32)

theorem lt2_at (N : FVec Ideal S256x128 .bf16) (B : Vec Ideal S1x128x256 .bf16) (r l : Fin 256) :
    lt2 N B (ix2 r l) = ∑ k : Fin 128, N (ix2 r k) * B (ix3 0 k l) := by
  pointwise [lt2]

theorem pay20_eq (N : FVec Ideal S256x128 .bf16) (B : Vec Ideal S1x128x256 .bf16) (r l : Fin 256) :
    k0_pay20 (F := Ideal) N B (ix2 r l) = lt2 N B (ix2 r l) * cs := rfl

theorem pay22_eq (co si : FVec Ideal S256x128 .f32) (Z : FVec Ideal S256x512 .f32) (r : Fin 256) (l : Fin 128) :
    k0_pay28 (F := Ideal) co si Z (ix2 r l) = rt (extractStridedSlice S256x128 ![0, 384] Z slices_S256x512_o0_384_S256x128) co si (ix2 r l) * cs := rfl

theorem pay29_eq (A : FVec Ideal S256x1024 .bf16) (B : Vec Ideal S1024x128 .bf16) (g : Vec Ideal S1x128 .f32) : k0_pay29 (F := Ideal) A B g = nk (ps A B) g := rfl

theorem pay30_eq (A : FVec Ideal S256x1024 .bf16) (B : Vec Ideal S1024x128 .bf16) (co si : FVec Ideal S256x128 .f32) : k0_pay30 (F := Ideal) A co si B = rt (ps A B) co si := rfl

theorem pay31_eq (A : FVec Ideal S256x1024 .bf16) (B : Vec Ideal S1024x128 .bf16) (co si : FVec Ideal S256x128 .f32) : k0_pay31 (F := Ideal) A co si B = msk (rt (ps A B) co si) := rfl

theorem pay9_eq (Y : FVec Ideal S256x1024 .f32) (sh sc : Vec Ideal S1x1x1024 .f32) (B : Vec Ideal S1024x384 .bf16) (g : Vec Ideal S1x384 .f32) :
    k0_pay9 (F := Ideal) Y sh sc B g = nq (pq (k0_pay5 (F := Ideal) Y sh sc) B) g := rfl

end Cert.Kernel4Ideal.Md

end
-- ==== Proof.Mid.Blk.lean ====
module

public import proofs.«01_k».proof.Proof.Mid.Pay
public import Idealize.ShloMosaic.Lib.Pipeline.ValueKit
public import Idealize.ShloMosaic.Lib.Claim
public import Idealize.ShloMosaic.Lib.StableHlo.RunRead

@[expose] public section

set_option maxRecDepth 16384

noncomputable section

/-! The blocks a grid point of the middle call is handed, read off the arguments. -/

namespace Cert.Kernel4Ideal.Md

open Cert.Kernel4Ideal Cert.Kernel4Ideal.Gen Idealize.ShloMosaic Idealize.ShloMosaic.TcCoe Idealize.SL.Sem
open Idealize.ShloMosaic.Pipeline (Dat)

theorem idxi : ∀ t : Fin cfg0.N, win0_0.index t = ![t.val, 0] ∧ win0_1.index t = ![t.val, 0] ∧ win0_2.index t = ![t.val, 0] ∧ win0_3.index t = ![0, 0]
    ∧ win0_4.index t = ![t.val / 8, 0, 0] ∧ win0_5.index t = ![t.val / 8, 0, 0] ∧ win0_6.index t = ![0, 0] ∧ win0_7.index t = ![0, 0] ∧ win0_8.index t = ![0, 0]
    ∧ win0_9.index t = ![0, 0] ∧ win0_10.index t = ![0, 0] ∧ win0_11.index t = ![0, 0, 0] ∧ win0_12.index t = ![t.val % 8, 0] ∧ win0_13.index t = ![t.val % 8, 0] :=
  (by decide +kernel : ∀ t : Fin grid0.N, _)

theorem idxo : ∀ t : Fin cfg0.N, win0_14.index t = ![t.val, 0] ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0] := (by decide +kernel : ∀ t : Fin grid0.N, _)

theorem lt64' (t : Fin cfg0.N) : t.val < 64 := lt_of_lt_of_eq t.isLt N_0

/-- The row of the arrays that a row of a grid point's block is. -/
def row (t : Fin cfg0.N) (r : Fin 256) : Fin 16384 := ⟨t.val * 256 + r, by have := lt64' t; omega⟩

/-- The batch of a row. -/
def bat (n : Fin 16384) : Fin 8 := ⟨(n : ℕ) / 2048, by omega⟩

/-- The position of a row. -/
def pos (n : Fin 16384) : Fin 2048 := ⟨(n : ℕ) % 2048, by omega⟩

theorem x_at (X : FVec Ideal S8x2048x1024 .f32) (n : Fin 16384) (k : Fin 1024) :
    shapeCast S16384x1024 X shapeCasts_S8x2048x1024_S16384x1024 (ix2 n k) = X (ix3 (bat n) (pos n) k) := by
  pointwise [bat, pos]

theorem a_at (X : FVec Ideal S8x2048x512 .f32) (n : Fin 16384) (k : Fin 512) :
    shapeCast S16384x512 X shapeCasts_S8x2048x512_S16384x512 (ix2 n k) = X (ix3 (bat n) (pos n) k) := by
  pointwise [bat, pos]

theorem m_at (X : FVec Ideal S8x3072 .f32) (b : Fin 8) (j : Fin 3) (k : Fin 1024) :
    shapeCast S8x3x1024 X shapeCasts_S8x3072_S8x3x1024 (ix3 b j k) = X (ix2 b ⟨(j : ℕ) * 1024 + k, by omega⟩) := by
  pointwise

theorem g_at (X : FVec Ideal S1024 .f32) (k : Fin 1024) : shapeCast S1x1024 X shapeCasts_S1024_S1x1024 (ix2 0 k) = X (ix1 k) := by
  pointwise
theorem g3_at (X : FVec Ideal S384 .f32) (k : Fin 384) : shapeCast S1x384 X shapeCasts_S384_S1x384 (ix2 0 k) = X (ix1 k) := by
  pointwise
theorem g1_at (X : FVec Ideal S128 .f32) (k : Fin 128) : shapeCast S1x128 X shapeCasts_S128_S1x128 (ix2 0 k) = X (ix1 k) := by
  pointwise

/-- The column of the weights that a column of the rearranged weights is, or one past the last for a column of zeros. -/
def col (c : ℕ) : ℕ := if c < 1024 then c + 544 else if c < 1568 then c - 1024 else 1568

/-- An element of the weights, zero past the last column. -/
def wel (W : FVec Ideal S1024x1568 .f32) (k : Fin 1024) (n : ℕ) : EReal := if h : n < 1568 then W (ix2 k ⟨n, h⟩) else 0

theorem wel_eq (W : FVec Ideal S1024x1568 .f32) (k : Fin 1024) {c n : ℕ} (hn : n < 1568) (h : col c = n) : W (ix2 k ⟨n, hn⟩) = wel W k (col c) := by
  subst h
  rw [wel, dif_pos hn]

/-- The weights laid out for the call: five blocks of columns side by side. -/
def lay (a0 : FVec Ideal S1024x1024 .f32) (a1 : FVec Ideal S1024x384 .f32) (a2 : FVec Ideal S1024x128 .f32) (a3 : FVec Ideal S1024x32 .f32) (a4 : FVec Ideal S1024x96 .f32) : FVec Ideal S1024x1664 .bf16 :=
  (truncf .bf16 (concatenate S1024x1664 1 [⟨S1024x1024, a0⟩, ⟨S1024x384, a1⟩, ⟨S1024x128, a2⟩, ⟨S1024x32, a3⟩, ⟨S1024x96, a4⟩] concatenates_S1024x1024_S1024x384_S1024x128_S1024x32_S1024x96_S1024x1664_d1 : FVec Ideal S1024x1664 .f32) bitsLt_bf16_f32 : FVec Ideal S1024x1664 .bf16)

theorem w_at (W : FVec Ideal S1024x1568 .f32) (k : Fin 1024) (c : Fin 1664) :
    lay (extractStridedSlice S1024x1024 ![0, 544] W slices_S1024x1568_S1024x1024_0_544) (extractStridedSlice S1024x384 ![0, 0] W slices_S1024x1568_S1024x384_0_0)
      (extractStridedSlice S1024x128 ![0, 384] W slices_S1024x1568_S1024x128_0_384) (extractStridedSlice S1024x32 ![0, 512] W slices_S1024x1568_S1024x32_0_512)
      (broadcastInDim S1024x96 ![] bcast_S_S1024x96 (constant S_ .f32 0x00000000#32)) (ix2 k c) = wel W k (col c) := by
  have hc := c.isLt
  pointwise [lay]
  refine dstep (fun h => wel_eq W k _ (by unfold col; split_ifs <;> omega)) fun h => ?_
  refine dstep (fun h => wel_eq W k _ (by unfold col; split_ifs <;> omega)) fun h => ?_
  refine dstep (fun h => wel_eq W k _ (by unfold col; split_ifs <;> omega)) fun h => ?_
  refine dstep (fun h => wel_eq W k _ (by unfold col; split_ifs <;> omega)) fun h => ?_
  rw [wel, dif_neg]
  unfold col
  split_ifs <;> omega

/-- The queries' weights, the unrotated parts of all heads first. -/
def uq (U : FVec Ideal S384x1536 .f32) : FVec Ideal S384x1536 .f32 :=
  have v7 : FVec Ideal S384x16x96 .f32 := shapeCast S384x16x96 U shapeCasts_S384x1536_S384x16x96
  have v9 : FVec Ideal S384x1024 .f32 := shapeCast S384x1024 (extractStridedSlice S384x16x64 ![0, 0, 0] v7 slices_S384x16x96_S384x16x64_0_0_0) shapeCasts_S384x16x64_S384x1024
  have v11 : FVec Ideal S384x512 .f32 := shapeCast S384x512 (extractStridedSlice S384x16x32 ![0, 0, 64] v7 slices_S384x16x96_S384x16x32_0_0_64) shapeCasts_S384x16x32_S384x512
  concatenate S384x1536 1 [⟨S384x1024, v9⟩, ⟨S384x512, v11⟩] concatenates_S384x1024_S384x512_S384x1536_d1

/-- The column of the queries' weights that a column of the rearranged ones is. -/
def ucol (c : ℕ) : ℕ := if c < 1024 then c / 64 * 96 + c % 64 else (c - 1024) / 32 * 96 + 64 + (c - 1024) % 32

/-- An element of the queries' weights. -/
def uel (U : FVec Ideal S384x1536 .f32) (k : Fin 384) (n : ℕ) : EReal := if h : n < 1536 then U (ix2 k ⟨n, h⟩) else 0

theorem uel_eq (U : FVec Ideal S384x1536 .f32) (k : Fin 384) {m n : ℕ} (hn : n < 1536) (h : n = m) : U (ix2 k ⟨n, hn⟩) = uel U k m := by
  subst h
  rw [uel, dif_pos hn]

theorem uq_at (U : FVec Ideal S384x1536 .f32) (k : Fin 384) (c : Fin 1536) : uq U (ix2 k c) = uel U k (ucol c) := by
  have hc := c.isLt
  pointwise [uq]
  refine dstep (fun h => uel_eq U k _ ?_) fun h => uel_eq U k _ ?_
  · rw [ucol, if_pos h]
  · rw [ucol, if_neg h]; omega

/-- The heads' weights, a pair of heads to a block, one head on each half of the diagonal. -/
def bd (U : FVec Ideal S128x16x64 .f32) : FVec Ideal S8x128x256 .f32 :=
  have v1 : FVec Ideal S8x2x64x128 .f32 := shapeCast S8x2x64x128 (transpose S16x64x128 [1, 2, 0] U transposes_S128x16x64_S16x64x128_1_2_0) shapeCasts_S16x64x128_S8x2x64x128
  have z : FVec Ideal S8x64x128 .f32 := broadcastInDim S8x64x128 ![] bcast_S_S8x64x128 (constant S_ .f32 0x00000000#32)
  have a : FVec Ideal S8x64x128 .f32 := shapeCast S8x64x128 (extractStridedSlice S8x1x64x128 ![0, 0, 0, 0] v1 slices_S8x2x64x128_S8x1x64x128_0_0_0_0) shapeCasts_S8x1x64x128_S8x64x128
  have b : FVec Ideal S8x64x128 .f32 := shapeCast S8x64x128 (extractStridedSlice S8x1x64x128 ![0, 1, 0, 0] v1 slices_S8x2x64x128_S8x1x64x128_0_1_0_0) shapeCasts_S8x1x64x128_S8x64x128
  have p : FVec Ideal S8x64x256 .f32 := concatenate S8x64x256 2 [⟨S8x64x128, a⟩, ⟨S8x64x128, z⟩] concatenates_S8x64x128_S8x64x128_S8x64x256_d2
  have q : FVec Ideal S8x64x256 .f32 := concatenate S8x64x256 2 [⟨S8x64x128, z⟩, ⟨S8x64x128, b⟩] concatenates_S8x64x128_S8x64x128_S8x64x256_d2
  concatenate S8x128x256 1 [⟨S8x64x256, p⟩, ⟨S8x64x256, q⟩] concatenates_S8x64x256_S8x64x256_S8x128x256_d1

/-- An entry of those blocks. -/
def bde (U : FVec Ideal S128x16x64 .f32) (j : Fin 8) (k : Fin 128) (l : Fin 256) : EReal :=
  if (k : ℕ) / 64 = (l : ℕ) / 128 then U (ix3 ⟨(l : ℕ) % 128, by omega⟩ ⟨2 * (j : ℕ) + (l : ℕ) / 128, by omega⟩ ⟨(k : ℕ) % 64, by omega⟩) else 0

theorem bde_on (U : FVec Ideal S128x16x64 .f32) (j : Fin 8) (k : Fin 128) (l : Fin 256) (h : (k : ℕ) / 64 = (l : ℕ) / 128) :
    U (ix3 ⟨(l : ℕ) % 128, by omega⟩ ⟨2 * (j : ℕ) + (l : ℕ) / 128, by omega⟩ ⟨(k : ℕ) % 64, by omega⟩) = bde U j k l := (if_pos h).symm

theorem u_congr (U : FVec Ideal S128x16x64 .f32) {a a' : Fin 128} {b b' : Fin 16} {d d' : Fin 64} (h1 : (a : ℕ) = a') (h2 : (b : ℕ) = b') (h3 : (d : ℕ) = d') :
    U (ix3 a b d) = U (ix3 a' b' d') := by
  obtain rfl := Fin.ext h1
  obtain rfl := Fin.ext h2
  obtain rfl := Fin.ext h3
  rfl

theorem bd_at (U : FVec Ideal S128x16x64 .f32) (j : Fin 8) (k : Fin 128) (l : Fin 256) : bd U (ix3 j k l) = bde U j k l := by
  have hk := k.isLt
  have hl := l.isLt
  have hj := j.isLt
  pointwise [bd]
  refine dstep (fun h => dstep (fun h' => ?_) fun h' => ?_) fun h => dstep (fun h' => ?_) fun h' => ?_
  · exact (u_congr U (by dsimp only; omega) (by dsimp only; omega) (by dsimp only; omega)).trans (bde_on U j k l (by omega))
  · rw [bde, if_neg (by omega)]
  · rw [bde, if_neg (by omega)]
  · exact (u_congr U (by dsimp only; omega) (by dsimp only; omega) (by dsimp only; omega)).trans (bde_on U j k l (by omega))

/-- A row times a column of the blocks only meets the half on the diagonal. -/
theorem bde_sum (U : FVec Ideal S128x16x64 .f32) (f : ℕ → EReal) (j : Fin 8) (l : Fin 256) :
    (∑ k : Fin 128, f k * bde U j k l)
      = ∑ k : Fin 64, f ((l : ℕ) / 128 * 64 + k) * U (ix3 ⟨(l : ℕ) % 128, by omega⟩ ⟨2 * (j : ℕ) + (l : ℕ) / 128, by omega⟩ k) := by
  have hl := l.isLt
  rw [show (∑ k : Fin 128, f k * bde U j k l) = ∑ k : Fin (64 + 64), f k * bde U j k l from rfl, Fin.sum_univ_add]
  by_cases h : (l : ℕ) < 128
  · rw [Finset.sum_eq_zero (s := Finset.univ) (f := fun k : Fin 64 => f (Fin.natAdd 64 k : Fin (64 + 64)) * bde U j (Fin.natAdd 64 k) l), add_zero]
    · refine Finset.sum_congr rfl fun k _ => ?_
      have hk := k.isLt
      rw [bde, if_pos (by simp only [Fin.val_castAdd]; omega)]
      refine congrArg₂ _ (congrArg f (by simp only [Fin.val_castAdd]; omega)) (u_congr U rfl rfl ?_)
      simp only [Fin.val_castAdd]; omega
    · intro k _
      have hk := k.isLt
      rw [bde, if_neg (by simp only [Fin.val_natAdd]; omega), mul_zero]
  · rw [Finset.sum_eq_zero (s := Finset.univ) (f := fun k : Fin 64 => f (Fin.castAdd 64 k : Fin (64 + 64)) * bde U j (Fin.castAdd 64 k) l), zero_add]
    · refine Finset.sum_congr rfl fun k _ => ?_
      have hk := k.isLt
      rw [bde, if_pos (by simp only [Fin.val_natAdd]; omega)]
      refine congrArg₂ _ (congrArg f (by simp only [Fin.val_natAdd]; omega)) (u_congr U rfl rfl ?_)
      simp only [Fin.val_natAdd]; omega
    · intro k _
      have hk := k.isLt
      rw [bde, if_neg (by simp only [Fin.val_castAdd]; omega), mul_zero]

/-- The angle of a position and a lane. -/
def ang (p : Fin 2048) (l : Fin 16) : EReal :=
  (FloatOps.sitofp (F := Ideal) .f32 (BitVec.ofNat 32 (p : ℕ))) * Ideal.pow (Ideal.ofBits .f32 0x461C4000#32) (Ideal.div (-(FloatOps.sitofp (F := Ideal) .f32 (BitVec.ofNat 32 (l : ℕ)))) (Ideal.ofBits .f32 0x41800000#32))

/-- The angles as the operands compute them. -/
def angs : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

theorem angs_at (p : Fin 2048) (l : Fin 16) : angs (ix2 p l) = ang p l := by
  pointwise [angs, ang]

theorem cos_at (A : FVec Ideal S2048x16 .f32) (p : Fin 2048) (l : Fin 128) :
    shapeCast S2048x128 (broadcastInDim S1x2048x4x32 ![0, 1, 2, 3] bcast_S1x2048x1x32_S1x2048x4x32_0_1_2_3
      (shapeCast S1x2048x1x32 (concatenate S2048x32 1 [⟨S2048x16, Host.cos A⟩, ⟨S2048x16, Host.cos A⟩] concatenates_S2048x16_S2048x16_S2048x32_d1) shapeCasts_S2048x32_S1x2048x1x32)) shapeCasts_S1x2048x4x32_S2048x128 (ix2 p l)
      = Ideal.cos (A (ix2 p ⟨(l : ℕ) % 16, by omega⟩)) := by
  pointwise
  refine dstep (fun h => ?_) fun h => ?_
  · exact congrArg (fun z => Ideal.cos (A (ix2 p z))) (Fin.ext (show (l : ℕ) % 32 = (l : ℕ) % 16 by omega))
  · exact congrArg (fun z => Ideal.cos (A (ix2 p z))) (Fin.ext (show (l : ℕ) % 32 - 16 = (l : ℕ) % 16 by omega))

theorem sin_at (A : FVec Ideal S2048x16 .f32) (p : Fin 2048) (l : Fin 128) :
    shapeCast S2048x128 (broadcastInDim S1x2048x4x32 ![0, 1, 2, 3] bcast_S1x2048x1x32_S1x2048x4x32_0_1_2_3
      (shapeCast S1x2048x1x32 (concatenate S2048x32 1 [⟨S2048x16, Host.negf (Host.sin A)⟩, ⟨S2048x16, Host.sin A⟩] concatenates_S2048x16_S2048x16_S2048x32_d1) shapeCasts_S2048x32_S1x2048x1x32)) shapeCasts_S1x2048x4x32_S2048x128 (ix2 p l)
      = if (l : ℕ) % 32 < 16 then -Ideal.sin (A (ix2 p ⟨(l : ℕ) % 16, by omega⟩)) else Ideal.sin (A (ix2 p ⟨(l : ℕ) % 16, by omega⟩)) := by
  pointwise
  refine dstep (fun h => ?_) fun h => ?_
  · rw [if_pos h]
    exact congrArg (fun z => -Ideal.sin (A (ix2 p z))) (Fin.ext (show (l : ℕ) % 32 = (l : ℕ) % 16 by omega))
  · rw [if_neg h]
    exact congrArg (fun z => Ideal.sin (A (ix2 p z))) (Fin.ext (show (l : ℕ) % 32 - 16 = (l : ℕ) % 16 by omega))

variable (m : (ℓ : Loc nD τ sig) → Buf (Elt Ideal) ℓ) (c : Dev nD)

/-- The residual stream. -/
abbrev aX : FVec Ideal S8x2048x1024 .f32 := m ((c : Thread nD τ).loc main_arg0)
/-- The first mixer's output. -/
abbrev aA : FVec Ideal S8x2048x512 .f32 := m ((c : Thread nD τ).loc main_arg1)
/-- The second mixer's output. -/
abbrev aB : FVec Ideal S8x2048x512 .f32 := m ((c : Thread nD τ).loc main_arg2)
/-- The first layer's modulation. -/
abbrev aM : FVec Ideal S8x3072 .f32 := m ((c : Thread nD τ).loc main_arg3)
/-- The second layer's modulation. -/
abbrev aN : FVec Ideal S8x3072 .f32 := m ((c : Thread nD τ).loc main_arg4)
/-- The output weights. -/
abbrev aO : FVec Ideal S1024x1024 .f32 := m ((c : Thread nD τ).loc main_arg5)
/-- The norm's gain. -/
abbrev aG : FVec Ideal S1024 .f32 := m ((c : Thread nD τ).loc main_arg6)
/-- The input weights. -/
abbrev aW : FVec Ideal S1024x1568 .f32 := m ((c : Thread nD τ).loc main_arg7)
/-- The queries' gain. -/
abbrev aQ : FVec Ideal S384 .f32 := m ((c : Thread nD τ).loc main_arg8)
/-- The latents' gain. -/
abbrev aK : FVec Ideal S128 .f32 := m ((c : Thread nD τ).loc main_arg9)
/-- The queries' weights. -/
abbrev aU : FVec Ideal S384x1536 .f32 := m ((c : Thread nD τ).loc main_arg10)
/-- The heads' weights. -/
abbrev aV : FVec Ideal S128x16x64 .f32 := m ((c : Thread nD τ).loc main_arg11)

theorem blk0_at (t : Fin cfg0.N) (r : Fin 256) (k : Fin 1024) :
    (show Vec Ideal S256x1024 .f32 from iblk m c 0 t) (ix2 r k) = aX m c (ix3 (bat (row t r)) (pos (row t r)) k) := by
  refine Eq.trans ?_ (x_at _ _ _)
  blk_simp [iblk]
  entry_read
  blk_ext [idxi t, row]

theorem blk1_at (t : Fin cfg0.N) (r : Fin 256) (k : Fin 512) :
    (show Vec Ideal S256x512 .bf16 from iblk m c 1 t) (ix2 r k) = aA m c (ix3 (bat (row t r)) (pos (row t r)) k) := by
  refine Eq.trans ?_ (a_at _ _ _)
  blk_simp [iblk]
  entry_read
  blk_ext [idxi t, row]

theorem blk2_at (t : Fin cfg0.N) (r : Fin 256) (k : Fin 512) :
    (show Vec Ideal S256x512 .bf16 from iblk m c 2 t) (ix2 r k) = aB m c (ix3 (bat (row t r)) (pos (row t r)) k) := by
  refine Eq.trans ?_ (a_at _ _ _)
  blk_simp [iblk]
  entry_read
  blk_ext [idxi t, row]

theorem blk3_at (t : Fin cfg0.N) (k l : Fin 1024) :
    (show Vec Ideal S1024x1024 .bf16 from iblk m c 3 t) (ix2 k l) = aO m c (ix2 k l) := by
  blk_simp [iblk]
  entry_read
  blk_ext [idxi t]

theorem blk4_at (t : Fin cfg0.N) (r : Fin 256) (j : Fin 3) (k : Fin 1024) :
    (show Vec Ideal S1x3x1024 .f32 from iblk m c 4 t) (ix3 0 j k) = aM m c (ix2 (bat (row t r)) ⟨(j : ℕ) * 1024 + k, by omega⟩) := by
  refine Eq.trans ?_ (m_at _ _ _ _)
  blk_simp [iblk]
  entry_read
  blk_ext [idxi t, row, bat]

theorem blk5_at (t : Fin cfg0.N) (r : Fin 256) (j : Fin 3) (k : Fin 1024) :
    (show Vec Ideal S1x3x1024 .f32 from iblk m c 5 t) (ix3 0 j k) = aN m c (ix2 (bat (row t r)) ⟨(j : ℕ) * 1024 + k, by omega⟩) := by
  refine Eq.trans ?_ (m_at _ _ _ _)
  blk_simp [iblk]
  entry_read
  blk_ext [idxi t, row, bat]

theorem blk6_at (t : Fin cfg0.N) (k : Fin 1024) : (show Vec Ideal S1x1024 .f32 from iblk m c 6 t) (ix2 0 k) = aG m c (ix1 k) := by
  refine Eq.trans ?_ (g_at _ _)
  blk_simp [iblk]
  entry_read
  blk_ext [idxi t]

theorem blk8_at (t : Fin cfg0.N) (k : Fin 384) : (show Vec Ideal S1x384 .f32 from iblk m c 8 t) (ix2 0 k) = aQ m c (ix1 k) := by
  refine Eq.trans ?_ (g3_at _ _)
  blk_simp [iblk]
  entry_read
  blk_ext [idxi t]

theorem blk9_at (t : Fin cfg0.N) (k : Fin 128) : (show Vec Ideal S1x128 .f32 from iblk m c 9 t) (ix2 0 k) = aK m c (ix1 k) := by
  refine Eq.trans ?_ (g1_at _ _)
  blk_simp [iblk]
  entry_read
  blk_ext [idxi t]

theorem blk10_at (t : Fin cfg0.N) (k : Fin 384) (j : Fin 1536) :
    (show Vec Ideal S384x1536 .bf16 from iblk m c 10 t) (ix2 k j) = uel (aU m c) k (ucol j) := by
  refine Eq.trans ?_ (uq_at _ _ _)
  blk_simp [iblk]
  entry_read
  blk_ext [idxi t]

theorem blk11_at (t : Fin cfg0.N) (j : Fin 8) (k : Fin 128) (l : Fin 256) :
    (show Vec Ideal S8x128x256 .bf16 from iblk m c 11 t) (ix3 j k l) = bde (aV m c) j k l := by
  refine Eq.trans ?_ (bd_at _ _ _ _)
  blk_simp [iblk]
  entry_read
  blk_ext [idxi t]

theorem blk12_at (t : Fin cfg0.N) (r : Fin 256) (l : Fin 128) :
    (show Vec Ideal S256x128 .f32 from iblk m c 12 t) (ix2 r l) = Ideal.cos (ang (pos (row t r)) ⟨(l : ℕ) % 16, by omega⟩) := by
  rw [← angs_at]
  refine Eq.trans ?_ (cos_at angs _ _)
  blk_simp [iblk]
  entry_read
  blk_ext [idxi t, row, pos]

theorem blk13_at (t : Fin cfg0.N) (r : Fin 256) (l : Fin 128) :
    (show Vec Ideal S256x128 .f32 from iblk m c 13 t) (ix2 r l)
      = if (l : ℕ) % 32 < 16 then -Ideal.sin (ang (pos (row t r)) ⟨(l : ℕ) % 16, by omega⟩) else Ideal.sin (ang (pos (row t r)) ⟨(l : ℕ) % 16, by omega⟩) := by
  rw [← angs_at]
  refine Eq.trans ?_ (sin_at angs _ _)
  blk_simp [iblk]
  entry_read
  blk_ext [idxi t, row, pos]

/-- The buffers' contents just before the weights are put side by side. -/
abbrev at6 (b : Ref sig .tc) : Buf (Elt Ideal) ((c : Thread nD τ).loc b) := StableHlo.upto hostOps0 (fun b => m (c, b)) 6 b

theorem rd0 : at6 m c main_v3 = extractStridedSlice S1024x1024 ![0, 544] (m ((c : Thread nD τ).loc main_arg7)) slices_S1024x1568_S1024x1024_0_544 := by
  unfold at6
  after_reads_simp

theorem rd1 : at6 m c main_v0 = extractStridedSlice S1024x384 ![0, 0] (m ((c : Thread nD τ).loc main_arg7)) slices_S1024x1568_S1024x384_0_0 := by
  unfold at6
  after_reads_simp

theorem rd2 : at6 m c main_v1 = extractStridedSlice S1024x128 ![0, 384] (m ((c : Thread nD τ).loc main_arg7)) slices_S1024x1568_S1024x128_0_384 := by
  unfold at6
  after_reads_simp

theorem rd3 : at6 m c main_v2 = extractStridedSlice S1024x32 ![0, 512] (m ((c : Thread nD τ).loc main_arg7)) slices_S1024x1568_S1024x32_0_512 := by
  unfold at6
  after_reads_simp

theorem rd4 : at6 m c main_v4 = (broadcastInDim S1024x96 ![] bcast_S_S1024x96 (constant S_ .f32 0x00000000#32) : FVec Ideal S1024x96 .f32) := by
  unfold at6
  after_reads_simp

theorem lay_eq : V m c main_v6 = lay (at6 m c main_v3) (at6 m c main_v0) (at6 m c main_v1) (at6 m c main_v2) (at6 m c main_v4) := by
  unfold V
  after_reads_simp
  rfl

theorem blk7_at (t : Fin cfg0.N) (k : Fin 1024) (j : Fin 1664) :
    (show Vec Ideal S1024x1664 .bf16 from iblk m c 7 t) (ix2 k j) = wel (aW m c) k (col j) := by
  refine Eq.trans ?_ (w_at _ _ _)
  rw [← rd0, ← rd1, ← rd2, ← rd3, ← rd4, ← lay_eq]
  blk_simp [iblk]
  blk_ext [idxi t]

end Cert.Kernel4Ideal.Md

end
-- ==== Proof.Mid.Tiles.lean ====
module

public import proofs.«01_k».proof.Proof.Mid.Blk

@[expose] public section

set_option maxRecDepth 16384

noncomputable section

/-! Stores side by side, read at an index. -/

namespace Cert.Kernel4Ideal.Md

open Cert.Kernel4Ideal Cert.Kernel4Ideal.Gen Idealize.ShloMosaic Idealize.ShloMosaic.TcCoe Idealize.SL.Sem
open Idealize.ShloMosaic.Pipeline (Dat)

theorem tiles8 (a0 : FVec Ideal S256x256 .bf16) (a1 : FVec Ideal S256x256 .bf16) (a2 : FVec Ideal S256x256 .bf16) (a3 : FVec Ideal S256x256 .bf16) (a4 : FVec Ideal S256x256 .bf16) (a5 : FVec Ideal S256x256 .bf16) (a6 : FVec Ideal S256x256 .bf16) (a7 : FVec Ideal S256x256 .bf16) (ev : Fin 256 → ℕ → EReal)
    (h0 : ∀ (r : Fin 256) (l : Fin 256), a0 (ix2 r l) = ev r (0 + l))
    (h1 : ∀ (r : Fin 256) (l : Fin 256), a1 (ix2 r l) = ev r (256 + l))
    (h2 : ∀ (r : Fin 256) (l : Fin 256), a2 (ix2 r l) = ev r (512 + l))
    (h3 : ∀ (r : Fin 256) (l : Fin 256), a3 (ix2 r l) = ev r (768 + l))
    (h4 : ∀ (r : Fin 256) (l : Fin 256), a4 (ix2 r l) = ev r (1024 + l))
    (h5 : ∀ (r : Fin 256) (l : Fin 256), a5 (ix2 r l) = ev r (1280 + l))
    (h6 : ∀ (r : Fin 256) (l : Fin 256), a6 (ix2 r l) = ev r (1536 + l))
    (h7 : ∀ (r : Fin 256) (l : Fin 256), a7 (ix2 r l) = ev r (1792 + l))
    (y : S256x2048.Idx) : View.canon (Val := Elt Ideal) (s := S256x2048) (e := .bf16)
      [⟨Rect.unit ![0, 1792] ![256, 256] inb_S256x2048_S256x256_0_1792, a7⟩, ⟨Rect.unit ![0, 1536] ![256, 256] inb_S256x2048_S256x256_0_1536, a6⟩, ⟨Rect.unit ![0, 1280] ![256, 256] inb_S256x2048_S256x256_0_1280, a5⟩, ⟨Rect.unit ![0, 1024] ![256, 256] inb_S256x2048_S256x256_0_1024, a4⟩, ⟨Rect.unit ![0, 768] ![256, 256] inb_S256x2048_S256x256_0_768, a3⟩, ⟨Rect.unit ![0, 512] ![256, 256] inb_S256x2048_S256x256_0_512, a2⟩, ⟨Rect.unit ![0, 256] ![256, 256] inb_S256x2048_S256x256_0_256, a1⟩, ⟨Rect.unit ![0, 0] ![256, 256] inb_S256x2048_S256x256_0_0, a0⟩] y = ev (y 0) (y 1 : Fin 2048) := by
  canon_tiles x g using (View.cover_of_tiledBy _ ![256, 256] (by sl_kernel_rfl) y)
  · have e0 : (y 0 : Fin 256) = x 0 := Fin.ext g0
    rw [e0, show ((y 1 : Fin 2048) : ℕ) = 1792 + ((x 1 : Fin 256) : ℕ) by have := g1; omega]
    exact (congrArg a7 (eq_ix2 x)).trans (h7 (x 0) (x 1))
  · have e0 : (y 0 : Fin 256) = x 0 := Fin.ext g0
    rw [e0, show ((y 1 : Fin 2048) : ℕ) = 1536 + ((x 1 : Fin 256) : ℕ) by have := g1; omega]
    exact (congrArg a6 (eq_ix2 x)).trans (h6 (x 0) (x 1))
  · have e0 : (y 0 : Fin 256) = x 0 := Fin.ext g0
    rw [e0, show ((y 1 : Fin 2048) : ℕ) = 1280 + ((x 1 : Fin 256) : ℕ) by have := g1; omega]
    exact (congrArg a5 (eq_ix2 x)).trans (h5 (x 0) (x 1))
  · have e0 : (y 0 : Fin 256) = x 0 := Fin.ext g0
    rw [e0, show ((y 1 : Fin 2048) : ℕ) = 1024 + ((x 1 : Fin 256) : ℕ) by have := g1; omega]
    exact (congrArg a4 (eq_ix2 x)).trans (h4 (x 0) (x 1))
  · have e0 : (y 0 : Fin 256) = x 0 := Fin.ext g0
    rw [e0, show ((y 1 : Fin 2048) : ℕ) = 768 + ((x 1 : Fin 256) : ℕ) by have := g1; omega]
    exact (congrArg a3 (eq_ix2 x)).trans (h3 (x 0) (x 1))
  · have e0 : (y 0 : Fin 256) = x 0 := Fin.ext g0
    rw [e0, show ((y 1 : Fin 2048) : ℕ) = 512 + ((x 1 : Fin 256) : ℕ) by have := g1; omega]
    exact (congrArg a2 (eq_ix2 x)).trans (h2 (x 0) (x 1))
  · have e0 : (y 0 : Fin 256) = x 0 := Fin.ext g0
    rw [e0, show ((y 1 : Fin 2048) : ℕ) = 256 + ((x 1 : Fin 256) : ℕ) by have := g1; omega]
    exact (congrArg a1 (eq_ix2 x)).trans (h1 (x 0) (x 1))
  · have e0 : (y 0 : Fin 256) = x 0 := Fin.ext g0
    rw [e0, show ((y 1 : Fin 2048) : ℕ) = 0 + ((x 1 : Fin 256) : ℕ) by have := g1; omega]
    exact (congrArg a0 (eq_ix2 x)).trans (h0 (x 0) (x 1))

theorem tiles4 (a0 : FVec Ideal S256x128 .bf16) (a1 : FVec Ideal S256x128 .bf16) (a2 : FVec Ideal S256x128 .bf16) (a3 : FVec Ideal S256x128 .bf16) (ev : Fin 256 → ℕ → EReal)
    (h0 : ∀ (r : Fin 256) (l : Fin 128), a0 (ix2 r l) = ev r (0 + l))
    (h1 : ∀ (r : Fin 256) (l : Fin 128), a1 (ix2 r l) = ev r (128 + l))
    (h2 : ∀ (r : Fin 256) (l : Fin 128), a2 (ix2 r l) = ev r (256 + l))
    (h3 : ∀ (r : Fin 256) (l : Fin 128), a3 (ix2 r l) = ev r (384 + l))
    (y : S256x512.Idx) : View.canon (Val := Elt Ideal) (s := S256x512) (e := .bf16)
      [⟨Rect.unit ![0, 384] ![256, 128] inb_S256x512_S256x128_0_384, a3⟩, ⟨Rect.unit ![0, 256] ![256, 128] inb_S256x512_S256x128_0_256, a2⟩, ⟨Rect.unit ![0, 128] ![256, 128] inb_S256x512_S256x128_0_128, a1⟩, ⟨Rect.unit ![0, 0] ![256, 128] inb_S256x512_S256x128_0_0, a0⟩] y = ev (y 0) (y 1 : Fin 512) := by
  canon_tiles x g using (View.cover_of_tiledBy _ ![256, 128] (by sl_kernel_rfl) y)
  · have e0 : (y 0 : Fin 256) = x 0 := Fin.ext g0
    rw [e0, show ((y 1 : Fin 512) : ℕ) = 384 + ((x 1 : Fin 128) : ℕ) by have := g1; omega]
    exact (congrArg a3 (eq_ix2 x)).trans (h3 (x 0) (x 1))
  · have e0 : (y 0 : Fin 256) = x 0 := Fin.ext g0
    rw [e0, show ((y 1 : Fin 512) : ℕ) = 256 + ((x 1 : Fin 128) : ℕ) by have := g1; omega]
    exact (congrArg a2 (eq_ix2 x)).trans (h2 (x 0) (x 1))
  · have e0 : (y 0 : Fin 256) = x 0 := Fin.ext g0
    rw [e0, show ((y 1 : Fin 512) : ℕ) = 128 + ((x 1 : Fin 128) : ℕ) by have := g1; omega]
    exact (congrArg a1 (eq_ix2 x)).trans (h1 (x 0) (x 1))
  · have e0 : (y 0 : Fin 256) = x 0 := Fin.ext g0
    rw [e0, show ((y 1 : Fin 512) : ℕ) = 0 + ((x 1 : Fin 128) : ℕ) by have := g1; omega]
    exact (congrArg a0 (eq_ix2 x)).trans (h0 (x 0) (x 1))

theorem tiles2 (a0 : FVec Ideal S256x128 .bf16) (a1 : FVec Ideal S256x128 .bf16) (ev : Fin 256 → ℕ → EReal)
    (h0 : ∀ (r : Fin 256) (l : Fin 128), a0 (ix2 r l) = ev r (0 + l))
    (h1 : ∀ (r : Fin 256) (l : Fin 128), a1 (ix2 r l) = ev r (128 + l))
    (y : S256x256.Idx) : View.canon (Val := Elt Ideal) (s := S256x256) (e := .bf16)
      [⟨Rect.unit ![0, 128] ![256, 128] inb_S256x256_S256x128_0_128, a1⟩, ⟨Rect.unit ![0, 0] ![256, 128] inb_S256x256_S256x128_0_0, a0⟩] y = ev (y 0) (y 1 : Fin 256) := by
  canon_tiles x g using (View.cover_of_tiledBy _ ![256, 128] (by sl_kernel_rfl) y)
  · have e0 : (y 0 : Fin 256) = x 0 := Fin.ext g0
    rw [e0, show ((y 1 : Fin 256) : ℕ) = 128 + ((x 1 : Fin 128) : ℕ) by have := g1; omega]
    exact (congrArg a1 (eq_ix2 x)).trans (h1 (x 0) (x 1))
  · have e0 : (y 0 : Fin 256) = x 0 := Fin.ext g0
    rw [e0, show ((y 1 : Fin 256) : ℕ) = 0 + ((x 1 : Fin 128) : ℕ) by have := g1; omega]
    exact (congrArg a0 (eq_ix2 x)).trans (h0 (x 0) (x 1))

end Cert.Kernel4Ideal.Md

end
-- ==== Proof.Mid.Point.lean ====
module

public import proofs.«01_k».proof.Proof.Mid.Tiles

@[expose] public section

set_option maxRecDepth 16384

noncomputable section

/-! What a grid point of the middle call leaves in its outputs' blocks. -/

namespace Cert.Kernel4Ideal.Md

open Cert.Kernel4Ideal Cert.Kernel4Ideal.Gen Idealize.ShloMosaic Idealize.ShloMosaic.TcCoe Idealize.SL.Sem
open Idealize.ShloMosaic.Pipeline (Dat)

/-- The arguments of the middle call. -/
structure Args where
  /-- The residual stream. -/
  X : FVec Ideal S8x2048x1024 .f32
  /-- The first mixer's output. -/
  A : FVec Ideal S8x2048x512 .f32
  /-- The second mixer's output. -/
  B : FVec Ideal S8x2048x512 .f32
  /-- The first layer's modulation. -/
  M : FVec Ideal S8x3072 .f32
  /-- The second layer's modulation. -/
  N : FVec Ideal S8x3072 .f32
  /-- The output weights. -/
  O : FVec Ideal S1024x1024 .f32
  /-- The norm's gain. -/
  G : FVec Ideal S1024 .f32
  /-- The input weights. -/
  W : FVec Ideal S1024x1568 .f32
  /-- The queries' gain. -/
  Q : FVec Ideal S384 .f32
  /-- The latents' gain. -/
  K : FVec Ideal S128 .f32
  /-- The queries' weights. -/
  U : FVec Ideal S384x1536 .f32
  /-- The heads' weights. -/
  V : FVec Ideal S128x16x64 .f32

section spec

variable (a : Args)

/-- The residual stream after the first layer. -/
def x1 (n : Fin 16384) (d : Fin 1024) : EReal :=
  a.X (ix3 (bat n) (pos n) d) + a.M (ix2 (bat n) ⟨2048 + d, by omega⟩)
    * ((∑ k : Fin 512, a.A (ix3 (bat n) (pos n) k) * a.O (ix2 ⟨k, by omega⟩ d)) + ∑ k : Fin 512, a.B (ix3 (bat n) (pos n) k) * a.O (ix2 ⟨512 + k, by omega⟩ d))

/-- The same at a column of any number. -/
def x1n (n : Fin 16384) (j : ℕ) : EReal := if h : j < 1024 then x1 a n ⟨j, h⟩ else 0

/-- The normalised and modulated row. -/
def hd (n : Fin 16384) (k : Fin 1024) : EReal :=
  nrm (x1 a n) (fun k => a.G (ix1 k)) (fun k => a.N (ix2 (bat n) ⟨k, by omega⟩)) (fun k => a.N (ix2 (bat n) ⟨1024 + k, by omega⟩)) k

/-- Its projection on a column of the weights. -/
def pr (n : Fin 16384) (j : ℕ) : EReal := ∑ k : Fin 1024, hd a n k * wel a.W k j

/-- The queries' latents. -/
def cq (n : Fin 16384) (i : Fin 384) : EReal := rms (Ideal.ofBits .f32 0x43C00000#32) (fun i : Fin 384 => pr a n i) (fun i => a.Q (ix1 i)) i

/-- The keys' latents. -/
def ck (n : Fin 16384) (i : Fin 128) : EReal := rms (Ideal.ofBits .f32 0x43000000#32) (fun i : Fin 128 => pr a n (384 + i)) (fun i => a.K (ix1 i)) i

/-- The same at a column of any number. -/
def ckn (n : Fin 16384) (j : ℕ) : EReal := if h : j < 128 then ck a n ⟨j, h⟩ else 0

/-- The queries. -/
def qf (n : Fin 16384) (j : ℕ) : EReal := ∑ i : Fin 384, cq a n i * uel a.U i j

/-- The latent queries, scaled. -/
def ql (n : Fin 16384) (j : ℕ) : EReal :=
  if h : j < 2048 then (∑ k : Fin 64, qf a n (j / 128 * 96 + k) * a.V (ix3 ⟨j % 128, by omega⟩ ⟨j / 128, by omega⟩ k)) * cs else 0

/-- Columns rotated by a position, in heads of 32. -/
def rot (p : Fin 2048) (f : ℕ → EReal) (c : ℕ) : EReal :=
  f c * Ideal.cos (ang p ⟨c % 16, by omega⟩)
    + (if c % 32 < 16 then f (c + 16) else f (c - 16)) * (if c % 32 < 16 then -Ideal.sin (ang p ⟨c % 16, by omega⟩) else Ideal.sin (ang p ⟨c % 16, by omega⟩))

/-- The rotated queries, scaled. -/
def qr (n : Fin 16384) (c : ℕ) : EReal := rot (pos n) (fun c => qf a n (c / 32 * 96 + 64 + c % 32)) c * cs

/-- The rotated key. -/
def kr (n : Fin 16384) (c : ℕ) : EReal := rot (pos n) (fun c => pr a n (512 + c)) c

/-- The keys. -/
def kc (n : Fin 16384) (j : ℕ) : EReal := if j < 128 then ckn a n j else kr a n (j % 32)

/-- The rotated key with zeros after it. -/
def kz (n : Fin 16384) (l : ℕ) : EReal := if l < 32 then kr a n l else 0

theorem x1_n (n : Fin 16384) (d : Fin 1024) : x1 a n d = x1n a n d := by
  rw [x1n, dif_pos d.isLt]

theorem ck_n (n : Fin 16384) (i : Fin 128) : ck a n i = ckn a n i := by
  rw [ckn, dif_pos i.isLt]

theorem pr_past (n : Fin 16384) : pr a n 1568 = 0 := by
  rw [pr]
  exact Finset.sum_eq_zero fun k _ => by rw [wel, dif_neg (lt_irrefl _), mul_zero]

theorem rot_shift (p : Fin 2048) (f : ℕ → EReal) (o l : ℕ) (ho : o % 32 = 0) : rot p (fun c => f (o + c)) l = rot p f (o + l) := by
  have e1 : (⟨(o + l) % 16, by omega⟩ : Fin 16) = ⟨l % 16, by omega⟩ := Fin.ext (show (o + l) % 16 = l % 16 by omega)
  have e2 : (o + l) % 32 = l % 32 := by omega
  unfold rot
  dsimp only
  rw [e1, e2]
  by_cases h : l % 32 < 16
  · rw [if_pos h, if_pos h, if_pos h, Nat.add_assoc]
  · rw [if_neg h, if_neg h, if_neg h, show o + l - 16 = o + (l - 16) by omega]

theorem rt_eq {p co si : FVec Ideal S256x128 .f32} {r : Fin 256} {P : Fin 2048} (f : ℕ → EReal) (hp : ∀ l : Fin 128, p (ix2 r l) = f l)
    (hc : ∀ l : Fin 128, co (ix2 r l) = Ideal.cos (ang P ⟨(l : ℕ) % 16, by omega⟩))
    (hs : ∀ l : Fin 128, si (ix2 r l) = if (l : ℕ) % 32 < 16 then -Ideal.sin (ang P ⟨(l : ℕ) % 16, by omega⟩) else Ideal.sin (ang P ⟨(l : ℕ) % 16, by omega⟩))
    (l : Fin 128) : rt p co si (ix2 r l) = rot P f l := by
  have hl := l.isLt
  rw [rt_at, hc, hs, hp, rot]
  by_cases h : (l : ℕ) % 32 < 16
  · have e3 : ((l : ℕ) + 16) % 128 = (l : ℕ) + 16 := by omega
    rw [if_pos h, if_pos h, if_pos h, hp]
    dsimp only
    rw [e3]
  · have e3 : ((l : ℕ) + 112) % 128 = (l : ℕ) - 16 := by omega
    rw [if_neg h, if_neg h, if_neg h, hp]
    dsimp only
    rw [e3]

end spec

theorem ldO (Y : Vec Ideal S1024x1024 .bf16) (o : ℕ) (ho : o + 512 ≤ 1024) (inb : ∀ a, ![o, 0] a + ![512, 1024] a ≤ S1024x1024.size a) (k : Fin 512) (l : Fin 1024) :
    (View.ld Y (Rect.unit ![o, 0] ![512, 1024] inb) : Vec Ideal S512x1024 .bf16) (ix2 k l) = Y (ix2 ⟨o + k, by omega⟩ l) := by
  refine View.ld_unit_apply_of _ _ _ _ _ _ fun d => ?_
  fin_cases d <;> simp

theorem ldM (Y : Vec Ideal S1x3x1024 .f32) (j : ℕ) (hj : j < 3) (inb : ∀ a, ![0, j, 0] a + ![1, 1, 1024] a ≤ S1x3x1024.size a) (k : Fin 1024) :
    (View.ld Y (Rect.unit ![0, j, 0] ![1, 1, 1024] inb) : Vec Ideal S1x1x1024 .f32) (ix3 0 0 k) = Y (ix3 0 ⟨j, hj⟩ k) := by
  refine View.ld_unit_apply_of _ _ _ _ _ _ fun d => ?_
  fin_cases d <;> simp

theorem ldW1024 (Y : Vec Ideal S1024x1664 .bf16) (o : ℕ) (ho : o + 1024 ≤ 1664) (inb : ∀ a, ![0, o] a + ![1024, 1024] a ≤ S1024x1664.size a) (k : Fin 1024) (l : Fin 1024) :
    (View.ld Y (Rect.unit ![0, o] ![1024, 1024] inb) : Vec Ideal S1024x1024 .bf16) (ix2 k l) = Y (ix2 k ⟨o + l, by omega⟩) := by
  refine View.ld_unit_apply_of _ _ _ _ _ _ fun d => ?_
  fin_cases d <;> simp

theorem ldW384 (Y : Vec Ideal S1024x1664 .bf16) (o : ℕ) (ho : o + 384 ≤ 1664) (inb : ∀ a, ![0, o] a + ![1024, 384] a ≤ S1024x1664.size a) (k : Fin 1024) (l : Fin 384) :
    (View.ld Y (Rect.unit ![0, o] ![1024, 384] inb) : Vec Ideal S1024x384 .bf16) (ix2 k l) = Y (ix2 k ⟨o + l, by omega⟩) := by
  refine View.ld_unit_apply_of _ _ _ _ _ _ fun d => ?_
  fin_cases d <;> simp

theorem ldW128 (Y : Vec Ideal S1024x1664 .bf16) (o : ℕ) (ho : o + 128 ≤ 1664) (inb : ∀ a, ![0, o] a + ![1024, 128] a ≤ S1024x1664.size a) (k : Fin 1024) (l : Fin 128) :
    (View.ld Y (Rect.unit ![0, o] ![1024, 128] inb) : Vec Ideal S1024x128 .bf16) (ix2 k l) = Y (ix2 k ⟨o + l, by omega⟩) := by
  refine View.ld_unit_apply_of _ _ _ _ _ _ fun d => ?_
  fin_cases d <;> simp

theorem ldU1024 (Y : Vec Ideal S384x1536 .bf16) (o : ℕ) (ho : o + 1024 ≤ 1536) (inb : ∀ a, ![0, o] a + ![384, 1024] a ≤ S384x1536.size a) (k : Fin 384) (l : Fin 1024) :
    (View.ld Y (Rect.unit ![0, o] ![384, 1024] inb) : Vec Ideal S384x1024 .bf16) (ix2 k l) = Y (ix2 k ⟨o + l, by omega⟩) := by
  refine View.ld_unit_apply_of _ _ _ _ _ _ fun d => ?_
  fin_cases d <;> simp

theorem ldU512 (Y : Vec Ideal S384x1536 .bf16) (o : ℕ) (ho : o + 512 ≤ 1536) (inb : ∀ a, ![0, o] a + ![384, 512] a ≤ S384x1536.size a) (k : Fin 384) (l : Fin 512) :
    (View.ld Y (Rect.unit ![0, o] ![384, 512] inb) : Vec Ideal S384x512 .bf16) (ix2 k l) = Y (ix2 k ⟨o + l, by omega⟩) := by
  refine View.ld_unit_apply_of _ _ _ _ _ _ fun d => ?_
  fin_cases d <;> simp

theorem ldV (Y : Vec Ideal S8x128x256 .bf16) (j : ℕ) (hj : j < 8) (inb : ∀ a, ![j, 0, 0] a + ![1, 128, 256] a ≤ S8x128x256.size a) (k : Fin 128) (l : Fin 256) :
    (View.ld Y (Rect.unit ![j, 0, 0] ![1, 128, 256] inb) : Vec Ideal S1x128x256 .bf16) (ix3 0 k l) = Y (ix3 ⟨j, hj⟩ k l) := by
  refine View.ld_unit_apply_of _ _ _ _ _ _ fun d => ?_
  fin_cases d <;> simp

theorem pay11_eq (Q : FVec Ideal S256x384 .bf16) (B : Vec Ideal S384x1024 .bf16) (D : Vec Ideal S1x128x256 .bf16) (r l : Fin 256) :
    k0_pay11 (F := Ideal) Q B D (ix2 r l) = lt2 (extractStridedSlice S256x128 ![0, 0] (k0_pay10 (F := Ideal) Q B) slices_S256x1024_o0_0_S256x128) D (ix2 r l) * cs := rfl
theorem pay12_eq (Q : FVec Ideal S256x384 .bf16) (B : Vec Ideal S384x1024 .bf16) (D : Vec Ideal S1x128x256 .bf16) (r l : Fin 256) :
    k0_pay12 (F := Ideal) Q B D (ix2 r l) = lt2 (extractStridedSlice S256x128 ![0, 128] (k0_pay10 (F := Ideal) Q B) slices_S256x1024_o0_128_S256x128) D (ix2 r l) * cs := rfl
theorem pay13_eq (Q : FVec Ideal S256x384 .bf16) (B : Vec Ideal S384x1024 .bf16) (D : Vec Ideal S1x128x256 .bf16) (r l : Fin 256) :
    k0_pay13 (F := Ideal) Q B D (ix2 r l) = lt2 (extractStridedSlice S256x128 ![0, 256] (k0_pay10 (F := Ideal) Q B) slices_S256x1024_o0_256_S256x128) D (ix2 r l) * cs := rfl
theorem pay15_eq (Q : FVec Ideal S256x384 .bf16) (B : Vec Ideal S384x1024 .bf16) (D : Vec Ideal S1x128x256 .bf16) (r l : Fin 256) :
    k0_pay15 (F := Ideal) (k0_pay14 (F := Ideal) Q B) D (ix2 r l) = lt2 (extractStridedSlice S256x128 ![0, 384] (k0_pay10 (F := Ideal) Q B) slices_S256x1024_o0_384_S256x128) D (ix2 r l) * cs := rfl
theorem pay16_eq (Z : FVec Ideal S256x1024 .bf16) (D : Vec Ideal S1x128x256 .bf16) (r l : Fin 256) :
    k0_pay16 (F := Ideal) Z D (ix2 r l) = lt2 (extractStridedSlice S256x128 ![0, 512] Z slices_S256x1024_o0_512_S256x128) D (ix2 r l) * cs := rfl
theorem pay17_eq (Z : FVec Ideal S256x1024 .bf16) (D : Vec Ideal S1x128x256 .bf16) (r l : Fin 256) :
    k0_pay17 (F := Ideal) Z D (ix2 r l) = lt2 (extractStridedSlice S256x128 ![0, 640] Z slices_S256x1024_o0_640_S256x128) D (ix2 r l) * cs := rfl
theorem pay18_eq (Z : FVec Ideal S256x1024 .bf16) (D : Vec Ideal S1x128x256 .bf16) (r l : Fin 256) :
    k0_pay18 (F := Ideal) Z D (ix2 r l) = lt2 (extractStridedSlice S256x128 ![0, 768] Z slices_S256x1024_o0_768_S256x128) D (ix2 r l) * cs := rfl
theorem pay19_eq (Z : FVec Ideal S256x1024 .bf16) (D : Vec Ideal S1x128x256 .bf16) (r l : Fin 256) :
    k0_pay20 (F := Ideal) (k0_pay19 (F := Ideal) Z) D (ix2 r l) = lt2 (extractStridedSlice S256x128 ![0, 896] Z slices_S256x1024_o0_896_S256x128) D (ix2 r l) * cs := rfl

theorem pay22'_eq (co si : FVec Ideal S256x128 .f32) (Q : FVec Ideal S256x384 .bf16) (B : Vec Ideal S384x512 .bf16) (r : Fin 256) (l : Fin 128) :
    k0_pay22 (F := Ideal) co si Q B (ix2 r l) = rt (extractStridedSlice S256x128 ![0, 0] (k0_pay21 (F := Ideal) Q B) slices_S256x512_o0_0_S256x128) co si (ix2 r l) * cs := rfl
theorem pay26_eq (co si : FVec Ideal S256x128 .f32) (Q : FVec Ideal S256x384 .bf16) (B : Vec Ideal S384x512 .bf16) (r : Fin 256) (l : Fin 128) :
    k0_pay26 (F := Ideal) (k0_pay24 (F := Ideal) co Q B) (k0_pay25 (F := Ideal) si Q B) (ix2 r l) = rt (extractStridedSlice S256x128 ![0, 128] (k0_pay21 (F := Ideal) Q B) slices_S256x512_o0_128_S256x128) co si (ix2 r l) * cs := rfl
theorem pay27_eq (co si : FVec Ideal S256x128 .f32) (Z : FVec Ideal S256x512 .f32) (r : Fin 256) (l : Fin 128) :
    k0_pay27 (F := Ideal) co si Z (ix2 r l) = rt (extractStridedSlice S256x128 ![0, 256] Z slices_S256x512_o0_256_S256x128) co si (ix2 r l) * cs := rfl

theorem pay8_eq (Y : FVec Ideal S256x1024 .f32) (sh sc : Vec Ideal S1x1x1024 .f32) (B : Vec Ideal S1024x1024 .bf16) (r : Fin 256) (l : Fin 1024) :
    k0_pay8 (F := Ideal) Y sh sc B (ix2 r l) = pg (k0_pay5 (F := Ideal) Y sh sc) B (ix2 r l) := rfl

theorem pay6_id (Y : Vec Ideal S256x128 .f32) (r : Fin 256) (l : Fin 128) : k0_pay6 (F := Ideal) Y (ix2 r l) = Y (ix2 r l) := by
  pointwise [k0_pay6]
theorem pay7_id (Y : Vec Ideal S256x128 .f32) (r : Fin 256) (l : Fin 128) : k0_pay7 (F := Ideal) Y (ix2 r l) = Y (ix2 r l) := by
  pointwise [k0_pay7]

theorem rep_eq (A : FVec Ideal S256x1024 .bf16) (co si : FVec Ideal S256x128 .f32) (B : Vec Ideal S1024x128 .bf16) (r : Fin 256) (l : Fin 128) :
    k0_pay2 (F := Ideal) (k0_pay31 (F := Ideal) A co si B) (k0_pay32 (F := Ideal) A co si B) (ix2 r l)
      = msk (rt (ps A B) co si) (ix2 r l) + msk (rt (ps A B) co si) (ix2 r ⟨((l : ℕ) + 96) % 128, by omega⟩)
        + msk (rt (ps A B) co si) (ix2 r ⟨((l : ℕ) + 64) % 128, by omega⟩) + msk (rt (ps A B) co si) (ix2 r ⟨((l : ℕ) + 32) % 128, by omega⟩) :=
  rep_at (k0_pay31 (F := Ideal) A co si B) r l

theorem sl8 (Z : FVec Ideal S256x1024 .bf16) (o : ℕ) (ho : o + 128 ≤ 1024) (h : S256x1024.Slices ![0, o] S256x128) (r : Fin 256) (k : Fin 128) :
    extractStridedSlice S256x128 ![0, o] Z h (ix2 r k) = Z (ix2 r ⟨o + k, by omega⟩) := by
  refine congrArg Z (funext fun d => Fin.ext ?_)
  fin_cases d <;> simp
theorem sl4 (Z : FVec Ideal S256x512 .f32) (o : ℕ) (ho : o + 128 ≤ 512) (h : S256x512.Slices ![0, o] S256x128) (r : Fin 256) (k : Fin 128) :
    extractStridedSlice S256x128 ![0, o] Z h (ix2 r k) = Z (ix2 r ⟨o + k, by omega⟩) := by
  refine congrArg Z (funext fun d => Fin.ext ?_)
  fin_cases d <;> simp

variable (m : (ℓ : Loc nD τ sig) → Buf (Elt Ideal) ℓ) (c : Dev nD) (t : Fin cfg0.N)

/-- The arguments a device holds. -/
def ka : Args := ⟨aX m c, aA m c, aB m c, aM m c, aN m c, aO m c, aG m c, aW m c, aQ m c, aK m c, aU m c, aV m c⟩

/-- A grid point's rows after the first layer. -/
def xb : FVec Ideal S256x1024 .f32 := k0_pay3 (iblk m c 1 t)
  (View.ld (iblk m c 3 t : Vec Ideal S1024x1024 .bf16) (Rect.unit ![0, 0] ![512, 1024] inb_S1024x1024_S512x1024_0_0)) (iblk m c 2 t)
  (View.ld (iblk m c 3 t : Vec Ideal S1024x1024 .bf16) (Rect.unit ![512, 0] ![512, 1024] inb_S1024x1024_S512x1024_512_0)) (iblk m c 0 t)
  (View.ld (iblk m c 4 t : Vec Ideal S1x3x1024 .f32) (Rect.unit ![0, 2, 0] ![1, 1, 1024] inb_S1x3x1024_S1x1x1024_0_2_0))

theorem xb_at (r : Fin 256) (d : Fin 1024) : xb m c t (ix2 r d) = x1 (ka m c) (row t r) d := by
  rw [xb, pay3_at, x1]
  refine congrArg₂ _ (blk0_at m c t r d) (congrArg₂ _ ((ldM _ 2 (by decide) _ d).trans (blk4_at m c t r 2 d)) (congrArg₂ _ (Finset.sum_congr rfl fun k _ => ?_) (Finset.sum_congr rfl fun k _ => ?_)))
  · exact congrArg₂ _ (blk1_at m c t r k) ((ldO _ 0 (by decide) _ k d).trans ((blk3_at m c t _ d).trans (congrArg (fun z => aO m c (ix2 z d)) (Fin.ext (Nat.zero_add _)))))
  · exact congrArg₂ _ (blk2_at m c t r k) ((ldO _ 512 (by decide) _ k d).trans (blk3_at m c t _ d))

/-- Its normalised rows. -/
def hb : FVec Ideal S256x1024 .bf16 := k0_pay5 (nm (xb m c t) (iblk m c 6 t))
  (View.ld (iblk m c 5 t : Vec Ideal S1x3x1024 .f32) (Rect.unit ![0, 0, 0] ![1, 1, 1024] inb_S1x3x1024_S1x1x1024_0_0_0))
  (View.ld (iblk m c 5 t : Vec Ideal S1x3x1024 .f32) (Rect.unit ![0, 1, 0] ![1, 1, 1024] inb_S1x3x1024_S1x1x1024_0_1_0))

theorem hb_at (r : Fin 256) (k : Fin 1024) : hb m c t (ix2 r k) = hd (ka m c) (row t r) k := by
  rw [hb, pay5_at, nm_at, hd, nrm]
  refine congrArg₂ _ (congrArg₂ _ (congrArg₂ (fun a b => rms (Ideal.ofBits .f32 0x44800000#32) a b k) (funext fun k => xb_at m c t r k) (funext fun k => blk6_at m c t k)) (congrArg _ ?_)) ?_
  · exact (ldM _ 1 (by decide) _ k).trans ((blk5_at m c t r 1 k).trans (congrArg (fun z => aN m c (ix2 _ z)) (Fin.ext (by show 1 * 1024 + (k : ℕ) = 1024 + k; omega))))
  · exact (ldM _ 0 (by decide) _ k).trans ((blk5_at m c t r 0 k).trans (congrArg (fun z => aN m c (ix2 _ z)) (Fin.ext (by show 0 * 1024 + (k : ℕ) = k; omega))))

theorem tpg (r : Fin 256) (l : Fin 1024) :
    pg (hb m c t) (View.ld (iblk m c 7 t : Vec Ideal S1024x1664 .bf16) (Rect.unit ![0, 0] ![1024, 1024] inb_S1024x1664_S1024x1024_0_0)) (ix2 r l) = pr (ka m c) (row t r) (544 + (l : ℕ)) := by
  have hl := l.isLt
  have e : col (0 + (l : ℕ)) = 544 + (l : ℕ) := by unfold col; split_ifs <;> omega
  rw [pg_at, pr]
  refine Finset.sum_congr rfl fun k _ => congrArg₂ _ (hb_at m c t r k) ((ldW1024 _ 0 (by decide) _ k l).trans ((blk7_at m c t k _).trans ?_))
  dsimp only
  rw [e]
  rfl

theorem tpq (r : Fin 256) (l : Fin 384) :
    pq (hb m c t) (View.ld (iblk m c 7 t : Vec Ideal S1024x1664 .bf16) (Rect.unit ![0, 1024] ![1024, 384] inb_S1024x1664_S1024x384_0_1024)) (ix2 r l) = pr (ka m c) (row t r) ((l : ℕ)) := by
  have hl := l.isLt
  have e : col (1024 + (l : ℕ)) = (l : ℕ) := by unfold col; split_ifs <;> omega
  rw [pq_at, pr]
  refine Finset.sum_congr rfl fun k _ => congrArg₂ _ (hb_at m c t r k) ((ldW384 _ 1024 (by decide) _ k l).trans ((blk7_at m c t k _).trans ?_))
  dsimp only
  rw [e]
  rfl

theorem tps (o : ℕ) (ho : o + 128 ≤ 1664) (inb : ∀ a, ![0, o] a + ![1024, 128] a ≤ S1024x1664.size a) (r : Fin 256) (l : Fin 128) (j : ℕ) (e : col (o + (l : ℕ)) = j) :
    ps (hb m c t) (View.ld (iblk m c 7 t : Vec Ideal S1024x1664 .bf16) (Rect.unit ![0, o] ![1024, 128] inb)) (ix2 r l) = pr (ka m c) (row t r) j := by
  rw [ps_at, pr]
  refine Finset.sum_congr rfl fun k _ => congrArg₂ _ (hb_at m c t r k) ((ldW128 _ o ho _ k l).trans ((blk7_at m c t k _).trans ?_))
  dsimp only
  rw [e]
  rfl

/-- Its queries' latents. -/
def qb : FVec Ideal S256x384 .bf16 :=
  nq (pq (hb m c t) (View.ld (iblk m c 7 t : Vec Ideal S1024x1664 .bf16) (Rect.unit ![0, 1024] ![1024, 384] inb_S1024x1664_S1024x384_0_1024))) (iblk m c 8 t)

theorem qb_at (r : Fin 256) (i : Fin 384) : qb m c t (ix2 r i) = cq (ka m c) (row t r) i := by
  rw [qb, nq_at, cq]
  exact congrArg₂ (fun a b => rms (Ideal.ofBits .f32 0x43C00000#32) a b i) (funext fun k => tpq m c t r k) (funext fun k => blk8_at m c t k)

theorem un_at (r : Fin 256) (l : Fin 1024) :
    k0_pay10 (F := Ideal) (qb m c t) (View.ld (iblk m c 10 t : Vec Ideal S384x1536 .bf16) (Rect.unit ![0, 0] ![384, 1024] inb_S384x1536_S384x1024_0_0)) (ix2 r l)
      = qf (ka m c) (row t r) ((l : ℕ) / 64 * 96 + (l : ℕ) % 64) := by
  have hl := l.isLt
  have e : ucol (0 + (l : ℕ)) = (l : ℕ) / 64 * 96 + (l : ℕ) % 64 := by rw [Nat.zero_add, ucol, if_pos hl]
  rw [pay10_at, qf]
  refine Finset.sum_congr rfl fun k _ => congrArg₂ _ (qb_at m c t r k) ((ldU1024 _ 0 (by decide) _ k l).trans ((blk10_at m c t k _).trans ?_))
  dsimp only
  rw [e]
  rfl

theorem ur_at (r : Fin 256) (l : Fin 512) :
    k0_pay21 (F := Ideal) (qb m c t) (View.ld (iblk m c 10 t : Vec Ideal S384x1536 .bf16) (Rect.unit ![0, 1024] ![384, 512] inb_S384x1536_S384x512_0_1024)) (ix2 r l)
      = qf (ka m c) (row t r) ((l : ℕ) / 32 * 96 + 64 + (l : ℕ) % 32) := by
  have e : ucol (1024 + (l : ℕ)) = (l : ℕ) / 32 * 96 + 64 + (l : ℕ) % 32 := by rw [ucol, if_neg (by omega), Nat.add_sub_cancel_left]
  rw [pay21_at, qf]
  refine Finset.sum_congr rfl fun k _ => congrArg₂ _ (qb_at m c t r k) ((ldU512 _ 1024 (by decide) _ k l).trans ((blk10_at m c t k _).trans ?_))
  dsimp only
  rw [e]
  rfl

theorem co_at (r : Fin 256) (l : Fin 128) : k0_pay6 (F := Ideal) (iblk m c 12 t) (ix2 r l) = Ideal.cos (ang (pos (row t r)) ⟨(l : ℕ) % 16, by omega⟩) :=
  (pay6_id _ r l).trans (blk12_at m c t r l)

theorem si_at (r : Fin 256) (l : Fin 128) : k0_pay7 (F := Ideal) (iblk m c 13 t) (ix2 r l)
    = if (l : ℕ) % 32 < 16 then -Ideal.sin (ang (pos (row t r)) ⟨(l : ℕ) % 16, by omega⟩) else Ideal.sin (ang (pos (row t r)) ⟨(l : ℕ) % 16, by omega⟩) :=
  (pay7_id _ r l).trans (blk13_at m c t r l)

/-- A pair of heads' latent queries. -/
theorem tl (j : ℕ) (hj : j < 8) (o s : ℕ) (ho : o = 128 * j) (hs : s = 256 * j) (h : S256x1024.Slices ![0, o] S256x128)
    (inb : ∀ a, ![j, 0, 0] a + ![1, 128, 256] a ≤ S8x128x256.size a) (r l : Fin 256) :
    lt2 (extractStridedSlice S256x128 ![0, o] (k0_pay10 (F := Ideal) (qb m c t) (View.ld (iblk m c 10 t : Vec Ideal S384x1536 .bf16) (Rect.unit ![0, 0] ![384, 1024] inb_S384x1536_S384x1024_0_0))) h)
      (View.ld (iblk m c 11 t : Vec Ideal S8x128x256 .bf16) (Rect.unit ![j, 0, 0] ![1, 128, 256] inb)) (ix2 r l) * cs = ql (ka m c) (row t r) (s + l) := by
  have hl := l.isLt
  subst ho hs
  rw [lt2_at, ql, dif_pos (by omega)]
  refine congrArg (· * cs) ?_
  refine Eq.trans ?_ ((bde_sum (aV m c) (fun k => qf (ka m c) (row t r) ((128 * j + k) / 64 * 96 + (128 * j + k) % 64)) ⟨j, hj⟩ l).trans ?_)
  · refine Finset.sum_congr rfl fun k _ => ?_
    exact congrArg₂ _ ((sl8 _ _ (by omega) h r k).trans (un_at m c t r _)) ((ldV _ j hj inb k l).trans (blk11_at m c t _ k l))
  · refine Finset.sum_congr rfl fun k _ => congrArg₂ _ (congrArg (qf (ka m c) (row t r)) ?_) (u_congr _ ?_ ?_ rfl)
    · have hk := k.isLt
      omega
    · dsimp only; omega
    · dsimp only; omega

/-- Four heads' rotated queries. -/
theorem tr (o : ℕ) (ho : o + 128 ≤ 512) (h32 : o % 32 = 0) (h : S256x512.Slices ![0, o] S256x128) (r : Fin 256) (l : Fin 128) :
    rt (extractStridedSlice S256x128 ![0, o] (k0_pay21 (F := Ideal) (qb m c t) (View.ld (iblk m c 10 t : Vec Ideal S384x1536 .bf16) (Rect.unit ![0, 1024] ![384, 512] inb_S384x1536_S384x512_0_1024))) h)
      (k0_pay6 (iblk m c 12 t)) (k0_pay7 (iblk m c 13 t)) (ix2 r l) * cs = qr (ka m c) (row t r) (o + l) := by
  rw [qr]
  refine congrArg (· * cs) ((rt_eq (fun l => qf (ka m c) (row t r) ((o + l) / 32 * 96 + 64 + (o + l) % 32)) (fun l => ?_) (co_at m c t r) (si_at m c t r) l).trans
    (rot_shift (pos (row t r)) (fun q => qf (ka m c) (row t r) (q / 32 * 96 + 64 + q % 32)) o l h32))
  exact (sl4 _ _ ho h r l).trans (ur_at m c t r _)

/-- The rotated key. -/
theorem tk (r : Fin 256) (l : Fin 128) :
    rt (ps (hb m c t) (View.ld (iblk m c 7 t : Vec Ideal S1024x1664 .bf16) (Rect.unit ![0, 1536] ![1024, 128] inb_S1024x1664_S1024x128_0_1536)))
      (k0_pay6 (iblk m c 12 t)) (k0_pay7 (iblk m c 13 t)) (ix2 r l) = kz (ka m c) (row t r) l := by
  have hl := l.isLt
  refine (rt_eq (fun l => if l < 32 then pr (ka m c) (row t r) (512 + l) else 0) (fun l => ?_) (co_at m c t r) (si_at m c t r) l).trans ?_
  · have hl := l.isLt
    dsimp only
    by_cases h : (l : ℕ) < 32
    · rw [if_pos h]
      exact tps m c t 1536 (by decide) _ r l _ (by unfold col; split_ifs <;> omega)
    · rw [if_neg h, ← pr_past (ka m c) (row t r)]
      exact tps m c t 1536 (by decide) _ r l _ (by unfold col; split_ifs <;> omega)
  · unfold kz kr rot
    dsimp only
    by_cases h : (l : ℕ) < 32
    · rw [if_pos h, if_pos h]
      by_cases h' : (l : ℕ) % 32 < 16
      · rw [if_pos h', if_pos h', if_pos h', if_pos (by omega)]
      · rw [if_neg h', if_neg h', if_neg h', if_pos (by omega)]
    · rw [if_neg h, if_neg h, zero_mul, zero_add]
      by_cases h' : (l : ℕ) % 32 < 16
      · rw [if_pos h', if_neg (by omega), zero_mul]
      · rw [if_neg h', if_neg (by omega), zero_mul]

/-- The keys' latents. -/
theorem tc (r : Fin 256) (l : Fin 128) :
    nk (ps (hb m c t) (View.ld (iblk m c 7 t : Vec Ideal S1024x1664 .bf16) (Rect.unit ![0, 1408] ![1024, 128] inb_S1024x1664_S1024x128_0_1408))) (iblk m c 9 t) (ix2 r l)
      = ckn (ka m c) (row t r) l := by
  rw [nk_at, ckn, dif_pos l.isLt, ck]
  exact congrArg₂ (fun a b => rms (Ideal.ofBits .f32 0x43000000#32) a b l)
    (funext fun k => tps m c t 1408 (by decide) _ r k _ (by have hk := k.isLt; unfold col; split_ifs <;> omega)) (funext fun k => blk9_at m c t k)

theorem point14 (r : Fin 256) (l : Fin 1024) :
    (show FVec Ideal S256x1024 .f32 from out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 r l) = x1n (ka m c) (row t r) l := by
  unfold_out out0_14
  frame_out
  exact (xb_at m c t r l).trans (x1_n (ka m c) (row t r) l)

theorem point15 (r : Fin 256) (l : Fin 1024) :
    (show FVec Ideal S256x1024 .bf16 from out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 r l) = pr (ka m c) (row t r) (544 + l) := by
  unfold_out out0_15
  frame_out
  exact (pay8_eq _ _ _ _ r l).trans (tpg m c t r l)

theorem point19 (r : Fin 256) (l : Fin 128) :
    (show FVec Ideal S256x128 .f32 from out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 r l) = ckn (ka m c) (row t r) l := by
  unfold_out out0_19
  frame_out
  exact tc m c t r l

theorem point20 (r : Fin 256) (l : Fin 128) :
    (show FVec Ideal S256x128 .f32 from out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (ix2 r l) = kz (ka m c) (row t r) l := by
  unfold_out out0_20
  frame_out
  exact tk m c t r l

theorem point16 (y : S256x2048.Idx) :
    (show FVec Ideal S256x2048 .bf16 from out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y = ql (ka m c) (row t (y 0)) (y 1 : Fin 2048) := by
  unfold_out out0_16
  frame_out
  refine tiles8 _ _ _ _ _ _ _ _ (fun r j => ql (ka m c) (row t r) j) ?_ ?_ ?_ ?_ ?_ ?_ ?_ ?_ y
  · exact fun r l => (pay11_eq _ _ _ r l).trans (tl m c t 0 (by decide) 0 0 rfl rfl _ _ r l)
  · exact fun r l => (pay12_eq _ _ _ r l).trans (tl m c t 1 (by decide) 128 256 rfl rfl _ _ r l)
  · exact fun r l => (pay13_eq _ _ _ r l).trans (tl m c t 2 (by decide) 256 512 rfl rfl _ _ r l)
  · exact fun r l => (pay15_eq _ _ _ r l).trans (tl m c t 3 (by decide) 384 768 rfl rfl _ _ r l)
  · exact fun r l => (pay16_eq _ _ r l).trans (tl m c t 4 (by decide) 512 1024 rfl rfl _ _ r l)
  · exact fun r l => (pay17_eq _ _ r l).trans (tl m c t 5 (by decide) 640 1280 rfl rfl _ _ r l)
  · exact fun r l => (pay18_eq _ _ r l).trans (tl m c t 6 (by decide) 768 1536 rfl rfl _ _ r l)
  · exact fun r l => (pay19_eq _ _ r l).trans (tl m c t 7 (by decide) 896 1792 rfl rfl _ _ r l)

theorem point17 (y : S256x512.Idx) :
    (show FVec Ideal S256x512 .bf16 from out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y = qr (ka m c) (row t (y 0)) (y 1 : Fin 512) := by
  unfold_out out0_17
  frame_out
  refine tiles4 _ _ _ _ (fun r j => qr (ka m c) (row t r) j) ?_ ?_ ?_ ?_ y
  · exact fun r l => (pay22'_eq _ _ _ _ r l).trans (tr m c t 0 (by decide) (by decide) _ r l)
  · exact fun r l => (pay26_eq _ _ _ _ r l).trans (tr m c t 128 (by decide) (by decide) _ r l)
  · exact fun r l => (pay27_eq _ _ _ r l).trans (tr m c t 256 (by decide) (by decide) _ r l)
  · exact fun r l => (pay22_eq _ _ _ r l).trans (tr m c t 384 (by decide) (by decide) _ r l)

theorem point18 (y : S256x256.Idx) :
    (show FVec Ideal S256x256 .bf16 from out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) y = kc (ka m c) (row t (y 0)) (y 1 : Fin 256) := by
  unfold_out out0_18
  frame_out
  refine tiles2 _ _ (fun r j => kc (ka m c) (row t r) j) ?_ ?_ y
  · exact fun r l => (tc m c t r l).trans (by rw [kc, Nat.zero_add, if_pos l.isLt])
  · refine fun r l => (rep_eq _ _ _ _ r l).trans ?_
    have hl := l.isLt
    have e : kc (ka m c) (row t r) (128 + (l : ℕ)) = kr (ka m c) (row t r) ((l : ℕ) % 32) := by
      rw [kc, if_neg (by omega), show (128 + (l : ℕ)) % 32 = (l : ℕ) % 32 by omega]
    refine Eq.trans ?_ ((four (kr (ka m c) (row t r)) l hl).trans e.symm)
    have key := fun l : Fin 128 => (msk_at _ r l).trans ((congrArg (fun z : EReal => if (l : ℕ) < 32 then z else 0) (tk m c t r l)).trans
      (show (if (l : ℕ) < 32 then kz (ka m c) (row t r) l else 0) = if (l : ℕ) < 32 then kr (ka m c) (row t r) l else 0 from by
        by_cases h : (l : ℕ) < 32
        · rw [if_pos h, if_pos h, kz, if_pos h]
        · rw [if_neg h, if_neg h]))
    exact congrArg₂ _ (congrArg₂ _ (congrArg₂ _ (key l) (key _)) (key _)) (key _)

end Cert.Kernel4Ideal.Md

end
-- ==== Proof.Mid.Final.lean ====
module

public import proofs.«01_k».proof.Proof.Mid.Point

@[expose] public section

set_option maxRecDepth 16384

noncomputable section

/-! The arrays the middle call leaves. -/

namespace Cert.Kernel4Ideal.Md

open Cert.Kernel4Ideal Cert.Kernel4Ideal.Gen Idealize.ShloMosaic Idealize.ShloMosaic.TcCoe Idealize.SL.Sem
open Idealize.ShloMosaic.Pipeline (Dat)

/-- An array of rows, from its entries. -/
def arr (C : ℕ) (f : Fin 16384 → ℕ → EReal) : (⟨2, ![16384, C]⟩ : Shape).Idx → EReal := fun i => f (i 0) ((i 1 : Fin C) : ℕ)

theorem arr_of {C : ℕ} (f : Fin 16384 → ℕ → EReal) (i : (⟨2, ![16384, C]⟩ : Shape).Idx) (n : Fin 16384) (j : ℕ) (h0 : (i 0 : ℕ) = n) (h1 : (i 1 : ℕ) = j) :
    arr C f i = f n j := by
  obtain rfl : i 0 = n := Fin.ext h0
  subst h1
  rfl

variable (m : (ℓ : Loc nD τ sig) → Buf (Elt Ideal) ℓ) (c : Dev nD)

theorem final14 : (dats m 0 c).arrAt 14 cfg0.N = (arr 1024 (x1n (ka m c)) : FVec Ideal S16384x1024 .f32) := by
  refine (dats m 0 c).arrAt_eq_of_covers 14 _ (by decide +kernel) fun t _ (y : S256x1024.Idx) => ?_
  blk_simp
  rw [after0_14]
  refine Eq.trans ((congrArg _ (eq_ix2 y)).trans (point14 m c t (y 0) (y 1))) (arr_of (C := 1024) (x1n (ka m c)) _ (row t (y 0)) (y 1 : Fin 1024) ?_ ?_).symm
  · have := (y 0).isLt
    blk_simp [idxo t]
    simp only [row]
    try omega
  · blk_simp [idxo t]
    try omega

theorem final15 : (dats m 0 c).arrAt 15 cfg0.N = (arr 1024 (fun n l => pr (ka m c) n (544 + l)) : FVec Ideal S16384x1024 .bf16) := by
  refine (dats m 0 c).arrAt_eq_of_covers 15 _ (by decide +kernel) fun t _ (y : S256x1024.Idx) => ?_
  blk_simp
  rw [after0_15]
  refine Eq.trans ((congrArg _ (eq_ix2 y)).trans (point15 m c t (y 0) (y 1))) (arr_of (C := 1024) (fun n l => pr (ka m c) n (544 + l)) _ (row t (y 0)) (y 1 : Fin 1024) ?_ ?_).symm
  · have := (y 0).isLt
    blk_simp [idxo t]
    simp only [row]
    try omega
  · blk_simp [idxo t]
    try omega

theorem final16 : (dats m 0 c).arrAt 16 cfg0.N = (arr 2048 (ql (ka m c)) : FVec Ideal S16384x2048 .bf16) := by
  refine (dats m 0 c).arrAt_eq_of_covers 16 _ (by decide +kernel) fun t _ (y : S256x2048.Idx) => ?_
  blk_simp
  rw [after0_16]
  refine Eq.trans (point16 m c t y) (arr_of (C := 2048) (ql (ka m c)) _ (row t (y 0)) (y 1 : Fin 2048) ?_ ?_).symm
  · have := (y 0).isLt
    blk_simp [idxo t]
    simp only [row]
    try omega
  · blk_simp [idxo t]
    try omega

theorem final17 : (dats m 0 c).arrAt 17 cfg0.N = (arr 512 (qr (ka m c)) : FVec Ideal S16384x512 .bf16) := by
  refine (dats m 0 c).arrAt_eq_of_covers 17 _ (by decide +kernel) fun t _ (y : S256x512.Idx) => ?_
  blk_simp
  rw [after0_17]
  refine Eq.trans (point17 m c t y) (arr_of (C := 512) (qr (ka m c)) _ (row t (y 0)) (y 1 : Fin 512) ?_ ?_).symm
  · have := (y 0).isLt
    blk_simp [idxo t]
    simp only [row]
    try omega
  · blk_simp [idxo t]
    try omega

theorem final18 : (dats m 0 c).arrAt 18 cfg0.N = (arr 256 (kc (ka m c)) : FVec Ideal S16384x256 .bf16) := by
  refine (dats m 0 c).arrAt_eq_of_covers 18 _ (by decide +kernel) fun t _ (y : S256x256.Idx) => ?_
  blk_simp
  rw [after0_18]
  refine Eq.trans (point18 m c t y) (arr_of (C := 256) (kc (ka m c)) _ (row t (y 0)) (y 1 : Fin 256) ?_ ?_).symm
  · have := (y 0).isLt
    blk_simp [idxo t]
    simp only [row]
    try omega
  · blk_simp [idxo t]
    try omega

theorem final19 : (dats m 0 c).arrAt 19 cfg0.N = (arr 128 (ckn (ka m c)) : FVec Ideal S16384x128 .f32) := by
  refine (dats m 0 c).arrAt_eq_of_covers 19 _ (by decide +kernel) fun t _ (y : S256x128.Idx) => ?_
  blk_simp
  rw [after0_19]
  refine Eq.trans ((congrArg _ (eq_ix2 y)).trans (point19 m c t (y 0) (y 1))) (arr_of (C := 128) (ckn (ka m c)) _ (row t (y 0)) (y 1 : Fin 128) ?_ ?_).symm
  · have := (y 0).isLt
    blk_simp [idxo t]
    simp only [row]
    try omega
  · blk_simp [idxo t]
    try omega

theorem final20 : (dats m 0 c).arrAt 20 cfg0.N = (arr 128 (kz (ka m c)) : FVec Ideal S16384x128 .f32) := by
  refine (dats m 0 c).arrAt_eq_of_covers 20 _ (by decide +kernel) fun t _ (y : S256x128.Idx) => ?_
  blk_simp
  rw [after0_20]
  refine Eq.trans ((congrArg _ (eq_ix2 y)).trans (point20 m c t (y 0) (y 1))) (arr_of (C := 128) (kz (ka m c)) _ (row t (y 0)) (y 1 : Fin 128) ?_ ?_).symm
  · have := (y 0).isLt
    blk_simp [idxo t]
    simp only [row]
    try omega
  · blk_simp [idxo t]
    try omega

end Cert.Kernel4Ideal.Md

end
-- ==== Proof.Mid.Ref.lean ====
module

public import proofs.«01_k».proof.Proof.Mid.Final
public import proofs.«01_k».proof.Proof.Gen.Reference4Ideal.Read
public import Idealize.ShloMosaic.Lib.Pointwise

@[expose] public section

set_option maxRecDepth 16384

noncomputable section

/-! The reference of the middle call, read at an index. -/

namespace Cert.Reference4Ideal.Md

open Cert.Reference4Ideal Cert.Reference4Ideal.Gen Cert.Reference4Ideal.Read Idealize.ShloMosaic Idealize.ShloMosaic.TcCoe Idealize.SL.Sem
open Cert.Kernel4Ideal.Md

theorem ofBits1 : Ideal.ofBits .f32 0x3F800000#32 = 1 := by
  simp [Ideal.ofBits, Ideal.ieee]
  rw [← EReal.coe_mul]
  norm_num

theorem ofBits96 : Ideal.ofBits .f32 0x42C00000#32 = ((96 : ℝ) : EReal) := by
  simp [Ideal.ofBits, Ideal.ieee]
  rw [← EReal.coe_mul]
  norm_num

theorem ofBits2 : Ideal.ofBits .f32 0x40000000#32 = ((2 : ℝ) : EReal) := by
  simp [Ideal.ofBits, Ideal.ieee]
  try rw [← EReal.coe_mul]
  try norm_num

theorem unit_div (z : EReal) : Ideal.div z (Ideal.sqrt (Ideal.ofBits .f32 0x42C00000#32) * Ideal.log (Ideal.ofBits .f32 0x40000000#32)) = z * cs := by
  have hl : Real.log 2 ≠ 0 := (Real.log_pos (by norm_num)).ne'
  have hs : √(96 : ℝ) ≠ 0 := (Real.sqrt_pos.2 (by norm_num)).ne'
  rw [ofBits96, ofBits2, Ideal.sqrt_coe, if_neg (by norm_num : ¬ (96 : ℝ) < 0), Ideal.log_coe]
  simp only [if_neg (by norm_num : ¬ (2 : ℝ) < 0), if_neg (by norm_num : ¬ (2 : ℝ) = 0), if_neg (by norm_num : ¬ (2 : ℝ) ≤ 0)]
  rw [← EReal.coe_mul, Ideal.div_coe (mul_ne_zero hs hl), one_div, cs]

variable (a : Args)

theorem m_lo (n : Fin 16384) (k : Fin 512) : val_main_v5 (F := Ideal) a.A a.B (ix3 (bat n) (pos n) ⟨k, by omega⟩) = a.A (ix3 (bat n) (pos n) k) := by
  have hk := k.isLt
  pointwise [val_main_v5]

theorem m_hi (n : Fin 16384) (k : Fin 512) : val_main_v5 (F := Ideal) a.A a.B (ix3 (bat n) (pos n) ⟨512 + k, by omega⟩) = a.B (ix3 (bat n) (pos n) k) := by
  have hk := k.isLt
  pointwise [val_main_v5]

theorem w_ref (n : Fin 16384) (d : Fin 1024) : val_main_v6 (F := Ideal) a.A a.B a.O (ix3 (bat n) (pos n) d)
    = (∑ k : Fin 512, a.A (ix3 (bat n) (pos n) k) * a.O (ix2 ⟨k, by omega⟩ d)) + ∑ k : Fin 512, a.B (ix3 (bat n) (pos n) k) * a.O (ix2 ⟨512 + k, by omega⟩ d) := by
  pointwise [val_main_v6]
  refine (Fin.sum_univ_add (a := 512) (b := 512) (fun k : Fin (512 + 512) => val_main_v5 (F := Ideal) a.A a.B (ix3 (bat n) (pos n) k) * a.O (ix2 k d))).trans ?_
  exact congrArg₂ _ (Finset.sum_congr rfl fun k _ => congrArg₂ _ (m_lo a n k) rfl) (Finset.sum_congr rfl fun k _ => congrArg₂ _ (m_hi a n k) rfl)

theorem x_ref (n : Fin 16384) (d : Fin 1024) : val_main_v9 (F := Ideal) a.X a.A a.B a.M a.O (ix3 (bat n) (pos n) d) = x1 a n d := by
  pointwise [val_main_v9, val_main_v8, val_main_v7, val_main_v4, val_main_v3]
  rw [w_ref, x1]

theorem h_ref (n : Fin 16384) (k : Fin 1024) : val_main_v33 (F := Ideal) a.X a.A a.B a.M a.N a.O a.G (ix3 (bat n) (pos n) k) = hd a n k := by
  pointwise [val_main_v10, val_main_v11, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_cst, val_main_cst_0, val_main_cst_1, val_main_cst_2]
  simp only [x_ref]
  unfold hd nrm rms
  rw [ofBits1]

theorem z_ref (n : Fin 16384) (j : Fin 1568) : val_main_v34 (F := Ideal) a.X a.A a.B a.M a.N a.O a.G a.W (ix3 (bat n) (pos n) j) = pr a n j := by
  pointwise [val_main_v34]
  rw [pr]
  refine Finset.sum_congr rfl fun k _ => ?_
  rw [h_ref, wel, dif_pos j.isLt]

theorem z_of (n : Fin 16384) (j j' : ℕ) (hj : j < 1568) (e : j = j') : val_main_v34 (F := Ideal) a.X a.A a.B a.M a.N a.O a.G a.W (ix3 (bat n) (pos n) ⟨j, hj⟩) = pr a n j' :=
  (z_ref a n ⟨j, hj⟩).trans (congrArg (pr a n) e)

theorem zq_ref (n : Fin 16384) (i : Fin 384) : val_main_v35 (F := Ideal) a.X a.A a.B a.M a.N a.O a.G a.W (ix3 (bat n) (pos n) i) = pr a n i := by
  pointwise [val_main_v35]
  exact z_of a n _ _ _ rfl

theorem zk_ref (n : Fin 16384) (i : Fin 128) : val_main_v36 (F := Ideal) a.X a.A a.B a.M a.N a.O a.G a.W (ix3 (bat n) (pos n) i) = pr a n (384 + i) := by
  pointwise [val_main_v36]
  exact z_of a n _ _ _ (by omega)

theorem zg_ref (n : Fin 16384) (i : Fin 1024) : val_main_v38 (F := Ideal) a.X a.A a.B a.M a.N a.O a.G a.W (ix3 (bat n) (pos n) i) = pr a n (544 + i) := by
  pointwise [val_main_v38]
  exact z_of a n _ _ _ (by omega)

theorem cq_ref (n : Fin 16384) (i : Fin 384) : val_main_v51 (F := Ideal) a.X a.A a.B a.M a.N a.O a.G a.W a.Q (ix3 (bat n) (pos n) i) = cq a n i := by
  pointwise [val_main_v39, val_main_v40, val_main_v41, val_main_v42, val_main_v43, val_main_v44, val_main_v45, val_main_v46, val_main_v47, val_main_v48, val_main_v49, val_main_v50, val_main_v51, val_main_cst_3, val_main_cst_4, val_main_cst_5]
  simp only [zq_ref]
  unfold cq rms
  rfl

theorem ck_ref (n : Fin 16384) (i : Fin 128) : val_main_v99 (F := Ideal) a.X a.A a.B a.M a.N a.O a.G a.W a.K (ix3 (bat n) (pos n) i) = ck a n i := by
  pointwise [val_main_v87, val_main_v88, val_main_v89, val_main_v90, val_main_v91, val_main_v92, val_main_v93, val_main_v94, val_main_v95, val_main_v96, val_main_v97, val_main_v98, val_main_v99, val_main_cst_8, val_main_cst_9, val_main_cst_10]
  simp only [zk_ref]
  unfold ck rms
  rfl

theorem q_ref (n : Fin 16384) (j : Fin 1536) : val_main_v52 (F := Ideal) a.X a.A a.B a.M a.N a.O a.G a.W a.Q a.U (ix3 (bat n) (pos n) j) = qf a n j := by
  pointwise [val_main_v52]
  rw [qf]
  refine Finset.sum_congr rfl fun k _ => ?_
  rw [cq_ref, uel, dif_pos j.isLt]

theorem q_of (n : Fin 16384) (j j' : ℕ) (hj : j < 1536) (e : j = j') : val_main_v52 (F := Ideal) a.X a.A a.B a.M a.N a.O a.G a.W a.Q a.U (ix3 (bat n) (pos n) ⟨j, hj⟩) = qf a n j' :=
  (q_ref a n ⟨j, hj⟩).trans (congrArg (qf a n) e)

theorem rope_lo (P : Fin 2048) (f : ℕ → EReal) (l : ℕ) (x x' g : EReal) (h : l % 32 < 16) (hx : x = f l) (hx' : x' = f (l + 16))
    (hg : g = ang P ⟨l % 16, Nat.mod_lt _ (by decide)⟩) : x * Ideal.cos g - x' * Ideal.sin g = rot P f l := by
  subst hx hx' hg
  rw [rot, if_pos h, if_pos h, mul_neg, sub_eq_add_neg]

theorem rope_hi (P : Fin 2048) (f : ℕ → EReal) (l : ℕ) (x x' g : EReal) (h : ¬ l % 32 < 16) (hx : x = f l) (hx' : x' = f (l - 16))
    (hg : g = ang P ⟨l % 16, Nat.mod_lt _ (by decide)⟩) : x * Ideal.cos g + x' * Ideal.sin g = rot P f l := by
  subst hx hx' hg
  rw [rot, if_neg h, if_neg h]

theorem qr_tr (p : Fin 2048) (l : Fin 16) : val_main_v64 (F := Ideal) (ix2 p l) * val_main_v65 (F := Ideal) (ix2 p l) = ang p l := by
  pointwise [val_main_v55, val_main_v56, val_main_v57, val_main_v58, val_main_v59, val_main_v60, val_main_v61, val_main_v62, val_main_v63, val_main_v64, val_main_v65, val_main_v0, val_main_cst_6, val_main_cst_7, ang]

theorem kr_tr (p : Fin 2048) (l : Fin 16) : val_main_v110 (F := Ideal) (ix2 p l) * val_main_v111 (F := Ideal) (ix2 p l) = ang p l := by
  pointwise [val_main_v101, val_main_v102, val_main_v103, val_main_v104, val_main_v105, val_main_v106, val_main_v107, val_main_v108, val_main_v109, val_main_v110, val_main_v111, val_main_v0, val_main_cst_11, val_main_cst_12, ang]

theorem qr_ref (n : Fin 16384) (h : Fin 16) (l : Fin 32) :
    val_main_v83 (F := Ideal) a.X a.A a.B a.M a.N a.O a.G a.W a.Q a.U (ix4 (bat n) (pos n) h l) = rot (pos n) (fun c => qf a n (c / 32 * 96 + 64 + c % 32)) ((h : ℕ) * 32 + l) := by
  pointwise [val_main_v53, val_main_v54, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83]
  have hl := l.isLt
  have hh := h.isLt
  refine dstep (fun h => ?_) fun h => ?_
  · exact rope_lo (pos n) _ _ _ _ _ (by omega) (q_of a n _ _ _ (by first | rfl | omega | (dsimp only; omega))) (q_of a n _ _ _ (by first | rfl | omega | (dsimp only; omega))) ((qr_tr _ _).trans (congrArg (ang (pos n)) (Fin.ext (by first | rfl | omega | (dsimp only; omega)))))
  · exact rope_hi (pos n) _ _ _ _ _ (by omega) (q_of a n _ _ _ (by first | rfl | omega | (dsimp only; omega))) (q_of a n _ _ _ (by first | rfl | omega | (dsimp only; omega))) ((qr_tr _ _).trans (congrArg (ang (pos n)) (Fin.ext (by first | rfl | omega | (dsimp only; omega)))))

theorem kr_ref (n : Fin 16384) (l : Fin 32) : val_main_v130 (F := Ideal) a.X a.A a.B a.M a.N a.O a.G a.W (ix3 (bat n) (pos n) l) = kr a n l := by
  pointwise [val_main_v37, val_main_v100, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130]
  have hl := l.isLt
  refine dstep (fun h => ?_) fun h => ?_
  · exact rope_lo (pos n) _ _ _ _ _ (by omega) (z_of a n _ _ _ (by first | rfl | omega | (dsimp only; omega))) (z_of a n _ _ _ (by first | rfl | omega | (dsimp only; omega))) ((kr_tr _ _).trans (congrArg (ang (pos n)) (Fin.ext (by first | rfl | omega | (dsimp only; omega)))))
  · exact rope_hi (pos n) _ _ _ _ _ (by omega) (z_of a n _ _ _ (by first | rfl | omega | (dsimp only; omega))) (z_of a n _ _ _ (by first | rfl | omega | (dsimp only; omega))) ((kr_tr _ _).trans (congrArg (ang (pos n)) (Fin.ext (by first | rfl | omega | (dsimp only; omega)))))

theorem lat_ref (n : Fin 16384) (h : Fin 16) (l : Fin 128) :
    val_main_v86 (F := Ideal) a.X a.A a.B a.M a.N a.O a.G a.W a.Q a.U a.V (ix4 (bat n) (pos n) h l) = ∑ k : Fin 64, qf a n ((h : ℕ) * 96 + k) * a.V (ix3 l h k) := by
  pointwise [val_main_v53, val_main_v84, val_main_v85, val_main_v86]
  refine Finset.sum_congr rfl fun k _ => ?_
  rw [mul_comm]
  exact congrArg (· * a.V (ix3 l h k)) (q_of a n _ _ _ (by omega))

theorem out14 (n : Fin 16384) (d : Fin 1024) : val_main_v135 (F := Ideal) a.X a.A a.B a.M a.O (ix2 n d) = x1n a n d := by
  pointwise [val_main_v135]
  exact (x_ref a n d).trans (x1_n a n d)

theorem out15 (n : Fin 16384) (l : Fin 1024) : val_main_v137 (F := Ideal) a.X a.A a.B a.M a.N a.O a.G a.W (ix2 n l) = pr a n (544 + l) := by
  pointwise [val_main_v136, val_main_v137]
  exact zg_ref a n l

theorem out16 (n : Fin 16384) (j : Fin 2048) : val_main_v141 (F := Ideal) a.X a.A a.B a.M a.N a.O a.G a.W a.Q a.U a.V (ix2 n j) = ql a n j := by
  have hj := j.isLt
  pointwise [val_main_v141, val_main_v140, val_main_v139, val_main_v138, val_main_v133, val_main_v132, val_main_v131, val_main_cst_13, val_main_cst_14]
  refine (unit_div _).trans ?_
  rw [ql, dif_pos hj]
  exact congrArg (· * cs) (lat_ref a n _ _)

theorem out17 (n : Fin 16384) (j : Fin 512) : val_main_v145 (F := Ideal) a.X a.A a.B a.M a.N a.O a.G a.W a.Q a.U (ix2 n j) = qr a n j := by
  have hj := j.isLt
  pointwise [val_main_v145, val_main_v144, val_main_v143, val_main_v142, val_main_v133, val_main_v132, val_main_v131, val_main_cst_13, val_main_cst_14]
  refine (unit_div _).trans ?_
  rw [qr]
  exact congrArg (· * cs) ((qr_ref a n _ _).trans (congrArg (rot (pos n) _) (by first | rfl | omega | (dsimp only; omega))))

theorem out18 (n : Fin 16384) (j : Fin 256) : val_main_v147 (F := Ideal) a.X a.A a.B a.M a.N a.O a.G a.W a.K (ix2 n j) = kc a n j := by
  have hj := j.isLt
  pointwise [val_main_v147, val_main_v146, val_main_v134]
  refine dstep (fun h => ?_) fun h => ?_
  · refine (ck_ref a n _).trans ?_
    rw [kc, if_pos h, ckn, dif_pos h]
  have e : kc a n j = kr a n ((j : ℕ) % 32) := by rw [kc, if_neg h]
  refine dstep (fun h => ?_) fun h => ?_
  · exact (kr_ref a n _).trans (Eq.trans (congrArg (kr a n) (by first | rfl | omega | (dsimp only; omega))) e.symm)
  refine dstep (fun h => ?_) fun h => ?_
  · exact (kr_ref a n _).trans (Eq.trans (congrArg (kr a n) (by first | rfl | omega | (dsimp only; omega))) e.symm)
  refine dstep (fun h => ?_) fun h => ?_
  · exact (kr_ref a n _).trans (Eq.trans (congrArg (kr a n) (by first | rfl | omega | (dsimp only; omega))) e.symm)
  · exact (kr_ref a n _).trans (Eq.trans (congrArg (kr a n) (by first | rfl | omega | (dsimp only; omega))) e.symm)

theorem out19 (n : Fin 16384) (l : Fin 128) : val_main_v148 (F := Ideal) a.X a.A a.B a.M a.N a.O a.G a.W a.K (ix2 n l) = ckn a n l := by
  pointwise [val_main_v148]
  exact (ck_ref a n l).trans (ck_n a n l)

theorem out20 (n : Fin 16384) (l : Fin 128) : val_main_v151 (F := Ideal) a.X a.A a.B a.M a.N a.O a.G a.W (ix2 n l) = kz a n l := by
  have hl := l.isLt
  pointwise [val_main_v151, val_main_v150, val_main_v149, val_main_cst_15]
  refine dstep (fun h => ?_) fun h => ?_
  · exact (kr_ref a n _).trans (by rw [kz, if_pos h])
  · rw [kz, if_neg h]

end Cert.Reference4Ideal.Md

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Finite
public import proofs.«01_k».proof.Proof.Final
public import proofs.«01_k».proof.Proof.Ref
public import proofs.«01_k».proof.Proof.Ab.Ref
public import proofs.«01_k».proof.Proof.Oc.Ref
public import proofs.«01_k».proof.Proof.Oc.Final
public import proofs.«01_k».proof.Proof.Mid.Final
public import proofs.«01_k».proof.Proof.Mid.Ref
public import Idealize.ShloMosaic.Lib.Claim

@[expose] public section

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Kernel2.Facts := Cert.Kernel2.Gen.facts
instance : Cert.Kernel2Ideal.Facts := Cert.Kernel2Ideal.Gen.facts
instance : Cert.Reference2Ideal.Facts := Cert.Reference2Ideal.Gen.facts
instance : Cert.Kernel3.Facts := Cert.Kernel3.Gen.facts
instance : Cert.Kernel3Ideal.Facts := Cert.Kernel3Ideal.Gen.facts
instance : Cert.Reference3Ideal.Facts := Cert.Reference3Ideal.Gen.facts
instance : Cert.Kernel4.Facts := Cert.Kernel4.Gen.facts
instance : Cert.Kernel4Ideal.Facts := Cert.Kernel4Ideal.Gen.facts
instance : Cert.Reference4Ideal.Facts := Cert.Reference4Ideal.Gen.facts
instance : Cert.Pre_finite.Facts := Cert.Pre_finite.facts

theorem frame_kernel : Cert.quiescent_Kernel := fun m g _ => Cert.Kernel.Gen.frame m g

theorem frame_ideal : Cert.quiescent_KernelIdeal := fun m g _ => Cert.KernelIdeal.Gen.frame m g

theorem frame_ideal_finite : Cert.quiescent_KernelIdeal_pre_finite := fun m g _ => Cert.KernelIdeal.Gen.frame m g

theorem frame_ref : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem frame_ref_finite : Cert.quiescent_ReferenceIdeal_pre_finite := fun m g _ => frame_ref m g trivial

theorem preserves : Cert.preserves_Kernel_KernelIdeal :=
  IdealRules.named_const.statement Cert.KernelIdeal.κ "mask" .f32 0xF149F2CA#32 ⊥ rfl

/-- On one device the reference's result is the kernel's. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c : Thread Cert.ReferenceIdeal.nD Cert.ReferenceIdeal.τ).loc Cert.ReferenceIdeal.main_arg0) = m ((c : Thread Cert.KernelIdeal.nD Cert.KernelIdeal.τ).loc Cert.KernelIdeal.main_arg0))
    (a1 : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (a2 : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (a3 : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (r0 : ∀ i, (show FVec Ideal Cert.KernelIdeal.S8x2048x16x128 .f32 from m ((c : Thread Cert.KernelIdeal.nD Cert.KernelIdeal.τ).loc Cert.KernelIdeal.main_arg0)) i
      = ((((show FVec Ideal Cert.KernelIdeal.S8x2048x16x128 .f32 from m ((c : Thread Cert.KernelIdeal.nD Cert.KernelIdeal.τ).loc Cert.KernelIdeal.main_arg0)) i : EReal).toReal : ℝ) : EReal))
    (r1 : ∀ i, (show FVec Ideal Cert.KernelIdeal.S8x2048x16x32 .f32 from m ((c : Thread Cert.KernelIdeal.nD Cert.KernelIdeal.τ).loc Cert.KernelIdeal.main_arg1)) i
      = ((((show FVec Ideal Cert.KernelIdeal.S8x2048x16x32 .f32 from m ((c : Thread Cert.KernelIdeal.nD Cert.KernelIdeal.τ).loc Cert.KernelIdeal.main_arg1)) i : EReal).toReal : ℝ) : EReal))
    (r2 : ∀ i, (show FVec Ideal Cert.KernelIdeal.S8x2048x128 .f32 from m ((c : Thread Cert.KernelIdeal.nD Cert.KernelIdeal.τ).loc Cert.KernelIdeal.main_arg2)) i
      = ((((show FVec Ideal Cert.KernelIdeal.S8x2048x128 .f32 from m ((c : Thread Cert.KernelIdeal.nD Cert.KernelIdeal.τ).loc Cert.KernelIdeal.main_arg2)) i : EReal).toReal : ℝ) : EReal))
    (r3 : ∀ i, (show FVec Ideal Cert.KernelIdeal.S8x2048x32 .f32 from m ((c : Thread Cert.KernelIdeal.nD Cert.KernelIdeal.τ).loc Cert.KernelIdeal.main_arg3)) i
      = ((((show FVec Ideal Cert.KernelIdeal.S8x2048x32 .f32 from m ((c : Thread Cert.KernelIdeal.nD Cert.KernelIdeal.τ).loc Cert.KernelIdeal.main_arg3)) i : EReal).toReal : ℝ) : EReal)) :
    Cert.ReferenceIdeal.Value.res_main_v31 m' c = (Cert.KernelIdeal.Gen.dats m 0 c).arrAt 3 Cert.KernelIdeal.cfg0.N := by
  rw [Cert.ReferenceIdeal.Read.val_main_v31_eq, a0, a1, a2, a3]
  refine Eq.trans ?_ (Cert.KernelIdeal.Att.final ⟨fun b p h x => r0 (ix4 b p h x), fun b p h x => r1 (ix4 b p h x), fun b k x => r2 (ix3 b k x), fun b k x => r3 (ix3 b k x)⟩).symm
  funext i
  obtain ⟨b, p, j, rfl⟩ : ∃ (b : Fin 8) (p j : Fin 2048), i = ix3 b p j := ⟨i 0, i 1, i 2, eq_ix3 i⟩
  exact Cert.ReferenceIdeal.Att.result_at _ _ _ _ _ _ _ _ (fun b p h x => r0 (ix4 b p h x)) (fun b p h x => r1 (ix4 b p h x)) (fun b k x => r2 (ix3 b k x))
    (fun b k x => r3 (ix3 b k x)) b p j

theorem algebraic : Cert.algebraic_KernelIdeal_ReferenceIdeal_pre_finite := by
  pair_intro
  · run_from Cert.KernelIdeal.Gen.run_main m g
  · run_from Cert.ReferenceIdeal.Value.run m' g'
    obtain ⟨a0, a1, a2, a3⟩ := hagree c
    obtain ⟨r0, r1, r2, r3⟩ := Cert.Pre_finite.all_real _ _ _ _ (hpre c)
    exact result m m' c a0 a1 a2 a3 r0 r1 r2 r3

theorem frame_kernel2 : Cert.quiescent_Kernel2 := fun m g _ => Cert.Kernel2.Gen.frame m g

theorem frame_ideal2 : Cert.quiescent_Kernel2Ideal := fun m g _ => Cert.Kernel2Ideal.Gen.frame m g

theorem frame_ref2 : Cert.quiescent_Reference2Ideal := by
  intro m g _
  exact (θ_run Cert.Reference2Ideal.defs _ _).mono (fun r h => ⟨fun c => (h c).2.2.2.2.2.2, sem_eq_zero_of_no_sems (by decide) r.2⟩)
    (Cert.Reference2Ideal.Value.run m g)

theorem preserves2 : Cert.preserves_Kernel2_Kernel2Ideal :=
  ⟨IdealRules.named_const.statement Cert.Kernel2Ideal.κ "qk" .f32 0x3E38AA3B#32 (((8 * (Real.log 2))⁻¹ : ℝ) : EReal) rfl,
    IdealRules.named_const.statement Cert.Kernel2Ideal.κ "iw" .f32 0x3D3504F3#32 (((8 * (Real.sqrt 8))⁻¹ : ℝ) : EReal) rfl⟩

section

variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)
  (a0 : m' ((c : Thread Cert.Reference2Ideal.nD Cert.Reference2Ideal.τ).loc Cert.Reference2Ideal.main_arg0) = m ((c : Thread Cert.Kernel2Ideal.nD Cert.Kernel2Ideal.τ).loc Cert.Kernel2Ideal.main_arg0))
  (a1 : m' ((c : Thread Cert.Reference2Ideal.nD Cert.Reference2Ideal.τ).loc Cert.Reference2Ideal.main_arg1) = m ((c : Thread Cert.Kernel2Ideal.nD Cert.Kernel2Ideal.τ).loc Cert.Kernel2Ideal.main_arg1))
  (a2 : m' ((c : Thread Cert.Reference2Ideal.nD Cert.Reference2Ideal.τ).loc Cert.Reference2Ideal.main_arg2) = m ((c : Thread Cert.Kernel2Ideal.nD Cert.Kernel2Ideal.τ).loc Cert.Kernel2Ideal.main_arg2))
  (a3 : m' ((c : Thread Cert.Reference2Ideal.nD Cert.Reference2Ideal.τ).loc Cert.Reference2Ideal.main_arg3) = m ((c : Thread Cert.Kernel2Ideal.nD Cert.Kernel2Ideal.τ).loc Cert.Kernel2Ideal.main_arg3))
  (a4 : m' ((c : Thread Cert.Reference2Ideal.nD Cert.Reference2Ideal.τ).loc Cert.Reference2Ideal.main_arg4) = m ((c : Thread Cert.Kernel2Ideal.nD Cert.Kernel2Ideal.τ).loc Cert.Kernel2Ideal.main_arg4))

include a0 a1 a2 a3 in
theorem result2_0 : Cert.Reference2Ideal.Read.val_main_v182 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) = (Cert.Kernel2Ideal.Gen.dats m 0 c).arrAt 7 Cert.Kernel2Ideal.cfg0.N := by
  rw [a0, a1, a2, a3]
  refine Eq.trans ?_ (Cert.Kernel2Ideal.Ab.final7 m c).symm
  funext i
  obtain ⟨n, j, rfl⟩ : ∃ (n : Fin 16384) (j : Fin 4736), i = ix2 n j := ⟨i 0, i 1, eq_ix2 i⟩
  exact Cert.Reference2Ideal.Ab.every_at _ _ _ _ n j

include a0 a1 a2 a3 in
theorem result2_1 : Cert.Reference2Ideal.Read.val_main_v183 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) = (Cert.Kernel2Ideal.Gen.dats m 0 c).arrAt 8 Cert.Kernel2Ideal.cfg0.N := by
  rw [a0, a1, a2, a3]
  refine Eq.trans ?_ (Cert.Kernel2Ideal.Ab.final8 m c).symm
  funext i
  obtain ⟨n, j, rfl⟩ : ∃ (n : Fin 16384) (j : Fin 512), i = ix2 n j := ⟨i 0, i 1, eq_ix2 i⟩
  exact Cert.Reference2Ideal.Ab.ka'_at _ _ _ _ n j

include a0 a1 a2 a3 in
theorem result2_2 : Cert.Reference2Ideal.Read.val_main_v184 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) = (Cert.Kernel2Ideal.Gen.dats m 0 c).arrAt 9 Cert.Kernel2Ideal.cfg0.N := by
  rw [a0, a1, a2, a3]
  refine Eq.trans ?_ (Cert.Kernel2Ideal.Ab.final9 m c).symm
  funext i
  obtain ⟨n, j, rfl⟩ : ∃ (n : Fin 16384) (j : Fin 512), i = ix2 n j := ⟨i 0, i 1, eq_ix2 i⟩
  exact Cert.Reference2Ideal.Ab.va'_at _ _ _ _ n j

include a0 a1 a2 a3 in
theorem result2_3 : Cert.Reference2Ideal.Read.val_main_v185 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) = (Cert.Kernel2Ideal.Gen.dats m 0 c).arrAt 10 Cert.Kernel2Ideal.cfg0.N := by
  rw [a0, a1, a2, a3]
  refine Eq.trans ?_ (Cert.Kernel2Ideal.Ab.final10 m c).symm
  funext i
  obtain ⟨n, j, rfl⟩ : ∃ (n : Fin 16384) (j : Fin 512), i = ix2 n j := ⟨i 0, i 1, eq_ix2 i⟩
  exact Cert.Reference2Ideal.Ab.kb'_at _ _ _ _ n j

include a0 a1 a2 a3 in
theorem result2_4 : Cert.Reference2Ideal.Read.val_main_v186 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) = (Cert.Kernel2Ideal.Gen.dats m 0 c).arrAt 11 Cert.Kernel2Ideal.cfg0.N := by
  rw [a0, a1, a2, a3]
  refine Eq.trans ?_ (Cert.Kernel2Ideal.Ab.final11 m c).symm
  funext i
  obtain ⟨n, j, rfl⟩ : ∃ (n : Fin 16384) (j : Fin 512), i = ix2 n j := ⟨i 0, i 1, eq_ix2 i⟩
  exact Cert.Reference2Ideal.Ab.vb'_at _ _ _ _ n j

include a0 a1 a2 a3 a4 in
theorem result2_5 : Cert.Reference2Ideal.Read.val_main_v187 (F := Ideal) (m' ((c : Thread Cert.Reference2Ideal.nD Cert.Reference2Ideal.τ).loc Cert.Reference2Ideal.main_arg0)) (m' ((c : Thread Cert.Reference2Ideal.nD Cert.Reference2Ideal.τ).loc Cert.Reference2Ideal.main_arg1)) (m' ((c : Thread Cert.Reference2Ideal.nD Cert.Reference2Ideal.τ).loc Cert.Reference2Ideal.main_arg2)) (m' ((c : Thread Cert.Reference2Ideal.nD Cert.Reference2Ideal.τ).loc Cert.Reference2Ideal.main_arg3)) (m' ((c : Thread Cert.Reference2Ideal.nD Cert.Reference2Ideal.τ).loc Cert.Reference2Ideal.main_arg4)) = (Cert.Kernel2Ideal.Gen.dats m 0 c).arrAt 12 Cert.Kernel2Ideal.cfg0.N := by
  rw [a0, a1, a2, a3, a4]
  refine Eq.trans ?_ (Cert.Kernel2Ideal.Ab.final12 m c).symm
  funext i
  obtain ⟨n, j, rfl⟩ : ∃ (n : Fin 16384) (j : Fin 128), i = ix2 n j := ⟨i 0, i 1, eq_ix2 i⟩
  exact Cert.Reference2Ideal.Ab.small_at' _ _ _ _ _ n j

end

theorem algebraic2 : Cert.algebraic_Kernel2Ideal_Reference2Ideal := by
  pair_intro
  · run_from Cert.Kernel2Ideal.Value.run_blocks m g
  · run_from Cert.Reference2Ideal.Value.run m' g'
    all_goals obtain ⟨a0, a1, a2, a3, a4⟩ := hagree c
    · exact (Cert.Reference2Ideal.Read.val_main_v182_eq (StableHlo.launchContents m' c)).trans (result2_0 m m' c a0 a1 a2 a3)
    · exact (Cert.Reference2Ideal.Read.val_main_v183_eq (StableHlo.launchContents m' c)).trans (result2_1 m m' c a0 a1 a2 a3)
    · exact (Cert.Reference2Ideal.Read.val_main_v184_eq (StableHlo.launchContents m' c)).trans (result2_2 m m' c a0 a1 a2 a3)
    · exact (Cert.Reference2Ideal.Read.val_main_v185_eq (StableHlo.launchContents m' c)).trans (result2_3 m m' c a0 a1 a2 a3)
    · exact (Cert.Reference2Ideal.Read.val_main_v186_eq (StableHlo.launchContents m' c)).trans (result2_4 m m' c a0 a1 a2 a3)
    · exact (Cert.Reference2Ideal.Read.val_main_v187_eq (StableHlo.launchContents m' c)).trans (result2_5 m m' c a0 a1 a2 a3 a4)

theorem frame_kernel3 : Cert.quiescent_Kernel3 := fun m g _ => Cert.Kernel3.Gen.frame m g

theorem frame_ideal3 : Cert.quiescent_Kernel3Ideal := fun m g _ => Cert.Kernel3Ideal.Gen.frame m g

theorem frame_ref3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run m g)

theorem preserves3 : Cert.preserves_Kernel3_Kernel3Ideal := trivial

/-- On one device the reference's result, of the kernel's arguments, is the kernel's. -/
theorem result3 (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v27 (F := Ideal) (m ((c : Thread Cert.Kernel3Ideal.nD Cert.Kernel3Ideal.τ).loc Cert.Kernel3Ideal.main_arg0)) (m ((c : Thread Cert.Kernel3Ideal.nD Cert.Kernel3Ideal.τ).loc Cert.Kernel3Ideal.main_arg1)) (m ((c : Thread Cert.Kernel3Ideal.nD Cert.Kernel3Ideal.τ).loc Cert.Kernel3Ideal.main_arg2)) (m ((c : Thread Cert.Kernel3Ideal.nD Cert.Kernel3Ideal.τ).loc Cert.Kernel3Ideal.main_arg3)) (m ((c : Thread Cert.Kernel3Ideal.nD Cert.Kernel3Ideal.τ).loc Cert.Kernel3Ideal.main_arg4)) (m ((c : Thread Cert.Kernel3Ideal.nD Cert.Kernel3Ideal.τ).loc Cert.Kernel3Ideal.main_arg5)) (m ((c : Thread Cert.Kernel3Ideal.nD Cert.Kernel3Ideal.τ).loc Cert.Kernel3Ideal.main_arg6)) = (Cert.Kernel3Ideal.Gen.dats m 0 c).arrAt 7 Cert.Kernel3Ideal.cfg0.N := by
  refine Eq.trans ?_ (Cert.Kernel3Ideal.Oc.final7 m c).symm
  funext i
  obtain ⟨n, j, rfl⟩ : ∃ (n : Fin 16384) (j : Fin 1024), i = ix2 n j := ⟨i 0, i 1, eq_ix2 i⟩
  exact Cert.Reference3Ideal.Oc.ref_at _ _ _ _ _ _ _ n j

theorem algebraic3 : Cert.algebraic_Kernel3Ideal_Reference3Ideal := by
  pair_intro
  · run_from Cert.Kernel3Ideal.Value.run_blocks m g
  · run_from Cert.Reference3Ideal.Value.run m' g'
    exact (Cert.Reference3Ideal.Read.val_main_v27_eq _ _ _ _ _ _ _).trans (result3 m c)

theorem frame_kernel4 : Cert.quiescent_Kernel4 := fun m g _ => Cert.Kernel4.Gen.frame m g

theorem frame_ideal4 : Cert.quiescent_Kernel4Ideal := fun m g _ => Cert.Kernel4Ideal.Gen.frame m g

theorem frame_ref4 : Cert.quiescent_Reference4Ideal := by
  intro m g _
  exact (θ_run Cert.Reference4Ideal.defs _ _).mono (fun r h => ⟨fun c => (h c).2.2.2.2.2.2.2, sem_eq_zero_of_no_sems (by decide) r.2⟩)
    (Cert.Reference4Ideal.Value.run m g)

theorem preserves4 : Cert.preserves_Kernel4_Kernel4Ideal :=
  IdealRules.named_const.statement Cert.Kernel4Ideal.κ "cs" .f32 0x3E16C740#32 ((((Real.sqrt 96) * (Real.log 2))⁻¹ : ℝ) : EReal) rfl

section

variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)
  (a0 : m' ((c : Thread Cert.Reference4Ideal.nD Cert.Reference4Ideal.τ).loc Cert.Reference4Ideal.main_arg0) = m ((c : Thread Cert.Kernel4Ideal.nD Cert.Kernel4Ideal.τ).loc Cert.Kernel4Ideal.main_arg0))
  (a1 : m' ((c : Thread Cert.Reference4Ideal.nD Cert.Reference4Ideal.τ).loc Cert.Reference4Ideal.main_arg1) = m ((c : Thread Cert.Kernel4Ideal.nD Cert.Kernel4Ideal.τ).loc Cert.Kernel4Ideal.main_arg1))
  (a2 : m' ((c : Thread Cert.Reference4Ideal.nD Cert.Reference4Ideal.τ).loc Cert.Reference4Ideal.main_arg2) = m ((c : Thread Cert.Kernel4Ideal.nD Cert.Kernel4Ideal.τ).loc Cert.Kernel4Ideal.main_arg2))
  (a3 : m' ((c : Thread Cert.Reference4Ideal.nD Cert.Reference4Ideal.τ).loc Cert.Reference4Ideal.main_arg3) = m ((c : Thread Cert.Kernel4Ideal.nD Cert.Kernel4Ideal.τ).loc Cert.Kernel4Ideal.main_arg3))
  (a4 : m' ((c : Thread Cert.Reference4Ideal.nD Cert.Reference4Ideal.τ).loc Cert.Reference4Ideal.main_arg4) = m ((c : Thread Cert.Kernel4Ideal.nD Cert.Kernel4Ideal.τ).loc Cert.Kernel4Ideal.main_arg4))
  (a5 : m' ((c : Thread Cert.Reference4Ideal.nD Cert.Reference4Ideal.τ).loc Cert.Reference4Ideal.main_arg5) = m ((c : Thread Cert.Kernel4Ideal.nD Cert.Kernel4Ideal.τ).loc Cert.Kernel4Ideal.main_arg5))
  (a6 : m' ((c : Thread Cert.Reference4Ideal.nD Cert.Reference4Ideal.τ).loc Cert.Reference4Ideal.main_arg6) = m ((c : Thread Cert.Kernel4Ideal.nD Cert.Kernel4Ideal.τ).loc Cert.Kernel4Ideal.main_arg6))
  (a7 : m' ((c : Thread Cert.Reference4Ideal.nD Cert.Reference4Ideal.τ).loc Cert.Reference4Ideal.main_arg7) = m ((c : Thread Cert.Kernel4Ideal.nD Cert.Kernel4Ideal.τ).loc Cert.Kernel4Ideal.main_arg7))
  (a8 : m' ((c : Thread Cert.Reference4Ideal.nD Cert.Reference4Ideal.τ).loc Cert.Reference4Ideal.main_arg8) = m ((c : Thread Cert.Kernel4Ideal.nD Cert.Kernel4Ideal.τ).loc Cert.Kernel4Ideal.main_arg8))
  (a9 : m' ((c : Thread Cert.Reference4Ideal.nD Cert.Reference4Ideal.τ).loc Cert.Reference4Ideal.main_arg9) = m ((c : Thread Cert.Kernel4Ideal.nD Cert.Kernel4Ideal.τ).loc Cert.Kernel4Ideal.main_arg9))
  (a10 : m' ((c : Thread Cert.Reference4Ideal.nD Cert.Reference4Ideal.τ).loc Cert.Reference4Ideal.main_arg10) = m ((c : Thread Cert.Kernel4Ideal.nD Cert.Kernel4Ideal.τ).loc Cert.Kernel4Ideal.main_arg10))
  (a11 : m' ((c : Thread Cert.Reference4Ideal.nD Cert.Reference4Ideal.τ).loc Cert.Reference4Ideal.main_arg11) = m ((c : Thread Cert.Kernel4Ideal.nD Cert.Kernel4Ideal.τ).loc Cert.Kernel4Ideal.main_arg11))

theorem result4_14 : Cert.Reference4Ideal.Read.val_main_v135 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg5)) = (Cert.Kernel4Ideal.Gen.dats m 0 c).arrAt 14 Cert.Kernel4Ideal.cfg0.N := by
  refine Eq.trans ?_ (Cert.Kernel4Ideal.Md.final14 m c).symm
  funext i
  obtain ⟨n, j, rfl⟩ : ∃ (n : Fin 16384) (j : Fin 1024), i = ix2 n j := ⟨i 0, i 1, eq_ix2 i⟩
  exact Cert.Reference4Ideal.Md.out14 (Cert.Kernel4Ideal.Md.ka m c) n j

theorem result4_15 : Cert.Reference4Ideal.Read.val_main_v137 (F := Ideal) (m ((c : Thread Cert.Kernel4Ideal.nD Cert.Kernel4Ideal.τ).loc Cert.Kernel4Ideal.main_arg0)) (m ((c : Thread Cert.Kernel4Ideal.nD Cert.Kernel4Ideal.τ).loc Cert.Kernel4Ideal.main_arg1)) (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3)) (m ((c : Thread Cert.Kernel4Ideal.nD Cert.Kernel4Ideal.τ).loc Cert.Kernel4Ideal.main_arg4)) (m ((c : Thread Cert.Kernel4Ideal.nD Cert.Kernel4Ideal.τ).loc Cert.Kernel4Ideal.main_arg5)) (m ((c : Thread Cert.Kernel4Ideal.nD Cert.Kernel4Ideal.τ).loc Cert.Kernel4Ideal.main_arg6)) (m ((c : Thread Cert.Kernel4Ideal.nD Cert.Kernel4Ideal.τ).loc Cert.Kernel4Ideal.main_arg7)) = (Cert.Kernel4Ideal.Gen.dats m 0 c).arrAt 15 Cert.Kernel4Ideal.cfg0.N := by
  refine Eq.trans ?_ (Cert.Kernel4Ideal.Md.final15 m c).symm
  funext i
  obtain ⟨n, j, rfl⟩ : ∃ (n : Fin 16384) (j : Fin 1024), i = ix2 n j := ⟨i 0, i 1, eq_ix2 i⟩
  exact Cert.Reference4Ideal.Md.out15 (Cert.Kernel4Ideal.Md.ka m c) n j

include a0 a1 a2 a3 a4 a5 a6 a7 a8 a10 a11 in
theorem result4_16 : Cert.Reference4Ideal.Read.val_main_v141 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) (m' ((c : Thread Cert.Reference4Ideal.nD Cert.Reference4Ideal.τ).loc Cert.Reference4Ideal.main_arg8)) (m' ((c : Thread Cert.Reference4Ideal.nD Cert.Reference4Ideal.τ).loc Cert.Reference4Ideal.main_arg10)) (m' ((c : Thread Cert.Reference4Ideal.nD Cert.Reference4Ideal.τ).loc Cert.Reference4Ideal.main_arg11)) = (Cert.Kernel4Ideal.Gen.dats m 0 c).arrAt 16 Cert.Kernel4Ideal.cfg0.N := by
  rw [a0, a1, a2, a3, a4, a5, a6, a7, a8, a10, a11]
  refine Eq.trans ?_ (Cert.Kernel4Ideal.Md.final16 m c).symm
  funext i
  obtain ⟨n, j, rfl⟩ : ∃ (n : Fin 16384) (j : Fin 2048), i = ix2 n j := ⟨i 0, i 1, eq_ix2 i⟩
  exact Cert.Reference4Ideal.Md.out16 (Cert.Kernel4Ideal.Md.ka m c) n j

include a0 a1 a2 a3 a4 a5 a6 a7 a8 a10 in
theorem result4_17 : Cert.Reference4Ideal.Read.val_main_v145 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) (m' ((c : Thread Cert.Reference4Ideal.nD Cert.Reference4Ideal.τ).loc Cert.Reference4Ideal.main_arg8)) (m' ((c : Thread Cert.Reference4Ideal.nD Cert.Reference4Ideal.τ).loc Cert.Reference4Ideal.main_arg10)) = (Cert.Kernel4Ideal.Gen.dats m 0 c).arrAt 17 Cert.Kernel4Ideal.cfg0.N := by
  rw [a0, a1, a2, a3, a4, a5, a6, a7, a8, a10]
  refine Eq.trans ?_ (Cert.Kernel4Ideal.Md.final17 m c).symm
  funext i
  obtain ⟨n, j, rfl⟩ : ∃ (n : Fin 16384) (j : Fin 512), i = ix2 n j := ⟨i 0, i 1, eq_ix2 i⟩
  exact Cert.Reference4Ideal.Md.out17 (Cert.Kernel4Ideal.Md.ka m c) n j

include a0 a1 a2 a3 a4 a5 a6 a7 a9 in
theorem result4_18 : Cert.Reference4Ideal.Read.val_main_v147 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) (m' ((c : Thread Cert.Reference4Ideal.nD Cert.Reference4Ideal.τ).loc Cert.Reference4Ideal.main_arg9)) = (Cert.Kernel4Ideal.Gen.dats m 0 c).arrAt 18 Cert.Kernel4Ideal.cfg0.N := by
  rw [a0, a1, a2, a3, a4, a5, a6, a7, a9]
  refine Eq.trans ?_ (Cert.Kernel4Ideal.Md.final18 m c).symm
  funext i
  obtain ⟨n, j, rfl⟩ : ∃ (n : Fin 16384) (j : Fin 256), i = ix2 n j := ⟨i 0, i 1, eq_ix2 i⟩
  exact Cert.Reference4Ideal.Md.out18 (Cert.Kernel4Ideal.Md.ka m c) n j

include a0 a1 a2 a3 a4 a5 a6 a7 a9 in
theorem result4_19 : Cert.Reference4Ideal.Read.val_main_v148 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) (m' ((c : Thread Cert.Reference4Ideal.nD Cert.Reference4Ideal.τ).loc Cert.Reference4Ideal.main_arg9)) = (Cert.Kernel4Ideal.Gen.dats m 0 c).arrAt 19 Cert.Kernel4Ideal.cfg0.N := by
  rw [a0, a1, a2, a3, a4, a5, a6, a7, a9]
  refine Eq.trans ?_ (Cert.Kernel4Ideal.Md.final19 m c).symm
  funext i
  obtain ⟨n, j, rfl⟩ : ∃ (n : Fin 16384) (j : Fin 128), i = ix2 n j := ⟨i 0, i 1, eq_ix2 i⟩
  exact Cert.Reference4Ideal.Md.out19 (Cert.Kernel4Ideal.Md.ka m c) n j

include a0 a1 a2 a3 a4 a5 a6 a7 in
theorem result4_20 : Cert.Reference4Ideal.Read.val_main_v151 (F := Ideal) (m' ((c : Thread Cert.Reference4Ideal.nD Cert.Reference4Ideal.τ).loc Cert.Reference4Ideal.main_arg0)) (m' ((c : Thread Cert.Reference4Ideal.nD Cert.Reference4Ideal.τ).loc Cert.Reference4Ideal.main_arg1)) (m' ((c : Thread Cert.Reference4Ideal.nD Cert.Reference4Ideal.τ).loc Cert.Reference4Ideal.main_arg2)) (m' ((c : Thread Cert.Reference4Ideal.nD Cert.Reference4Ideal.τ).loc Cert.Reference4Ideal.main_arg3)) (m' ((c : Thread Cert.Reference4Ideal.nD Cert.Reference4Ideal.τ).loc Cert.Reference4Ideal.main_arg4)) (m' ((c : Thread Cert.Reference4Ideal.nD Cert.Reference4Ideal.τ).loc Cert.Reference4Ideal.main_arg5)) (m' ((c : Thread Cert.Reference4Ideal.nD Cert.Reference4Ideal.τ).loc Cert.Reference4Ideal.main_arg6)) (m' ((c : Thread Cert.Reference4Ideal.nD Cert.Reference4Ideal.τ).loc Cert.Reference4Ideal.main_arg7)) = (Cert.Kernel4Ideal.Gen.dats m 0 c).arrAt 20 Cert.Kernel4Ideal.cfg0.N := by
  rw [a0, a1, a2, a3, a4, a5, a6, a7]
  refine Eq.trans ?_ (Cert.Kernel4Ideal.Md.final20 m c).symm
  funext i
  obtain ⟨n, j, rfl⟩ : ∃ (n : Fin 16384) (j : Fin 128), i = ix2 n j := ⟨i 0, i 1, eq_ix2 i⟩
  exact Cert.Reference4Ideal.Md.out20 (Cert.Kernel4Ideal.Md.ka m c) n j

end

set_option maxHeartbeats 4000000 in
theorem algebraic4 : Cert.algebraic_Kernel4Ideal_Reference4Ideal := by
  pair_intro
  · run_from Cert.Kernel4Ideal.Value.run_blocks m g
  · run_from Cert.Reference4Ideal.Value.run m' g'
    all_goals obtain ⟨a0, a1, a2, a3, a4, a5, a6, a7, a8, a9, a10, a11⟩ := hagree c
    · refine (Cert.Reference4Ideal.Read.val_main_v135_eq _ _ _ _ _).trans ?_
      rw [a1, a2]
      exact result4_14 m c
    · rw [Cert.Reference4Ideal.Read.val_main_v137_eq]
      rw [a1, a2]
      exact result4_15 m c
    · exact (Cert.Reference4Ideal.Read.val_main_v141_eq m' c).trans (result4_16 m m' c a0 a1 a2 a3 a4 a5 a6 a7 a8 a10 a11)
    · exact (Cert.Reference4Ideal.Read.val_main_v145_eq m' c).trans (result4_17 m m' c a0 a1 a2 a3 a4 a5 a6 a7 a8 a10)
    · exact (Cert.Reference4Ideal.Read.val_main_v147_eq m' c).trans (result4_18 m m' c a0 a1 a2 a3 a4 a5 a6 a7 a9)
    · exact (Cert.Reference4Ideal.Read.val_main_v148_eq m' c).trans (result4_19 m m' c a0 a1 a2 a3 a4 a5 a6 a7 a9)
    · exact (Cert.Reference4Ideal.Read.val_main_v151_eq m' c).trans (result4_20 m m' c a0 a1 a2 a3 a4 a5 a6 a7)

theorem claim : Cert.Claim := ⟨inferInstance, inferInstance, inferInstance, inferInstance, inferInstance, inferInstance, inferInstance, inferInstance, inferInstance, inferInstance, inferInstance, inferInstance, inferInstance, frame_kernel, frame_ideal, frame_ideal_finite,
  frame_ref, frame_ref_finite, frame_kernel2, frame_ideal2, frame_ref2, frame_kernel3, frame_ideal3, frame_ref3, frame_kernel4, frame_ideal4, frame_ref4, preserves, algebraic, preserves2, algebraic2, preserves3, algebraic3, preserves4, algebraic4⟩

end Cert.Proof

end
